-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2)
      ∧ r.2.mem ((c.tc : Thread Cert.Kernel11.nD Cert.Kernel11.τ).loc Cert.Kernel11.main_arg3) = m ((c.tc : Thread Cert.Kernel11.nD Cert.Kernel11.τ).loc Cert.Kernel11.main_arg3))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
      ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v137)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v137) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v106) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v4)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v4) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v30) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)) →
    ∃ (v0 : (c : Dev Cert.Kernel3Ideal.nD) → Buf (Elt Ideal) ((c.tc : Thread Cert.Kernel3Ideal.nD Cert.Kernel3Ideal.τ).loc Cert.Kernel3Ideal.main_v3)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v3) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v27) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v4)) (v1 : (c : Dev Cert.Kernel4Ideal.nD) → Buf (Elt Ideal) ((c.tc : Thread Cert.Kernel4Ideal.nD Cert.Kernel4Ideal.τ).loc Cert.Kernel4Ideal.main_v5)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v4) = v0 c
          ∧ r.2.mem ((c.tc : Thread Cert.Kernel4Ideal.nD Cert.Kernel4Ideal.τ).loc Cert.Kernel4Ideal.main_v5) = v1 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v2) = v0 c
          ∧ r.2.mem ((c.tc : Thread Cert.Reference4Ideal.nD Cert.Reference4Ideal.τ).loc Cert.Reference4Ideal.main_v3) = v1 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v6)) (v1 : (c : Dev Cert.Kernel5Ideal.nD) → Buf (Elt Ideal) ((c.tc : Thread Cert.Kernel5Ideal.nD Cert.Kernel5Ideal.τ).loc Cert.Kernel5Ideal.main_v9)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v6) = v0 c
          ∧ r.2.mem ((c.tc : Thread Cert.Kernel5Ideal.nD Cert.Kernel5Ideal.τ).loc Cert.Kernel5Ideal.main_v9) = v1 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v3) = v0 c
          ∧ r.2.mem ((c.tc : Thread Cert.Reference5Ideal.nD Cert.Reference5Ideal.τ).loc Cert.Reference5Ideal.main_v5) = v1 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)) →
    ∃ (v0 : (c : Dev Cert.Kernel6Ideal.nD) → Buf (Elt Ideal) ((c.tc : Thread Cert.Kernel6Ideal.nD Cert.Kernel6Ideal.τ).loc Cert.Kernel6Ideal.main_v5)) (v1 : (c : Dev Cert.Kernel6Ideal.nD) → Buf (Elt Ideal) ((c.tc : Thread Cert.Kernel6Ideal.nD Cert.Kernel6Ideal.τ).loc Cert.Kernel6Ideal.main_v9)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v5) = v0 c
          ∧ r.2.mem ((c.tc : Thread Cert.Kernel6Ideal.nD Cert.Kernel6Ideal.τ).loc Cert.Kernel6Ideal.main_v9) = v1 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v3) = v0 c
          ∧ r.2.mem ((c.tc : Thread Cert.Reference6Ideal.nD Cert.Reference6Ideal.τ).loc Cert.Reference6Ideal.main_v6) = v1 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v4)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v4) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v2) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v4)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v4) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v2) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v7)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v7) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v6) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)) →
    ∃ (v0 : (c : Dev Cert.Kernel10Ideal.nD) → Buf (Elt Ideal) ((c.tc : Thread Cert.Kernel10Ideal.nD Cert.Kernel10Ideal.τ).loc Cert.Kernel10Ideal.main_v6)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v6) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v8) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)
      ∧ m' ((c.tc : Thread Cert.Reference11Ideal.nD Cert.Reference11Ideal.τ).loc Cert.Reference11Ideal.main_arg3) = m ((c.tc : Thread Cert.Kernel11Ideal.nD Cert.Kernel11Ideal.τ).loc Cert.Kernel11Ideal.main_arg3)) →
    ∃ (v0 : (c : Dev Cert.Kernel11Ideal.nD) → Buf (Elt Ideal) ((c.tc : Thread Cert.Kernel11Ideal.nD Cert.Kernel11Ideal.τ).loc Cert.Kernel11Ideal.main_v15)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v15) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
          ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v78) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2)
          ∧ r.2.mem ((c.tc : Thread Cert.Reference11Ideal.nD Cert.Reference11Ideal.τ).loc Cert.Reference11Ideal.main_arg3) = m' ((c.tc : Thread Cert.Reference11Ideal.nD Cert.Reference11Ideal.τ).loc Cert.Reference11Ideal.main_arg3))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
-- ==== Pre_finite.lean ====
abbrev S4x4096x1024 : Shape := ⟨3, ![4, 4096, 1024]⟩
abbrev S4x4096x2048 : Shape := ⟨3, ![4, 4096, 2048]⟩
abbrev S32x16 : Shape := ⟨2, ![32, 16]⟩
abbrev S4x64 : Shape := ⟨2, ![4, 64]⟩
abbrev S128 : Shape := ⟨1, ![128]⟩
abbrev S_ : Shape := ⟨0, ![]⟩

class Facts : Prop where
  bcast_S_S4x4096x1024 : S_.BroadcastsInDim S4x4096x1024 (![] : Fin 0 → Fin S4x4096x1024.rank)
  reducesTo_S4x4096x1024_S_d0_1_2 : S4x4096x1024.ReducesTo [0, 1, 2] S_
  h_S_ : 0 < S_.numel
  bcast_S_S4x4096x2048 : S_.BroadcastsInDim S4x4096x2048 (![] : Fin 0 → Fin S4x4096x2048.rank)
  reducesTo_S4x4096x2048_S_d0_1_2 : S4x4096x2048.ReducesTo [0, 1, 2] S_
  bcast_S_S32x16 : S_.BroadcastsInDim S32x16 (![] : Fin 0 → Fin S32x16.rank)
  reducesTo_S32x16_S_d0_1 : S32x16.ReducesTo [0, 1] S_
  bcast_S_S4x64 : S_.BroadcastsInDim S4x64 (![] : Fin 0 → Fin S4x64.rank)
  reducesTo_S4x64_S_d0_1 : S4x64.ReducesTo [0, 1] S_

variable [Facts]

def fn_part1 {F : FTy → Type} [FloatOps F] (main_v13 : IVec S_ 1) (main_v16 : IVec S4x64 1) : IVec S_ 1 :=
  let main_c_5 : IVec S_ 1 := constantI S_ 1 1#1
  let main_v17 : IVec S_ 1 := (fun x v => Host.reduce IntOp.andi x v reducesTo_S4x64_S_d0_1 h_S_) main_v16 main_c_5
  let main_v18 : IVec S_ 1 := andi main_v13 main_v17
  main_v18

def fn {F : FTy → Type} [FloatOps F] (main_arg0 : FVec F S4x4096x1024 .f32) (main_arg1 : FVec F S4x4096x2048 .f32) (main_arg2 : FVec F S32x16 .f32) (main_arg3 : FVec F S4x64 .f32) (main_arg4 : FVec F S128 .f32) : IVec S_ 1 :=
  let main_v0 : FVec F S4x4096x1024 .f32 := Host.absf main_arg0
  let main_cst : FVec F S_ .f32 := constant S_ .f32 0x7F800000#32
  let main_v1 : FVec F S4x4096x1024 .f32 := broadcastInDim S4x4096x1024 ![] bcast_S_S4x4096x1024 main_cst
  let main_v2 : IVec S4x4096x1024 1 := cmpf .olt main_v0 main_v1
  let main_c : IVec S_ 1 := constantI S_ 1 1#1
  let main_v3 : IVec S_ 1 := (fun x v => Host.reduce IntOp.andi x v reducesTo_S4x4096x1024_S_d0_1_2 h_S_) main_v2 main_c
  let main_v4 : FVec F S4x4096x2048 .f32 := Host.absf main_arg1
  let main_cst_0 : FVec F S_ .f32 := constant S_ .f32 0x7F800000#32
  let main_v5 : FVec F S4x4096x2048 .f32 := broadcastInDim S4x4096x2048 ![] bcast_S_S4x4096x2048 main_cst_0
  let main_v6 : IVec S4x4096x2048 1 := cmpf .olt main_v4 main_v5
  let main_c_1 : IVec S_ 1 := constantI S_ 1 1#1
  let main_v7 : IVec S_ 1 := (fun x v => Host.reduce IntOp.andi x v reducesTo_S4x4096x2048_S_d0_1_2 h_S_) main_v6 main_c_1
  let main_v8 : IVec S_ 1 := andi main_v3 main_v7
  let main_v9 : FVec F S32x16 .f32 := Host.absf main_arg2
  let main_cst_2 : FVec F S_ .f32 := constant S_ .f32 0x7F800000#32
  let main_v10 : FVec F S32x16 .f32 := broadcastInDim S32x16 ![] bcast_S_S32x16 main_cst_2
  let main_v11 : IVec S32x16 1 := cmpf .olt main_v9 main_v10
  let main_c_3 : IVec S_ 1 := constantI S_ 1 1#1
  let main_v12 : IVec S_ 1 := (fun x v => Host.reduce IntOp.andi x v reducesTo_S32x16_S_d0_1 h_S_) main_v11 main_c_3
  let main_v13 : IVec S_ 1 := andi main_v8 main_v12
  let main_v14 : FVec F S4x64 .f32 := Host.absf main_arg3
  let main_cst_4 : FVec F S_ .f32 := constant S_ .f32 0x7F800000#32
  let main_v15 : FVec F S4x64 .f32 := broadcastInDim S4x64 ![] bcast_S_S4x64 main_cst_4
  let main_v16 : IVec S4x64 1 := cmpf .olt main_v14 main_v15
  fn_part1 (F := F) main_v13 main_v16
-- ==== Kernel.lean ====
abbrev S4x4096x1024 : Shape := ⟨3, ![4, 4096, 1024]⟩
abbrev S4x4096x2048 : Shape := ⟨3, ![4, 4096, 2048]⟩
abbrev S32x16 : Shape := ⟨2, ![32, 16]⟩
abbrev S4x64 : Shape := ⟨2, ![4, 64]⟩
abbrev S128 : Shape := ⟨1, ![128]⟩
abbrev S_ : Shape := ⟨0, ![]⟩
abbrev S512 : Shape := ⟨1, ![512]⟩
abbrev S512x1 : Shape := ⟨2, ![512, 1]⟩
abbrev S1x512 : Shape := ⟨2, ![1, 512]⟩
abbrev S1024 : Shape := ⟨1, ![1024]⟩
abbrev S1024x1 : Shape := ⟨2, ![1024, 1]⟩
abbrev S1024x16 : Shape := ⟨2, ![1024, 16]⟩
abbrev S1x16 : Shape := ⟨2, ![1, 16]⟩
abbrev S16 : Shape := ⟨1, ![16]⟩
abbrev S16x1024 : Shape := ⟨2, ![16, 1024]⟩
abbrev S1x16x1x1024 : Shape := ⟨4, ![1, 16, 1, 1024]⟩
abbrev S1x16x512x1024 : Shape := ⟨4, ![1, 16, 512, 1024]⟩
abbrev S16x524288 : Shape := ⟨2, ![16, 524288]⟩
abbrev S16x523776 : Shape := ⟨2, ![16, 523776]⟩
abbrev S16x512x1023 : Shape := ⟨3, ![16, 512, 1023]⟩
abbrev S16x512x512 : Shape := ⟨3, ![16, 512, 512]⟩
abbrev S512x512 : Shape := ⟨2, ![512, 512]⟩
abbrev S1x512x512 : Shape := ⟨3, ![1, 512, 512]⟩
abbrev S1x16x512x512 : Shape := ⟨4, ![1, 16, 512, 512]⟩
abbrev S2x16x512x512 : Shape := ⟨4, ![2, 16, 512, 512]⟩
abbrev S2x8x2x512x512 : Shape := ⟨5, ![2, 8, 2, 512, 512]⟩
abbrev S2x8x512x2x512 : Shape := ⟨5, ![2, 8, 512, 2, 512]⟩
abbrev S2x8x512x1024 : Shape := ⟨4, ![2, 8, 512, 1024]⟩
abbrev S128x1 : Shape := ⟨2, ![128, 1]⟩
abbrev S1x512x128 : Shape := ⟨3, ![1, 512, 128]⟩
abbrev S1x4096x128 : Shape := ⟨3, ![1, 4096, 128]⟩
abbrev S2x1x512x1024 : Shape := ⟨4, ![2, 1, 512, 1024]⟩
abbrev S512x128 : Shape := ⟨2, ![512, 128]⟩
abbrev S1024x128 : Shape := ⟨2, ![1024, 128]⟩
abbrev S1x1024 : Shape := ⟨2, ![1, 1024]⟩
abbrev S128x1024 : Shape := ⟨2, ![128, 1024]⟩
abbrev S512x1024 : Shape := ⟨2, ![512, 1024]⟩
abbrev S1x1x512x1024 : Shape := ⟨4, ![1, 1, 512, 1024]⟩
abbrev S128x512 : Shape := ⟨2, ![128, 512]⟩
abbrev S1x64 : Shape := ⟨2, ![1, 64]⟩
abbrev S1 : Shape := ⟨1, ![1]⟩
abbrev S1x1 : Shape := ⟨2, ![1, 1]⟩

abbrev nBuf : Space → Nat
  | .hbm => 187
  | .vmem => 12
  | .smem => 0
  | _ => 0

abbrev hbmTy0_0 (i : Nat) : BufTy := match i % 128 with
  | 0 => ⟨S4x4096x1024, .f32⟩
  | 1 => ⟨S4x4096x2048, .f32⟩
  | 2 => ⟨S32x16, .f32⟩
  | 3 => ⟨S4x64, .f32⟩
  | 4 => ⟨S128, .f32⟩
  | 5 => ⟨S_, .f32⟩
  | 6 => ⟨S_, .f32⟩
  | 7 => ⟨S_, .f32⟩
  | 8 => ⟨S_, .f32⟩
  | 9 => ⟨S_, .f32⟩
  | 10 => ⟨S_, .f32⟩
  | 11 => ⟨S512, .i32⟩
  | 12 => ⟨S512x1, .i32⟩
  | 13 => ⟨S512, .i32⟩
  | 14 => ⟨S1x512, .i32⟩
  | 15 => ⟨S1024, .i32⟩
  | 16 => ⟨S_, .i32⟩
  | 17 => ⟨S1024, .i32⟩
  | 18 => ⟨S1024, .i1⟩
  | 19 => ⟨S_, .i32⟩
  | 20 => ⟨S1024, .i32⟩
  | 21 => ⟨S1024, .i32⟩
  | 22 => ⟨S_, .i32⟩
  | 23 => ⟨S1024, .i32⟩
  | 24 => ⟨S1024, .i32⟩
  | 25 => ⟨S1024, .i32⟩
  | 26 => ⟨S1024, .i32⟩
  | 27 => ⟨S_, .i32⟩
  | 28 => ⟨S1024, .i32⟩
  | 29 => ⟨S1024, .i32⟩
  | 30 => ⟨S_, .i32⟩
  | 31 => ⟨S1024, .i32⟩
  | 32 => ⟨S1024, .i32⟩
  | 33 => ⟨S_, .i32⟩
  | 34 => ⟨S1024, .i32⟩
  | 35 => ⟨S1024, .i32⟩
  | 36 => ⟨S1024, .f32⟩
  | 37 => ⟨S_, .f32⟩
  | 38 => ⟨S1024, .f32⟩
  | 39 => ⟨S1024, .f32⟩
  | 40 => ⟨S1024, .f32⟩
  | 41 => ⟨S_, .f32⟩
  | 42 => ⟨S1024, .f32⟩
  | 43 => ⟨S1024, .f32⟩
  | 44 => ⟨S_, .f32⟩
  | 45 => ⟨S1024, .f32⟩
  | 46 => ⟨S1024, .f32⟩
  | 47 => ⟨S1024, .i32⟩
  | 48 => ⟨S_, .i32⟩
  | 49 => ⟨S1024, .i32⟩
  | 50 => ⟨S1024, .i32⟩
  | 51 => ⟨S_, .i32⟩
  | 52 => ⟨S1024, .i32⟩
  | 53 => ⟨S1024, .i1⟩
  | 54 => ⟨S_, .i32⟩
  | 55 => ⟨S1024, .i32⟩
  | 56 => ⟨S1024, .i32⟩
  | 57 => ⟨S1024, .i32⟩
  | 58 => ⟨S_, .i32⟩
  | 59 => ⟨S1024, .i32⟩
  | 60 => ⟨S1024, .i1⟩
  | 61 => ⟨S_, .i32⟩
  | 62 => ⟨S1024, .i32⟩
  | 63 => ⟨S1024, .i32⟩
  | 64 => ⟨S1024, .i32⟩
  | 65 => ⟨S1024x1, .i32⟩
  | 66 => ⟨S1024x16, .f32⟩
  | 67 => ⟨S1x16, .f32⟩
  | 68 => ⟨S16, .f32⟩
  | 69 => ⟨S1x16, .f32⟩
  | 70 => ⟨S1024x16, .f32⟩
  | 71 => ⟨S1024x16, .f32⟩
  | 72 => ⟨S_, .f32⟩
  | 73 => ⟨S_, .f32⟩
  | 74 => ⟨S_, .f32⟩
  | 75 => ⟨S_, .f32⟩
  | 76 => ⟨S1024x16, .f32⟩
  | 77 => ⟨S1024x16, .f32⟩
  | 78 => ⟨S16x1024, .f32⟩
  | 79 => ⟨S1x16x1x1024, .f32⟩
  | 80 => ⟨S1x16x512x1024, .f32⟩
  | 81 => ⟨S16x524288, .f32⟩
  | 82 => ⟨S16x523776, .f32⟩
  | 83 => ⟨S16x512x1023, .f32⟩
  | 84 => ⟨S16x512x512, .f32⟩
  | 85 => ⟨S512x512, .i32⟩
  | 86 => ⟨S512x512, .i32⟩
  | 87 => ⟨S512x512, .i1⟩
  | 88 => ⟨S1x512x512, .i1⟩
  | 89 => ⟨S1024, .i32⟩
  | 90 => ⟨S_, .i32⟩
  | 91 => ⟨S1024, .i32⟩
  | 92 => ⟨S1024, .i1⟩
  | 93 => ⟨S_, .i32⟩
  | 94 => ⟨S1024, .i32⟩
  | 95 => ⟨S1024, .i32⟩
  | 96 => ⟨S_, .i32⟩
  | 97 => ⟨S1024, .i32⟩
  | 98 => ⟨S1024, .i32⟩
  | 99 => ⟨S1024, .i32⟩
  | 100 => ⟨S1024, .i32⟩
  | 101 => ⟨S_, .i32⟩
  | 102 => ⟨S1024, .i32⟩
  | 103 => ⟨S1024, .i32⟩
  | 104 => ⟨S_, .i32⟩
  | 105 => ⟨S1024, .i32⟩
  | 106 => ⟨S1024, .i32⟩
  | 107 => ⟨S_, .i32⟩
  | 108 => ⟨S1024, .i32⟩
  | 109 => ⟨S1024, .i32⟩
  | 110 => ⟨S1024, .f32⟩
  | 111 => ⟨S_, .f32⟩
  | 112 => ⟨S1024, .f32⟩
  | 113 => ⟨S1024, .f32⟩
  | 114 => ⟨S1024, .f32⟩
  | 115 => ⟨S_, .f32⟩
  | 116 => ⟨S1024, .f32⟩
  | 117 => ⟨S1024, .f32⟩
  | 118 => ⟨S_, .f32⟩
  | 119 => ⟨S1024, .f32⟩
  | 120 => ⟨S1024, .f32⟩
  | 121 => ⟨S1024, .i32⟩
  | 122 => ⟨S_, .i32⟩
  | 123 => ⟨S1024, .i32⟩
  | 124 => ⟨S1024, .i32⟩
  | 125 => ⟨S_, .i32⟩
  | 126 => ⟨S1024, .i32⟩
  | 127 => ⟨S1024, .i1⟩
  | _ => ⟨S4x4096x1024, .f32⟩

abbrev hbmTy0_1 (i : Nat) : BufTy := match i % 128 with
  | 0 => ⟨S_, .i32⟩
  | 1 => ⟨S1024, .i32⟩
  | 2 => ⟨S1024, .i32⟩
  | 3 => ⟨S1024, .i32⟩
  | 4 => ⟨S_, .i32⟩
  | 5 => ⟨S1024, .i32⟩
  | 6 => ⟨S1024, .i1⟩
  | 7 => ⟨S_, .i32⟩
  | 8 => ⟨S1024, .i32⟩
  | 9 => ⟨S1024, .i32⟩
  | 10 => ⟨S1024, .i32⟩
  | 11 => ⟨S1024x1, .i32⟩
  | 12 => ⟨S1024x16, .f32⟩
  | 13 => ⟨S1x16, .f32⟩
  | 14 => ⟨S16, .f32⟩
  | 15 => ⟨S1x16, .f32⟩
  | 16 => ⟨S1024x16, .f32⟩
  | 17 => ⟨S1024x16, .f32⟩
  | 18 => ⟨S_, .f32⟩
  | 19 => ⟨S_, .f32⟩
  | 20 => ⟨S_, .f32⟩
  | 21 => ⟨S_, .f32⟩
  | 22 => ⟨S1024x16, .f32⟩
  | 23 => ⟨S1024x16, .f32⟩
  | 24 => ⟨S16x1024, .f32⟩
  | 25 => ⟨S1x16x1x1024, .f32⟩
  | 26 => ⟨S1x16x512x1024, .f32⟩
  | 27 => ⟨S16x524288, .f32⟩
  | 28 => ⟨S16x523776, .f32⟩
  | 29 => ⟨S16x512x1023, .f32⟩
  | 30 => ⟨S16x512x512, .f32⟩
  | 31 => ⟨S_, .f32⟩
  | 32 => ⟨S_, .f32⟩
  | 33 => ⟨S16x512x512, .i1⟩
  | 34 => ⟨S16x512x512, .f32⟩
  | 35 => ⟨S16x512x512, .f32⟩
  | 36 => ⟨S512x512, .i32⟩
  | 37 => ⟨S512x512, .i32⟩
  | 38 => ⟨S512x512, .i1⟩
  | 39 => ⟨S1x512x512, .i1⟩
  | 40 => ⟨S_, .f32⟩
  | 41 => ⟨S16x512x512, .f32⟩
  | 42 => ⟨S_, .f32⟩
  | 43 => ⟨S_, .f32⟩
  | 44 => ⟨S16x512x512, .i1⟩
  | 45 => ⟨S16x512x512, .f32⟩
  | 46 => ⟨S16x512x512, .f32⟩
  | 47 => ⟨S1x16x512x512, .f32⟩
  | 48 => ⟨S1x16x512x512, .f32⟩
  | 49 => ⟨S2x16x512x512, .f32⟩
  | 50 => ⟨S2x8x2x512x512, .f32⟩
  | 51 => ⟨S2x8x512x2x512, .f32⟩
  | 52 => ⟨S2x8x512x1024, .f32⟩
  | 53 => ⟨S4x4096x1024, .f32⟩
  | 54 => ⟨S4x4096x1024, .f32⟩
  | 55 => ⟨S4x4096x1024, .bf16⟩
  | 56 => ⟨S4x4096x2048, .bf16⟩
  | 57 => ⟨S128x1, .f32⟩
  | 58 => ⟨S4x4096x1024, .bf16⟩
  | _ => ⟨S4x4096x1024, .f32⟩

abbrev hbmTy (i : Nat) : BufTy := match i / 128 with
  | 0 => hbmTy0_0 i
  | 1 => hbmTy0_1 i
  | _ => ⟨S4x4096x1024, .f32⟩

abbrev bufTy : (tb : Table) → Fin (tcTables nBuf tb) → BufTy
  | .hbm, ⟨i, _⟩ => hbmTy i
  | .local _ .vmem, ⟨0, _⟩ => ⟨S1x512x128, .bf16⟩
  | .local _ .vmem, ⟨1, _⟩ => ⟨S1x512x128, .bf16⟩
  | .local _ .vmem, ⟨2, _⟩ => ⟨S1x4096x128, .bf16⟩
  | .local _ .vmem, ⟨3, _⟩ => ⟨S1x4096x128, .bf16⟩
  | .local _ .vmem, ⟨4, _⟩ => ⟨S1x4096x128, .bf16⟩
  | .local _ .vmem, ⟨5, _⟩ => ⟨S1x4096x128, .bf16⟩
  | .local _ .vmem, ⟨6, _⟩ => ⟨S2x1x512x1024, .f32⟩
  | .local _ .vmem, ⟨7, _⟩ => ⟨S2x1x512x1024, .f32⟩
  | .local _ .vmem, ⟨8, _⟩ => ⟨S4x64, .f32⟩
  | .local _ .vmem, ⟨9, _⟩ => ⟨S128x1, .f32⟩
  | .local _ .vmem, ⟨10, _⟩ => ⟨S1x512x128, .bf16⟩
  | .local _ .vmem, ⟨11, _⟩ => ⟨S1x512x128, .bf16⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_cst_1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_c : Ref sig .tc := ⟨.hbm, 16, rfl⟩
abbrev main_v8 : Ref sig .tc := ⟨.hbm, 17, rfl⟩
abbrev main_v9 : Ref sig .tc := ⟨.hbm, 18, rfl⟩
abbrev main_c_2 : Ref sig .tc := ⟨.hbm, 19, rfl⟩
abbrev main_v10 : Ref sig .tc := ⟨.hbm, 20, rfl⟩
abbrev main_v11 : Ref sig .tc := ⟨.hbm, 21, rfl⟩
abbrev main_c_3 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_c_4 : Ref sig .tc := ⟨.hbm, 27, rfl⟩
abbrev main_v16 : Ref sig .tc := ⟨.hbm, 28, rfl⟩
abbrev main_v17 : Ref sig .tc := ⟨.hbm, 29, rfl⟩
abbrev main_c_5 : Ref sig .tc := ⟨.hbm, 30, rfl⟩
abbrev main_v18 : Ref sig .tc := ⟨.hbm, 31, rfl⟩
abbrev main_v19 : Ref sig .tc := ⟨.hbm, 32, rfl⟩
abbrev main_c_6 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_cst_7 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_cst_8 : Ref sig .tc := ⟨.hbm, 41, rfl⟩
abbrev main_v26 : Ref sig .tc := ⟨.hbm, 42, rfl⟩
abbrev main_v27 : Ref sig .tc := ⟨.hbm, 43, rfl⟩
abbrev main_cst_9 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_c_10 : Ref sig .tc := ⟨.hbm, 48, rfl⟩
abbrev main_v31 : Ref sig .tc := ⟨.hbm, 49, rfl⟩
abbrev main_v32 : Ref sig .tc := ⟨.hbm, 50, rfl⟩
abbrev main_c_11 : Ref sig .tc := ⟨.hbm, 51, rfl⟩
abbrev main_v33 : Ref sig .tc := ⟨.hbm, 52, rfl⟩
abbrev main_v34 : Ref sig .tc := ⟨.hbm, 53, rfl⟩
abbrev main_c_12 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_c_13 : Ref sig .tc := ⟨.hbm, 58, rfl⟩
abbrev main_v38 : Ref sig .tc := ⟨.hbm, 59, rfl⟩
abbrev main_v39 : Ref sig .tc := ⟨.hbm, 60, rfl⟩
abbrev main_c_14 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_cst_15 : Ref sig .tc := ⟨.hbm, 72, rfl⟩
abbrev main_v50 : Ref sig .tc := ⟨.hbm, 73, rfl⟩
abbrev main_cst_16 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_c_17 : Ref sig .tc := ⟨.hbm, 90, rfl⟩
abbrev main_v66 : Ref sig .tc := ⟨.hbm, 91, rfl⟩
abbrev main_v67 : Ref sig .tc := ⟨.hbm, 92, rfl⟩
abbrev main_c_18 : Ref sig .tc := ⟨.hbm, 93, rfl⟩
abbrev main_v68 : Ref sig .tc := ⟨.hbm, 94, rfl⟩
abbrev main_v69 : Ref sig .tc := ⟨.hbm, 95, rfl⟩
abbrev main_c_19 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_c_20 : Ref sig .tc := ⟨.hbm, 101, rfl⟩
abbrev main_v74 : Ref sig .tc := ⟨.hbm, 102, rfl⟩
abbrev main_v75 : Ref sig .tc := ⟨.hbm, 103, rfl⟩
abbrev main_c_21 : Ref sig .tc := ⟨.hbm, 104, rfl⟩
abbrev main_v76 : Ref sig .tc := ⟨.hbm, 105, rfl⟩
abbrev main_v77 : Ref sig .tc := ⟨.hbm, 106, rfl⟩
abbrev main_c_22 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_cst_23 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_cst_24 : Ref sig .tc := ⟨.hbm, 115, rfl⟩
abbrev main_v84 : Ref sig .tc := ⟨.hbm, 116, rfl⟩
abbrev main_v85 : Ref sig .tc := ⟨.hbm, 117, rfl⟩
abbrev main_cst_25 : Ref sig .tc := ⟨.hbm, 118, rfl⟩
abbrev main_v86 : Ref sig .tc := ⟨.hbm, 119, rfl⟩
abbrev main_v87 : Ref sig .tc := ⟨.hbm, 120, rfl⟩
abbrev main_v88 : Ref sig .tc := ⟨.hbm, 121, rfl⟩
abbrev main_c_26 : Ref sig .tc := ⟨.hbm, 122, rfl⟩
abbrev main_v89 : Ref sig .tc := ⟨.hbm, 123, rfl⟩
abbrev main_v90 : Ref sig .tc := ⟨.hbm, 124, rfl⟩
abbrev main_c_27 : Ref sig .tc := ⟨.hbm, 125, rfl⟩
abbrev main_v91 : Ref sig .tc := ⟨.hbm, 126, rfl⟩
abbrev main_v92 : Ref sig .tc := ⟨.hbm, 127, rfl⟩
abbrev main_c_28 : Ref sig .tc := ⟨.hbm, 128, rfl⟩
abbrev main_v93 : Ref sig .tc := ⟨.hbm, 129, rfl⟩
abbrev main_v94 : Ref sig .tc := ⟨.hbm, 130, rfl⟩
abbrev main_v95 : Ref sig .tc := ⟨.hbm, 131, rfl⟩
abbrev main_c_29 : Ref sig .tc := ⟨.hbm, 132, rfl⟩
abbrev main_v96 : Ref sig .tc := ⟨.hbm, 133, rfl⟩
abbrev main_v97 : Ref sig .tc := ⟨.hbm, 134, rfl⟩
abbrev main_c_30 : Ref sig .tc := ⟨.hbm, 135, rfl⟩
abbrev main_v98 : Ref sig .tc := ⟨.hbm, 136, rfl⟩
abbrev main_v99 : Ref sig .tc := ⟨.hbm, 137, rfl⟩
abbrev main_v100 : Ref sig .tc := ⟨.hbm, 138, rfl⟩
abbrev main_v101 : Ref sig .tc := ⟨.hbm, 139, rfl⟩
abbrev main_v102 : Ref sig .tc := ⟨.hbm, 140, rfl⟩
abbrev main_v103 : Ref sig .tc := ⟨.hbm, 141, rfl⟩
abbrev main_v104 : Ref sig .tc := ⟨.hbm, 142, rfl⟩
abbrev main_v105 : Ref sig .tc := ⟨.hbm, 143, rfl⟩
abbrev main_v106 : Ref sig .tc := ⟨.hbm, 144, rfl⟩
abbrev main_v107 : Ref sig .tc := ⟨.hbm, 145, rfl⟩
abbrev main_cst_31 : Ref sig .tc := ⟨.hbm, 146, rfl⟩
abbrev main_v108 : Ref sig .tc := ⟨.hbm, 147, rfl⟩
abbrev main_cst_32 : Ref sig .tc := ⟨.hbm, 148, rfl⟩
abbrev main_v109 : Ref sig .tc := ⟨.hbm, 149, rfl⟩
abbrev main_v110 : Ref sig .tc := ⟨.hbm, 150, rfl⟩
abbrev main_v111 : Ref sig .tc := ⟨.hbm, 151, rfl⟩
abbrev main_v112 : Ref sig .tc := ⟨.hbm, 152, rfl⟩
abbrev main_v113 : Ref sig .tc := ⟨.hbm, 153, rfl⟩
abbrev main_v114 : Ref sig .tc := ⟨.hbm, 154, rfl⟩
abbrev main_v115 : Ref sig .tc := ⟨.hbm, 155, rfl⟩
abbrev main_v116 : Ref sig .tc := ⟨.hbm, 156, rfl⟩
abbrev main_v117 : Ref sig .tc := ⟨.hbm, 157, rfl⟩
abbrev main_v118 : Ref sig .tc := ⟨.hbm, 158, rfl⟩
abbrev main_cst_33 : Ref sig .tc := ⟨.hbm, 159, rfl⟩
abbrev main_call4_v0 : Ref sig .tc := ⟨.hbm, 160, rfl⟩
abbrev main_call4_v1 : Ref sig .tc := ⟨.hbm, 161, rfl⟩
abbrev main_call4_v2 : Ref sig .tc := ⟨.hbm, 162, rfl⟩
abbrev main_v119 : Ref sig .tc := ⟨.hbm, 163, rfl⟩
abbrev main_v120 : Ref sig .tc := ⟨.hbm, 164, rfl⟩
abbrev main_v121 : Ref sig .tc := ⟨.hbm, 165, rfl⟩
abbrev main_v122 : Ref sig .tc := ⟨.hbm, 166, rfl⟩
abbrev main_v123 : Ref sig .tc := ⟨.hbm, 167, rfl⟩
abbrev main_cst_34 : Ref sig .tc := ⟨.hbm, 168, rfl⟩
abbrev main_v124 : Ref sig .tc := ⟨.hbm, 169, rfl⟩
abbrev main_cst_35 : Ref sig .tc := ⟨.hbm, 170, rfl⟩
abbrev main_call5_v0 : Ref sig .tc := ⟨.hbm, 171, rfl⟩
abbrev main_call5_v1 : Ref sig .tc := ⟨.hbm, 172, rfl⟩
abbrev main_call5_v2 : Ref sig .tc := ⟨.hbm, 173, rfl⟩
abbrev main_v125 : Ref sig .tc := ⟨.hbm, 174, rfl⟩
abbrev main_v126 : Ref sig .tc := ⟨.hbm, 175, rfl⟩
abbrev main_v127 : Ref sig .tc := ⟨.hbm, 176, rfl⟩
abbrev main_v128 : Ref sig .tc := ⟨.hbm, 177, rfl⟩
abbrev main_v129 : Ref sig .tc := ⟨.hbm, 178, rfl⟩
abbrev main_v130 : Ref sig .tc := ⟨.hbm, 179, rfl⟩
abbrev main_v131 : Ref sig .tc := ⟨.hbm, 180, rfl⟩
abbrev main_v132 : Ref sig .tc := ⟨.hbm, 181, rfl⟩
abbrev main_v133 : Ref sig .tc := ⟨.hbm, 182, rfl⟩
abbrev main_v134 : Ref sig .tc := ⟨.hbm, 183, rfl⟩
abbrev main_v135 : Ref sig .tc := ⟨.hbm, 184, rfl⟩
abbrev main_v136 : Ref sig .tc := ⟨.hbm, 185, rfl⟩
abbrev main_v137 : Ref sig .tc := ⟨.hbm, 186, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨3, ![4, 8, 8], ![false, false, false]⟩

@[reducible] def k0_t1_loop (i : grid0.Coords) : Scf.Loop 32 :=
  let c0_i32_6 : BitVec 32 := 0#32
  let arg2 : BitVec 32 := BitVec.ofNat 32 (i 2).val
  let c1_i32 : BitVec 32 := 1#32
  let v14 : BitVec 32 := Scalar.subi arg2 c1_i32
  let c0_i32 : BitVec 32 := 0#32
  let v15 : BitVec 32 := Scalar.maxsi v14 c0_i32
  let v16 : BitVec 32 := Scalar.subi v15 c0_i32_6
  let c1_i32_7 : BitVec 32 := 1#32
  let v18 : BitVec 32 := Scalar.divsi v16 c1_i32_7
  let v19 : BitVec 32 := Scalar.muli v18 c1_i32_7
  let v20 : BitVec 32 := Scalar.addi c0_i32_6 v19
  let c1_i32_8 : BitVec 32 := 1#32
  ⟨c0_i32_6, v20, c1_i32_8⟩
def k0_mult1 (i : grid0.Coords) (k0_t1 : Fin (k0_t1_loop i).trips) : BitVec 32 :=
  let c0_i32_6 : BitVec 32 := 0#32
  let c1_i32_8 : BitVec 32 := 1#32
  let arg10 : BitVec 32 := Scf.iv c0_i32_6 c1_i32_8 k0_t1
  let c512_i32_38 : BitVec 32 := 512#32
  let v102 : BitVec 32 := Scalar.muli arg10 c512_i32_38
  v102
def k0_off1 (i : grid0.Coords) (k0_t1 : Fin (k0_t1_loop i).trips) : Fin 3 → Nat :=
  let c0_39 : Index := 0#32
  let c0_i32_6 : BitVec 32 := 0#32
  let c1_i32_8 : BitVec 32 := 1#32
  let arg10 : BitVec 32 := Scf.iv c0_i32_6 c1_i32_8 k0_t1
  let c512_i32_38 : BitVec 32 := 512#32
  let v102 : BitVec 32 := Scalar.muli arg10 c512_i32_38
  let v103 : BitVec 32 := v102
  let v104 : Index := Scalar.indexCast v103
  let c0_40 : Index := 0#32
  ![0, v104.toNat, 0]
@[reducible] def k0_t2_loop (i : grid0.Coords) : Scf.Loop 32 :=
  let c0_i32_6 : BitVec 32 := 0#32
  let arg2 : BitVec 32 := BitVec.ofNat 32 (i 2).val
  let c1_i32 : BitVec 32 := 1#32
  let v14 : BitVec 32 := Scalar.subi arg2 c1_i32
  let c0_i32 : BitVec 32 := 0#32
  let v15 : BitVec 32 := Scalar.maxsi v14 c0_i32
  let v16 : BitVec 32 := Scalar.subi v15 c0_i32_6
  let c1_i32_7 : BitVec 32 := 1#32
  let v18 : BitVec 32 := Scalar.divsi v16 c1_i32_7
  let v19 : BitVec 32 := Scalar.muli v18 c1_i32_7
  let v20 : BitVec 32 := Scalar.addi c0_i32_6 v19
  let v17 : BitVec 32 := Scalar.addi c0_i32_6 v16
  let c1_i32_9 : BitVec 32 := 1#32
  ⟨v20, v17, c1_i32_9⟩
def k0_mult2 (i : grid0.Coords) (k0_t2 : Fin (k0_t2_loop i).trips) : BitVec 32 :=
  let c0_i32_6 : BitVec 32 := 0#32
  let arg2 : BitVec 32 := BitVec.ofNat 32 (i 2).val
  let c1_i32 : BitVec 32 := 1#32
  let v14 : BitVec 32 := Scalar.subi arg2 c1_i32
  let c0_i32 : BitVec 32 := 0#32
  let v15 : BitVec 32 := Scalar.maxsi v14 c0_i32
  let v16 : BitVec 32 := Scalar.subi v15 c0_i32_6
  let c1_i32_7 : BitVec 32 := 1#32
  let v18 : BitVec 32 := Scalar.divsi v16 c1_i32_7
  let v19 : BitVec 32 := Scalar.muli v18 c1_i32_7
  let v20 : BitVec 32 := Scalar.addi c0_i32_6 v19
  let c1_i32_9 : BitVec 32 := 1#32
  let arg10 : BitVec 32 := Scf.iv v20 c1_i32_9 k0_t2
  let c512_i32_38 : BitVec 32 := 512#32
  let v102 : BitVec 32 := Scalar.muli arg10 c512_i32_38
  v102
def k0_off2 (i : grid0.Coords) (k0_t2 : Fin (k0_t2_loop i).trips) : Fin 3 → Nat :=
  let c0_39 : Index := 0#32
  let c0_i32_6 : BitVec 32 := 0#32
  let arg2 : BitVec 32 := BitVec.ofNat 32 (i 2).val
  let c1_i32 : BitVec 32 := 1#32
  let v14 : BitVec 32 := Scalar.subi arg2 c1_i32
  let c0_i32 : BitVec 32 := 0#32
  let v15 : BitVec 32 := Scalar.maxsi v14 c0_i32
  let v16 : BitVec 32 := Scalar.subi v15 c0_i32_6
  let c1_i32_7 : BitVec 32 := 1#32
  let v18 : BitVec 32 := Scalar.divsi v16 c1_i32_7
  let v19 : BitVec 32 := Scalar.muli v18 c1_i32_7
  let v20 : BitVec 32 := Scalar.addi c0_i32_6 v19
  let c1_i32_9 : BitVec 32 := 1#32
  let arg10 : BitVec 32 := Scf.iv v20 c1_i32_9 k0_t2
  let c512_i32_38 : BitVec 32 := 512#32
  let v102 : BitVec 32 := Scalar.muli arg10 c512_i32_38
  let v103 : BitVec 32 := v102
  let v104 : Index := Scalar.indexCast v103
  let c0_40 : Index := 0#32
  ![0, v104.toNat, 0]
def k0_cond1 (i : grid0.Coords) : BitVec 1 :=
  let arg2 : BitVec 32 := BitVec.ofNat 32 (i 2).val
  let c1_i32_10 : BitVec 32 := 1#32
  let v23 : BitVec 1 := Scalar.cmpi .sge arg2 c1_i32_10
  let v24 : BitVec 32 := Scalar.extui v23
  let c0_i32_11 : BitVec 32 := 0#32
  let v25 : BitVec 1 := Scalar.cmpi .ne v24 c0_i32_11
  v25

def k0_mult3 (i : grid0.Coords) : BitVec 32 :=
  let arg2 : BitVec 32 := BitVec.ofNat 32 (i 2).val
  let c1_i32_38 : BitVec 32 := 1#32
  let v102 : BitVec 32 := Scalar.subi arg2 c1_i32_38
  let c512_i32_39 : BitVec 32 := 512#32
  let v103 : BitVec 32 := Scalar.muli v102 c512_i32_39
  v103
def k0_off3 (i : grid0.Coords) : Fin 3 → Nat :=
  let c0_40 : Index := 0#32
  let arg2 : BitVec 32 := BitVec.ofNat 32 (i 2).val
  let c1_i32_38 : BitVec 32 := 1#32
  let v102 : BitVec 32 := Scalar.subi arg2 c1_i32_38
  let c512_i32_39 : BitVec 32 := 512#32
  let v103 : BitVec 32 := Scalar.muli v102 c512_i32_39
  let v104 : BitVec 32 := v103
  let v105 : Index := Scalar.indexCast v104
  let c0_41 : Index := 0#32
  ![0, v105.toNat, 0]
def k0_mult4 (i : grid0.Coords) : BitVec 32 :=
  let arg2 : BitVec 32 := BitVec.ofNat 32 (i 2).val
  let c512_i32 : BitVec 32 := 512#32
  let v27 : BitVec 32 := Scalar.muli arg2 c512_i32
  v27
def k0_off4 (i : grid0.Coords) : Fin 3 → Nat :=
  let c0_12 : Index := 0#32
  let arg2 : BitVec 32 := BitVec.ofNat 32 (i 2).val
  let c512_i32 : BitVec 32 := 512#32
  let v27 : BitVec 32 := Scalar.muli arg2 c512_i32
  let v28 : BitVec 32 := v27
  let v29 : Index := Scalar.indexCast v28
  let c0_13 : Index := 0#32
  ![0, v29.toNat, 0]
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.addi c8_i32 arg1
  let c0_i32 : BitVec 32 := 0#32
  let c0_i32_0 : BitVec 32 := 0#32
  ![arg0.toNat, c0_i32.toNat, v0.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![c0_i32.toNat, arg1.toNat, c0_i32_0.toNat, c0_i32_1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x512x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x4096x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x4096x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S2x1x512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, false]

abbrev stage0_4 : Fin 1 → Memref sig .tc .vmem S4x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 1 → Memref sig .tc .vmem S128x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false, false]

abbrev stage0_6 : Fin 2 → Memref sig .tc .vmem S1x512x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]
-- ==== KernelIdeal.lean ====
variable {F : FTy → Type} [FloatOps F] [Named F]
def κ : String → Option EReal := fun
  | "mask" => some ⊥
  | _ => none
-- ==== ReferenceIdeal.lean ====
abbrev S4x4096x1024 : Shape := ⟨3, ![4, 4096, 1024]⟩
abbrev S4x4096x2048 : Shape := ⟨3, ![4, 4096, 2048]⟩
abbrev S32x16 : Shape := ⟨2, ![32, 16]⟩
abbrev S4x64 : Shape := ⟨2, ![4, 64]⟩
abbrev S128 : Shape := ⟨1, ![128]⟩
abbrev S4x4096x8x2x64 : Shape := ⟨5, ![4, 4096, 8, 2, 64]⟩
abbrev S4x4096x2x8x128 : Shape := ⟨5, ![4, 4096, 2, 8, 128]⟩
abbrev S4x4096x1x8x128 : Shape := ⟨5, ![4, 4096, 1, 8, 128]⟩
abbrev S4x4096x8x128 : Shape := ⟨4, ![4, 4096, 8, 128]⟩
abbrev S1x64 : Shape := ⟨2, ![1, 64]⟩
abbrev S64 : Shape := ⟨1, ![64]⟩
abbrev S_ : Shape := ⟨0, ![]⟩
abbrev S32x8x2 : Shape := ⟨3, ![32, 8, 2]⟩
abbrev S4096 : Shape := ⟨1, ![4096]⟩
abbrev S4096x1 : Shape := ⟨2, ![4096, 1]⟩
abbrev S1x4096 : Shape := ⟨2, ![1, 4096]⟩
abbrev S4096x4096 : Shape := ⟨2, ![4096, 4096]⟩
abbrev S4096x4096x1 : Shape := ⟨3, ![4096, 4096, 1]⟩
abbrev S4096x4096x8x2 : Shape := ⟨4, ![4096, 4096, 8, 2]⟩
abbrev S4096x8x2x4096 : Shape := ⟨4, ![4096, 8, 2, 4096]⟩
abbrev S4x8x2x4096x4096 : Shape := ⟨5, ![4, 8, 2, 4096, 4096]⟩
abbrev S4x4096x8x2x4096 : Shape := ⟨5, ![4, 4096, 8, 2, 4096]⟩
abbrev S1x4096x8x2x4096 : Shape := ⟨5, ![1, 4096, 8, 2, 4096]⟩
abbrev S1x4096x1x1x4096 : Shape := ⟨5, ![1, 4096, 1, 1, 4096]⟩
abbrev S4x4096x8x2 : Shape := ⟨4, ![4, 4096, 8, 2]⟩
abbrev S4x4096x8x2x1 : Shape := ⟨5, ![4, 4096, 8, 2, 1]⟩
abbrev S4x4096x8x1x4096 : Shape := ⟨5, ![4, 4096, 8, 1, 4096]⟩
abbrev S4x4096x8x4096 : Shape := ⟨4, ![4, 4096, 8, 4096]⟩
abbrev S4x8x128x4096 : Shape := ⟨4, ![4, 8, 128, 4096]⟩
abbrev S4x4096x8 : Shape := ⟨3, ![4, 4096, 8]⟩
abbrev S4x4096x8x1 : Shape := ⟨4, ![4, 4096, 8, 1]⟩
abbrev S1x1x1x128 : Shape := ⟨4, ![1, 1, 1, 128]⟩

abbrev nBuf : Space → Nat
  | .hbm => 142
  | .vmem => 0
  | .smem => 0
  | _ => 0

abbrev hbmTy0_0 (i : Nat) : BufTy := match i % 128 with
  | 0 => ⟨S4x4096x1024, .f32⟩
  | 1 => ⟨S4x4096x2048, .f32⟩
  | 2 => ⟨S32x16, .f32⟩
  | 3 => ⟨S4x64, .f32⟩
  | 4 => ⟨S128, .f32⟩
  | 5 => ⟨S4x4096x8x2x64, .f32⟩
  | 6 => ⟨S4x4096x2x8x128, .f32⟩
  | 7 => ⟨S4x4096x1x8x128, .f32⟩
  | 8 => ⟨S4x4096x8x128, .f32⟩
  | 9 => ⟨S4x4096x8x2x64, .f32⟩
  | 10 => ⟨S4x4096x1x8x128, .f32⟩
  | 11 => ⟨S4x4096x8x128, .f32⟩
  | 12 => ⟨S1x64, .f32⟩
  | 13 => ⟨S64, .f32⟩
  | 14 => ⟨S1x64, .f32⟩
  | 15 => ⟨S64, .f32⟩
  | 16 => ⟨S64, .f32⟩
  | 17 => ⟨S_, .f32⟩
  | 18 => ⟨S_, .f32⟩
  | 19 => ⟨S_, .f32⟩
  | 20 => ⟨S1x64, .f32⟩
  | 21 => ⟨S64, .f32⟩
  | 22 => ⟨S1x64, .f32⟩
  | 23 => ⟨S64, .f32⟩
  | 24 => ⟨S64, .f32⟩
  | 25 => ⟨S_, .f32⟩
  | 26 => ⟨S_, .f32⟩
  | 27 => ⟨S_, .f32⟩
  | 28 => ⟨S_, .f32⟩
  | 29 => ⟨S_, .f32⟩
  | 30 => ⟨S_, .f32⟩
  | 31 => ⟨S32x8x2, .f32⟩
  | 32 => ⟨S4096, .i32⟩
  | 33 => ⟨S4096x1, .i32⟩
  | 34 => ⟨S1x4096, .i32⟩
  | 35 => ⟨S4096x4096, .i32⟩
  | 36 => ⟨S4096x4096, .i32⟩
  | 37 => ⟨S4096x4096, .i32⟩
  | 38 => ⟨S_, .i32⟩
  | 39 => ⟨S4096x4096, .i32⟩
  | 40 => ⟨S4096x4096, .i32⟩
  | 41 => ⟨S_, .i32⟩
  | 42 => ⟨S4096x4096, .i32⟩
  | 43 => ⟨S4096x4096, .i32⟩
  | 44 => ⟨S4096x4096, .f32⟩
  | 45 => ⟨S_, .f32⟩
  | 46 => ⟨S4096x4096, .f32⟩
  | 47 => ⟨S4096x4096, .f32⟩
  | 48 => ⟨S4096x4096, .f32⟩
  | 49 => ⟨S_, .f32⟩
  | 50 => ⟨S4096x4096, .f32⟩
  | 51 => ⟨S4096x4096, .f32⟩
  | 52 => ⟨S_, .f32⟩
  | 53 => ⟨S4096x4096, .f32⟩
  | 54 => ⟨S4096x4096, .f32⟩
  | 55 => ⟨S4096x4096, .i32⟩
  | 56 => ⟨S_, .i32⟩
  | 57 => ⟨S4096x4096, .i32⟩
  | 58 => ⟨S4096x4096, .i32⟩
  | 59 => ⟨S_, .i32⟩
  | 60 => ⟨S4096x4096, .i32⟩
  | 61 => ⟨S4096x4096, .i1⟩
  | 62 => ⟨S_, .i32⟩
  | 63 => ⟨S4096x4096, .i32⟩
  | 64 => ⟨S4096x4096, .i32⟩
  | 65 => ⟨S4096x4096, .i32⟩
  | 66 => ⟨S_, .i32⟩
  | 67 => ⟨S4096x4096, .i32⟩
  | 68 => ⟨S4096x4096, .i1⟩
  | 69 => ⟨S_, .i32⟩
  | 70 => ⟨S4096x4096, .i32⟩
  | 71 => ⟨S4096x4096, .i32⟩
  | 72 => ⟨S4096x4096, .i32⟩
  | 73 => ⟨S4096x4096x1, .i32⟩
  | 74 => ⟨S4096x4096x8x2, .f32⟩
  | 75 => ⟨S4096x8x2x4096, .f32⟩
  | 76 => ⟨S4x8x2x4096x4096, .f32⟩
  | 77 => ⟨S4x4096x8x2x4096, .f32⟩
  | 78 => ⟨S_, .f32⟩
  | 79 => ⟨S4x4096x8x2x4096, .f32⟩
  | 80 => ⟨S4x4096x8x2x4096, .f32⟩
  | 81 => ⟨S1x4096x8x2x4096, .f32⟩
  | 82 => ⟨S4x4096x8x2x4096, .f32⟩
  | 83 => ⟨S4x4096x8x2x4096, .f32⟩
  | 84 => ⟨S_, .i32⟩
  | 85 => ⟨S4096x4096, .i32⟩
  | 86 => ⟨S4096x4096, .i1⟩
  | 87 => ⟨S1x4096x1x1x4096, .i1⟩
  | 88 => ⟨S_, .f32⟩
  | 89 => ⟨S_, .f32⟩
  | 90 => ⟨S4x4096x8x2x4096, .i1⟩
  | 91 => ⟨S4x4096x8x2x4096, .f32⟩
  | 92 => ⟨S4x4096x8x2x4096, .f32⟩
  | 93 => ⟨S_, .f32⟩
  | 94 => ⟨S4x4096x8x2, .f32⟩
  | 95 => ⟨S4x4096x8x2x1, .f32⟩
  | 96 => ⟨S4x4096x8x2x4096, .f32⟩
  | 97 => ⟨S4x4096x8x2x4096, .f32⟩
  | 98 => ⟨S4x4096x8x2x4096, .f32⟩
  | 99 => ⟨S_, .f32⟩
  | 100 => ⟨S_, .f32⟩
  | 101 => ⟨S4x4096x8x2x4096, .i1⟩
  | 102 => ⟨S4x4096x8x2x4096, .f32⟩
  | 103 => ⟨S4x4096x8x2x4096, .f32⟩
  | 104 => ⟨S_, .f32⟩
  | 105 => ⟨S4x4096x8x2, .f32⟩
  | 106 => ⟨S4x4096x8x2x1, .f32⟩
  | 107 => ⟨S_, .f32⟩
  | 108 => ⟨S4x4096x8x2x1, .f32⟩
  | 109 => ⟨S4x4096x8x2x1, .f32⟩
  | 110 => ⟨S4x4096x8x2x4096, .f32⟩
  | 111 => ⟨S4x4096x8x2x4096, .f32⟩
  | 112 => ⟨S4x4096x8x1x4096, .f32⟩
  | 113 => ⟨S4x4096x8x4096, .f32⟩
  | 114 => ⟨S4x4096x8x1x4096, .f32⟩
  | 115 => ⟨S4x4096x8x4096, .f32⟩
  | 116 => ⟨S4x4096x8x4096, .f32⟩
  | 117 => ⟨S4x4096x8x4096, .f32⟩
  | 118 => ⟨S4x4096x8x4096, .f32⟩
  | 119 => ⟨S4x8x128x4096, .f32⟩
  | 120 => ⟨S4x4096x8x128, .f32⟩
  | 121 => ⟨S4x4096x8x128, .f32⟩
  | 122 => ⟨S_, .f32⟩
  | 123 => ⟨S4x4096x8, .f32⟩
  | 124 => ⟨S4x4096x8x1, .f32⟩
  | 125 => ⟨S_, .f32⟩
  | 126 => ⟨S4x4096x8x1, .f32⟩
  | 127 => ⟨S4x4096x8x1, .f32⟩
  | _ => ⟨S4x4096x1024, .f32⟩

abbrev hbmTy0_1 (i : Nat) : BufTy := match i % 128 with
  | 0 => ⟨S_, .f32⟩
  | 1 => ⟨S4x4096x8x1, .f32⟩
  | 2 => ⟨S4x4096x8x1, .f32⟩
  | 3 => ⟨S4x4096x8x1, .f32⟩
  | 4 => ⟨S4x4096x8x128, .f32⟩
  | 5 => ⟨S4x4096x8x128, .f32⟩
  | 6 => ⟨S1x1x1x128, .f32⟩
  | 7 => ⟨S4x4096x8x128, .f32⟩
  | 8 => ⟨S4x4096x8x128, .f32⟩
  | 9 => ⟨S_, .f32⟩
  | 10 => ⟨S4x4096x8x128, .f32⟩
  | 11 => ⟨S4x4096x8x128, .f32⟩
  | 12 => ⟨S4x4096x1024, .f32⟩
  | 13 => ⟨S4x4096x1024, .bf16⟩
  | _ => ⟨S4x4096x1024, .f32⟩

abbrev hbmTy (i : Nat) : BufTy := match i / 128 with
  | 0 => hbmTy0_0 i
  | 1 => hbmTy0_1 i
  | _ => ⟨S4x4096x1024, .f32⟩

abbrev bufTy : (tb : Table) → Fin (tcTables nBuf tb) → BufTy
  | .hbm, ⟨i, _⟩ => hbmTy i
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_cst_0 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_cst_1 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_c : Ref sig .tc := ⟨.hbm, 38, rfl⟩
abbrev main_v30 : Ref sig .tc := ⟨.hbm, 39, rfl⟩
abbrev main_v31 : Ref sig .tc := ⟨.hbm, 40, rfl⟩
abbrev main_c_2 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_cst_3 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_cst_4 : Ref sig .tc := ⟨.hbm, 49, rfl⟩
abbrev main_v38 : Ref sig .tc := ⟨.hbm, 50, rfl⟩
abbrev main_v39 : Ref sig .tc := ⟨.hbm, 51, rfl⟩
abbrev main_cst_5 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_c_6 : Ref sig .tc := ⟨.hbm, 56, rfl⟩
abbrev main_v43 : Ref sig .tc := ⟨.hbm, 57, rfl⟩
abbrev main_v44 : Ref sig .tc := ⟨.hbm, 58, rfl⟩
abbrev main_c_7 : Ref sig .tc := ⟨.hbm, 59, rfl⟩
abbrev main_v45 : Ref sig .tc := ⟨.hbm, 60, rfl⟩
abbrev main_v46 : Ref sig .tc := ⟨.hbm, 61, rfl⟩
abbrev main_c_8 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_c_9 : Ref sig .tc := ⟨.hbm, 66, rfl⟩
abbrev main_v50 : Ref sig .tc := ⟨.hbm, 67, rfl⟩
abbrev main_v51 : Ref sig .tc := ⟨.hbm, 68, rfl⟩
abbrev main_c_10 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_cst_11 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_c_12 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_cst_13 : Ref sig .tc := ⟨.hbm, 88, rfl⟩
abbrev main_call1_v0 : Ref sig .tc := ⟨.hbm, 89, rfl⟩
abbrev main_call1_v1 : Ref sig .tc := ⟨.hbm, 90, rfl⟩
abbrev main_call1_v2 : Ref sig .tc := ⟨.hbm, 91, rfl⟩
abbrev main_v68 : Ref sig .tc := ⟨.hbm, 92, rfl⟩
abbrev main_cst_14 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_cst_15 : Ref sig .tc := ⟨.hbm, 99, rfl⟩
abbrev main_call2_v0 : Ref sig .tc := ⟨.hbm, 100, rfl⟩
abbrev main_call2_v1 : Ref sig .tc := ⟨.hbm, 101, rfl⟩
abbrev main_call2_v2 : Ref sig .tc := ⟨.hbm, 102, rfl⟩
abbrev main_v74 : Ref sig .tc := ⟨.hbm, 103, rfl⟩
abbrev main_cst_16 : Ref sig .tc := ⟨.hbm, 104, rfl⟩
abbrev main_v75 : Ref sig .tc := ⟨.hbm, 105, rfl⟩
abbrev main_v76 : Ref sig .tc := ⟨.hbm, 106, rfl⟩
abbrev main_cst_17 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩
abbrev main_v89 : Ref sig .tc := ⟨.hbm, 120, rfl⟩
abbrev main_v90 : Ref sig .tc := ⟨.hbm, 121, rfl⟩
abbrev main_cst_18 : Ref sig .tc := ⟨.hbm, 122, rfl⟩
abbrev main_v91 : Ref sig .tc := ⟨.hbm, 123, rfl⟩
abbrev main_v92 : Ref sig .tc := ⟨.hbm, 124, rfl⟩
abbrev main_cst_19 : Ref sig .tc := ⟨.hbm, 125, rfl⟩
abbrev main_v93 : Ref sig .tc := ⟨.hbm, 126, rfl⟩
abbrev main_v94 : Ref sig .tc := ⟨.hbm, 127, rfl⟩
abbrev main_cst_20 : Ref sig .tc := ⟨.hbm, 128, rfl⟩
abbrev main_v95 : Ref sig .tc := ⟨.hbm, 129, rfl⟩
abbrev main_v96 : Ref sig .tc := ⟨.hbm, 130, rfl⟩
abbrev main_v97 : Ref sig .tc := ⟨.hbm, 131, rfl⟩
abbrev main_v98 : Ref sig .tc := ⟨.hbm, 132, rfl⟩
abbrev main_v99 : Ref sig .tc := ⟨.hbm, 133, rfl⟩
abbrev main_v100 : Ref sig .tc := ⟨.hbm, 134, rfl⟩
abbrev main_v101 : Ref sig .tc := ⟨.hbm, 135, rfl⟩
abbrev main_v102 : Ref sig .tc := ⟨.hbm, 136, rfl⟩
abbrev main_cst_21 : Ref sig .tc := ⟨.hbm, 137, rfl⟩
abbrev main_v103 : Ref sig .tc := ⟨.hbm, 138, rfl⟩
abbrev main_v104 : Ref sig .tc := ⟨.hbm, 139, rfl⟩
abbrev main_v105 : Ref sig .tc := ⟨.hbm, 140, rfl⟩
abbrev main_v106 : Ref sig .tc := ⟨.hbm, 141, rfl⟩

abbrev nD : Nat := 1
abbrev τ : Topo := Topo.v7x

variable {F : FTy → Type} [FloatOps F]
-- ==== Kernel2.lean ====
abbrev S16384x1024 : Shape := ⟨2, ![16384, 1024]⟩
abbrev S1024x4096 : Shape := ⟨2, ![1024, 4096]⟩
abbrev S4096x1024 : Shape := ⟨2, ![4096, 1024]⟩
abbrev S1024 : Shape := ⟨1, ![1024]⟩
abbrev S1x1024 : Shape := ⟨2, ![1, 1024]⟩
abbrev S1024x1024 : Shape := ⟨2, ![1024, 1024]⟩
abbrev S1024x1 : Shape := ⟨2, ![1024, 1]⟩

abbrev nBuf : Space → Nat
  | .hbm => 10
  | .vmem => 11
  | .smem => 0
  | _ => 0

abbrev bufTy : (tb : Table) → Fin (tcTables nBuf tb) → BufTy
  | .hbm, ⟨0, _⟩ => ⟨S16384x1024, .f32⟩
  | .hbm, ⟨1, _⟩ => ⟨S1024x4096, .f32⟩
  | .hbm, ⟨2, _⟩ => ⟨S4096x1024, .f32⟩
  | .hbm, ⟨3, _⟩ => ⟨S1024, .f32⟩
  | .hbm, ⟨4, _⟩ => ⟨S1024, .f32⟩
  | .hbm, ⟨5, _⟩ => ⟨S1024x4096, .bf16⟩
  | .hbm, ⟨6, _⟩ => ⟨S4096x1024, .bf16⟩
  | .hbm, ⟨7, _⟩ => ⟨S1x1024, .f32⟩
  | .hbm, ⟨8, _⟩ => ⟨S1x1024, .f32⟩
  | .hbm, ⟨9, _⟩ => ⟨S16384x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1x1024, .f32⟩
  | .local _ .vmem, ⟨7, _⟩ => ⟨S1x1024, .f32⟩
  | .local _ .vmem, ⟨8, _⟩ => ⟨S1024x1024, .f32⟩
  | .local _ .vmem, ⟨9, _⟩ => ⟨S1024x1024, .f32⟩
  | .local _ .vmem, ⟨10, _⟩ => ⟨S1024x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![16, 4], ![false, false]⟩

def k0_cond2 (i : grid0.Coords) : BitVec 1 :=
  let arg1 : BitVec 32 := BitVec.ofNat 32 (i 1).val
  let c3_i32 : BitVec 32 := 3#32
  let v20 : BitVec 1 := Scalar.cmpi .eq arg1 c3_i32
  let v21 : BitVec 32 := Scalar.extui v20
  let c0_i32_12 : BitVec 32 := 0#32
  let v22 : BitVec 1 := Scalar.cmpi .ne v21 c0_i32_12
  v22

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== Reference2Ideal.lean ====
abbrev S16384x1024 : Shape := ⟨2, ![16384, 1024]⟩
abbrev S1024x4096 : Shape := ⟨2, ![1024, 4096]⟩
abbrev S4096x1024 : Shape := ⟨2, ![4096, 1024]⟩
abbrev S1024 : Shape := ⟨1, ![1024]⟩
abbrev S16384x4096 : Shape := ⟨2, ![16384, 4096]⟩
abbrev S_ : Shape := ⟨0, ![]⟩
abbrev S16384 : Shape := ⟨1, ![16384]⟩
abbrev S16384x1 : Shape := ⟨2, ![16384, 1]⟩
abbrev S1x1024 : Shape := ⟨2, ![1, 1024]⟩

abbrev nBuf : Space → Nat
  | .hbm => 44
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024x4096, .f32⟩
  | .hbm, ⟨2, _⟩ => ⟨S4096x1024, .f32⟩
  | .hbm, ⟨3, _⟩ => ⟨S1024, .f32⟩
  | .hbm, ⟨4, _⟩ => ⟨S1024, .f32⟩
  | .hbm, ⟨5, _⟩ => ⟨S16384x4096, .f32⟩
  | .hbm, ⟨6, _⟩ => ⟨S_, .f32⟩
  | .hbm, ⟨7, _⟩ => ⟨S16384x4096, .f32⟩
  | .hbm, ⟨8, _⟩ => ⟨S16384x4096, .f32⟩
  | .hbm, ⟨9, _⟩ => ⟨S16384x4096, .f32⟩
  | .hbm, ⟨10, _⟩ => ⟨S16384x1024, .f32⟩
  | .hbm, ⟨11, _⟩ => ⟨S_, .f32⟩
  | .hbm, ⟨12, _⟩ => ⟨S16384x1024, .f32⟩
  | .hbm, ⟨13, _⟩ => ⟨S16384x1024, .f32⟩
  | .hbm, ⟨14, _⟩ => ⟨S16384x1024, .f32⟩
  | .hbm, ⟨15, _⟩ => ⟨S_, .f32⟩
  | .hbm, ⟨16, _⟩ => ⟨S16384, .f32⟩
  | .hbm, ⟨17, _⟩ => ⟨S16384x1, .f32⟩
  | .hbm, ⟨18, _⟩ => ⟨S_, .f32⟩
  | .hbm, ⟨19, _⟩ => ⟨S16384x1, .f32⟩
  | .hbm, ⟨20, _⟩ => ⟨S16384x1, .f32⟩
  | .hbm, ⟨21, _⟩ => ⟨S16384x1024, .f32⟩
  | .hbm, ⟨22, _⟩ => ⟨S16384x1024, .f32⟩
  | .hbm, ⟨23, _⟩ => ⟨S16384x1024, .f32⟩
  | .hbm, ⟨24, _⟩ => ⟨S_, .f32⟩
  | .hbm, ⟨25, _⟩ => ⟨S16384, .f32⟩
  | .hbm, ⟨26, _⟩ => ⟨S16384x1, .f32⟩
  | .hbm, ⟨27, _⟩ => ⟨S_, .f32⟩
  | .hbm, ⟨28, _⟩ => ⟨S16384x1, .f32⟩
  | .hbm, ⟨29, _⟩ => ⟨S16384x1, .f32⟩
  | .hbm, ⟨30, _⟩ => ⟨S16384x1024, .f32⟩
  | .hbm, ⟨31, _⟩ => ⟨S16384x1024, .f32⟩
  | .hbm, ⟨32, _⟩ => ⟨S_, .f32⟩
  | .hbm, ⟨33, _⟩ => ⟨S16384x1, .f32⟩
  | .hbm, ⟨34, _⟩ => ⟨S16384x1, .f32⟩
  | .hbm, ⟨35, _⟩ => ⟨S16384x1, .f32⟩
  | .hbm, ⟨36, _⟩ => ⟨S16384x1024, .f32⟩
  | .hbm, ⟨37, _⟩ => ⟨S16384x1024, .f32⟩
  | .hbm, ⟨38, _⟩ => ⟨S1x1024, .f32⟩
  | .hbm, ⟨39, _⟩ => ⟨S16384x1024, .f32⟩
  | .hbm, ⟨40, _⟩ => ⟨S16384x1024, .f32⟩
  | .hbm, ⟨41, _⟩ => ⟨S1x1024, .f32⟩
  | .hbm, ⟨42, _⟩ => ⟨S16384x1024, .f32⟩
  | .hbm, ⟨43, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_call0_cst : Ref sig .tc := ⟨.hbm, 6, rfl⟩
abbrev main_call0_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst_0 : Ref sig .tc := ⟨.hbm, 15, rfl⟩
abbrev main_v7 : Ref sig .tc := ⟨.hbm, 16, rfl⟩
abbrev main_v8 : Ref sig .tc := ⟨.hbm, 17, rfl⟩
abbrev main_cst_1 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_2 : Ref sig .tc := ⟨.hbm, 24, rfl⟩
abbrev main_v14 : Ref sig .tc := ⟨.hbm, 25, rfl⟩
abbrev main_v15 : Ref sig .tc := ⟨.hbm, 26, rfl⟩
abbrev main_cst_3 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_4 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩

abbrev nD : Nat := 1
abbrev τ : Topo := Topo.v7x

variable {F : FTy → Type} [FloatOps F]
-- ==== Kernel3.lean ====
abbrev S16384x1024 : Shape := ⟨2, ![16384, 1024]⟩
abbrev S1024x1024 : Shape := ⟨2, ![1024, 1024]⟩
abbrev S1024 : Shape := ⟨1, ![1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 9
  | .vmem => 9
  | .smem => 0
  | _ => 0

abbrev bufTy : (tb : Table) → Fin (tcTables nBuf tb) → BufTy
  | .hbm, ⟨0, _⟩ => ⟨S16384x1024, .bf16⟩
  | .hbm, ⟨1, _⟩ => ⟨S1024x1024, .f32⟩
  | .hbm, ⟨2, _⟩ => ⟨S16384x1024, .f32⟩
  | .hbm, ⟨3, _⟩ => ⟨S1024, .f32⟩
  | .hbm, ⟨4, _⟩ => ⟨S1024, .f32⟩
  | .hbm, ⟨5, _⟩ => ⟨S1024x1024, .bf16⟩
  | .hbm, ⟨6, _⟩ => ⟨S1x1024, .f32⟩
  | .hbm, ⟨7, _⟩ => ⟨S1x1024, .f32⟩
  | .hbm, ⟨8, _⟩ => ⟨S16384x1024, .f32⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S1x1024, .f32⟩
  | .local _ .vmem, ⟨7, _⟩ => ⟨S512x1024, .f32⟩
  | .local _ .vmem, ⟨8, _⟩ => ⟨S512x1024, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference3Ideal.lean ====
abbrev S16384x1024 : Shape := ⟨2, ![16384, 1024]⟩
abbrev S1024x1024 : Shape := ⟨2, ![1024, 1024]⟩
abbrev S1024 : Shape := ⟨1, ![1024]⟩
abbrev S_ : Shape := ⟨0, ![]⟩
abbrev S16384 : Shape := ⟨1, ![16384]⟩
abbrev S16384x1 : Shape := ⟨2, ![16384, 1]⟩
abbrev S1x1024 : Shape := ⟨2, ![1, 1024]⟩

abbrev nBuf : Space → Nat
  | .hbm => 39
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S1024x1024, .f32⟩
  | .hbm, ⟨2, _⟩ => ⟨S16384x1024, .f32⟩
  | .hbm, ⟨3, _⟩ => ⟨S1024, .f32⟩
  | .hbm, ⟨4, _⟩ => ⟨S1024, .f32⟩
  | .hbm, ⟨5, _⟩ => ⟨S16384x1024, .f32⟩
  | .hbm, ⟨6, _⟩ => ⟨S_, .f32⟩
  | .hbm, ⟨7, _⟩ => ⟨S16384x1024, .f32⟩
  | .hbm, ⟨8, _⟩ => ⟨S16384x1024, .f32⟩
  | .hbm, ⟨9, _⟩ => ⟨S16384x1024, .f32⟩
  | .hbm, ⟨10, _⟩ => ⟨S_, .f32⟩
  | .hbm, ⟨11, _⟩ => ⟨S16384, .f32⟩
  | .hbm, ⟨12, _⟩ => ⟨S16384x1, .f32⟩
  | .hbm, ⟨13, _⟩ => ⟨S_, .f32⟩
  | .hbm, ⟨14, _⟩ => ⟨S16384x1, .f32⟩
  | .hbm, ⟨15, _⟩ => ⟨S16384x1, .f32⟩
  | .hbm, ⟨16, _⟩ => ⟨S16384x1024, .f32⟩
  | .hbm, ⟨17, _⟩ => ⟨S16384x1024, .f32⟩
  | .hbm, ⟨18, _⟩ => ⟨S16384x1024, .f32⟩
  | .hbm, ⟨19, _⟩ => ⟨S_, .f32⟩
  | .hbm, ⟨20, _⟩ => ⟨S16384, .f32⟩
  | .hbm, ⟨21, _⟩ => ⟨S16384x1, .f32⟩
  | .hbm, ⟨22, _⟩ => ⟨S_, .f32⟩
  | .hbm, ⟨23, _⟩ => ⟨S16384x1, .f32⟩
  | .hbm, ⟨24, _⟩ => ⟨S16384x1, .f32⟩
  | .hbm, ⟨25, _⟩ => ⟨S16384x1024, .f32⟩
  | .hbm, ⟨26, _⟩ => ⟨S16384x1024, .f32⟩
  | .hbm, ⟨27, _⟩ => ⟨S_, .f32⟩
  | .hbm, ⟨28, _⟩ => ⟨S16384x1, .f32⟩
  | .hbm, ⟨29, _⟩ => ⟨S16384x1, .f32⟩
  | .hbm, ⟨30, _⟩ => ⟨S16384x1, .f32⟩
  | .hbm, ⟨31, _⟩ => ⟨S16384x1024, .f32⟩
  | .hbm, ⟨32, _⟩ => ⟨S16384x1024, .f32⟩
  | .hbm, ⟨33, _⟩ => ⟨S1x1024, .f32⟩
  | .hbm, ⟨34, _⟩ => ⟨S16384x1024, .f32⟩
  | .hbm, ⟨35, _⟩ => ⟨S16384x1024, .f32⟩
  | .hbm, ⟨36, _⟩ => ⟨S1x1024, .f32⟩
  | .hbm, ⟨37, _⟩ => ⟨S16384x1024, .f32⟩
  | .hbm, ⟨38, _⟩ => ⟨S16384x1024, .f32⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_cst_3 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_4 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩

abbrev nD : Nat := 1
abbrev τ : Topo := Topo.v7x

variable {F : FTy → Type} [FloatOps F]
-- ==== Kernel4.lean ====
abbrev S4x4096x1024 : Shape := ⟨3, ![4, 4096, 1024]⟩
abbrev S1024x3072 : Shape := ⟨2, ![1024, 3072]⟩
abbrev S16384x1024 : Shape := ⟨2, ![16384, 1024]⟩
abbrev S1024x2048 : Shape := ⟨2, ![1024, 2048]⟩
abbrev S16384x2048 : Shape := ⟨2, ![16384, 2048]⟩
abbrev S512x1024 : Shape := ⟨2, ![512, 1024]⟩
abbrev S512x2048 : Shape := ⟨2, ![512, 2048]⟩
abbrev S4x4096x2x8x128 : Shape := ⟨5, ![4, 4096, 2, 8, 128]⟩
abbrev S4x4096x2048 : Shape := ⟨3, ![4, 4096, 2048]⟩

abbrev nBuf : Space → Nat
  | .hbm => 9
  | .vmem => 7
  | .smem => 0
  | _ => 0

abbrev bufTy : (tb : Table) → Fin (tcTables nBuf tb) → BufTy
  | .hbm, ⟨0, _⟩ => ⟨S4x4096x1024, .f32⟩
  | .hbm, ⟨1, _⟩ => ⟨S1024x3072, .f32⟩
  | .hbm, ⟨2, _⟩ => ⟨S16384x1024, .f32⟩
  | .hbm, ⟨3, _⟩ => ⟨S1024x2048, .f32⟩
  | .hbm, ⟨4, _⟩ => ⟨S1024x2048, .bf16⟩
  | .hbm, ⟨5, _⟩ => ⟨S16384x2048, .f32⟩
  | .hbm, ⟨6, _⟩ => ⟨S16384x2048, .bf16⟩
  | .hbm, ⟨7, _⟩ => ⟨S4x4096x2x8x128, .f32⟩
  | .hbm, ⟨8, _⟩ => ⟨S4x4096x2048, .bf16⟩
  | .local _ .vmem, ⟨0, _⟩ => ⟨S512x1024, .f32⟩
  | .local _ .vmem, ⟨1, _⟩ => ⟨S512x1024, .f32⟩
  | .local _ .vmem, ⟨2, _⟩ => ⟨S1024x2048, .bf16⟩
  | .local _ .vmem, ⟨3, _⟩ => ⟨S512x2048, .f32⟩
  | .local _ .vmem, ⟨4, _⟩ => ⟨S512x2048, .f32⟩
  | .local _ .vmem, ⟨5, _⟩ => ⟨S512x2048, .bf16⟩
  | .local _ .vmem, ⟨6, _⟩ => ⟨S512x2048, .bf16⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3_0 : Ref sig .tc := ⟨.hbm, 5, rfl⟩
abbrev main_v3_1 : Ref sig .tc := ⟨.hbm, 6, rfl⟩
abbrev main_v4 : Ref sig .tc := ⟨.hbm, 7, rfl⟩
abbrev main_v5 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![32, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1024x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference4Ideal.lean ====
abbrev S4x4096x1024 : Shape := ⟨3, ![4, 4096, 1024]⟩
abbrev S1024x3072 : Shape := ⟨2, ![1024, 3072]⟩
abbrev S4x4096x3072 : Shape := ⟨3, ![4, 4096, 3072]⟩
abbrev S4x4096x2048 : Shape := ⟨3, ![4, 4096, 2048]⟩
abbrev S4x4096x2x8x128 : Shape := ⟨5, ![4, 4096, 2, 8, 128]⟩

abbrev nBuf : Space → Nat
  | .hbm => 6
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S1024x3072, .f32⟩
  | .hbm, ⟨2, _⟩ => ⟨S4x4096x3072, .f32⟩
  | .hbm, ⟨3, _⟩ => ⟨S4x4096x2048, .f32⟩
  | .hbm, ⟨4, _⟩ => ⟨S4x4096x2x8x128, .f32⟩
  | .hbm, ⟨5, _⟩ => ⟨S4x4096x2048, .bf16⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel5.lean ====
abbrev S4x4096x1024 : Shape := ⟨3, ![4, 4096, 1024]⟩
abbrev S1024x2608 : Shape := ⟨2, ![1024, 2608]⟩
abbrev S1024x1536 : Shape := ⟨2, ![1024, 1536]⟩
abbrev S16384x1024 : Shape := ⟨2, ![16384, 1024]⟩
abbrev S16384x1536 : Shape := ⟨2, ![16384, 1536]⟩
abbrev S512x1024 : Shape := ⟨2, ![512, 1024]⟩
abbrev S512x1536 : Shape := ⟨2, ![512, 1536]⟩
abbrev S4x4096x1536 : Shape := ⟨3, ![4, 4096, 1536]⟩
abbrev S4x4096x4x4x64 : Shape := ⟨5, ![4, 4096, 4, 4, 64]⟩
abbrev S4x4096x512 : Shape := ⟨3, ![4, 4096, 512]⟩
abbrev S4x4096x2x4x64 : Shape := ⟨5, ![4, 4096, 2, 4, 64]⟩
abbrev S4x512x2x4x64 : Shape := ⟨5, ![4, 512, 2, 4, 64]⟩

abbrev nBuf : Space → Nat
  | .hbm => 12
  | .vmem => 5
  | .smem => 0
  | _ => 0

abbrev bufTy : (tb : Table) → Fin (tcTables nBuf tb) → BufTy
  | .hbm, ⟨0, _⟩ => ⟨S4x4096x1024, .f32⟩
  | .hbm, ⟨1, _⟩ => ⟨S1024x2608, .f32⟩
  | .hbm, ⟨2, _⟩ => ⟨S1024x1536, .f32⟩
  | .hbm, ⟨3, _⟩ => ⟨S1024x1536, .bf16⟩
  | .hbm, ⟨4, _⟩ => ⟨S16384x1024, .f32⟩
  | .hbm, ⟨5, _⟩ => ⟨S16384x1536, .f32⟩
  | .hbm, ⟨6, _⟩ => ⟨S4x4096x1536, .f32⟩
  | .hbm, ⟨7, _⟩ => ⟨S4x4096x1024, .f32⟩
  | .hbm, ⟨8, _⟩ => ⟨S4x4096x4x4x64, .f32⟩
  | .hbm, ⟨9, _⟩ => ⟨S4x4096x512, .f32⟩
  | .hbm, ⟨10, _⟩ => ⟨S4x4096x2x4x64, .f32⟩
  | .hbm, ⟨11, _⟩ => ⟨S4x512x2x4x64, .f32⟩
  | .local _ .vmem, ⟨0, _⟩ => ⟨S512x1024, .f32⟩
  | .local _ .vmem, ⟨1, _⟩ => ⟨S512x1024, .f32⟩
  | .local _ .vmem, ⟨2, _⟩ => ⟨S1024x1536, .bf16⟩
  | .local _ .vmem, ⟨3, _⟩ => ⟨S512x1536, .f32⟩
  | .local _ .vmem, ⟨4, _⟩ => ⟨S512x1536, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![32, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1024x1536 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S512x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference5Ideal.lean ====
abbrev S4x4096x1024 : Shape := ⟨3, ![4, 4096, 1024]⟩
abbrev S1024x2608 : Shape := ⟨2, ![1024, 2608]⟩
abbrev S4x4096x2608 : Shape := ⟨3, ![4, 4096, 2608]⟩
abbrev S4x4096x1536 : Shape := ⟨3, ![4, 4096, 1536]⟩
abbrev S4x4096x6x4x64 : Shape := ⟨5, ![4, 4096, 6, 4, 64]⟩
abbrev S4x4096x4x4x64 : Shape := ⟨5, ![4, 4096, 4, 4, 64]⟩
abbrev S4x4096x2x4x64 : Shape := ⟨5, ![4, 4096, 2, 4, 64]⟩
abbrev S4x512x2x4x64 : Shape := ⟨5, ![4, 512, 2, 4, 64]⟩

abbrev nBuf : Space → Nat
  | .hbm => 8
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S1024x2608, .f32⟩
  | .hbm, ⟨2, _⟩ => ⟨S4x4096x2608, .f32⟩
  | .hbm, ⟨3, _⟩ => ⟨S4x4096x1536, .f32⟩
  | .hbm, ⟨4, _⟩ => ⟨S4x4096x6x4x64, .f32⟩
  | .hbm, ⟨5, _⟩ => ⟨S4x4096x4x4x64, .f32⟩
  | .hbm, ⟨6, _⟩ => ⟨S4x4096x2x4x64, .f32⟩
  | .hbm, ⟨7, _⟩ => ⟨S4x512x2x4x64, .f32⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== Kernel6.lean ====
abbrev S32x1x1024 : Shape := ⟨3, ![32, 1, 1024]⟩
abbrev S32x512x2x4x64 : Shape := ⟨5, ![32, 512, 2, 4, 64]⟩
abbrev S1024x2608 : Shape := ⟨2, ![1024, 2608]⟩
abbrev S1024x1536 : Shape := ⟨2, ![1024, 1536]⟩
abbrev S32x1024 : Shape := ⟨2, ![32, 1024]⟩
abbrev S32x1536 : Shape := ⟨2, ![32, 1536]⟩
abbrev S32x1x4x4x64 : Shape := ⟨5, ![32, 1, 4, 4, 64]⟩
abbrev S32x512 : Shape := ⟨2, ![32, 512]⟩
abbrev S32x1x2x4x64 : Shape := ⟨5, ![32, 1, 2, 4, 64]⟩
abbrev S32x513x2x4x64 : Shape := ⟨5, ![32, 513, 2, 4, 64]⟩

abbrev nBuf : Space → Nat
  | .hbm => 13
  | .vmem => 3
  | .smem => 0
  | _ => 0

abbrev bufTy : (tb : Table) → Fin (tcTables nBuf tb) → BufTy
  | .hbm, ⟨0, _⟩ => ⟨S32x1x1024, .f32⟩
  | .hbm, ⟨1, _⟩ => ⟨S32x512x2x4x64, .f32⟩
  | .hbm, ⟨2, _⟩ => ⟨S1024x2608, .f32⟩
  | .hbm, ⟨3, _⟩ => ⟨S1024x1536, .f32⟩
  | .hbm, ⟨4, _⟩ => ⟨S1024x1536, .bf16⟩
  | .hbm, ⟨5, _⟩ => ⟨S32x1024, .f32⟩
  | .hbm, ⟨6, _⟩ => ⟨S32x1536, .f32⟩
  | .hbm, ⟨7, _⟩ => ⟨S32x1024, .f32⟩
  | .hbm, ⟨8, _⟩ => ⟨S32x1x4x4x64, .f32⟩
  | .hbm, ⟨9, _⟩ => ⟨S32x512, .f32⟩
  | .hbm, ⟨10, _⟩ => ⟨S32x1x2x4x64, .f32⟩
  | .hbm, ⟨11, _⟩ => ⟨S32x513x2x4x64, .f32⟩
  | .hbm, ⟨12, _⟩ => ⟨S32x512x2x4x64, .f32⟩
  | .local _ .vmem, ⟨0, _⟩ => ⟨S32x1024, .f32⟩
  | .local _ .vmem, ⟨1, _⟩ => ⟨S1024x1536, .bf16⟩
  | .local _ .vmem, ⟨2, _⟩ => ⟨S32x1536, .f32⟩
  | _, _ => ⟨S32x1x1024, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨2, ![1, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S32x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S1024x1536 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 1 → Memref sig .tc .vmem S32x1536 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]
-- ==== Reference6Ideal.lean ====
abbrev S32x1x1024 : Shape := ⟨3, ![32, 1, 1024]⟩
abbrev S32x512x2x4x64 : Shape := ⟨5, ![32, 512, 2, 4, 64]⟩
abbrev S1024x2608 : Shape := ⟨2, ![1024, 2608]⟩
abbrev S32x1x2608 : Shape := ⟨3, ![32, 1, 2608]⟩
abbrev S32x1x1536 : Shape := ⟨3, ![32, 1, 1536]⟩
abbrev S32x1x6x4x64 : Shape := ⟨5, ![32, 1, 6, 4, 64]⟩
abbrev S32x1x4x4x64 : Shape := ⟨5, ![32, 1, 4, 4, 64]⟩
abbrev S32x1x2x4x64 : Shape := ⟨5, ![32, 1, 2, 4, 64]⟩
abbrev S32x513x2x4x64 : Shape := ⟨5, ![32, 513, 2, 4, 64]⟩

abbrev nBuf : Space → Nat
  | .hbm => 10
  | .vmem => 0
  | .smem => 0
  | _ => 0

abbrev bufTy : (tb : Table) → Fin (tcTables nBuf tb) → BufTy
  | .hbm, ⟨0, _⟩ => ⟨S32x1x1024, .f32⟩
  | .hbm, ⟨1, _⟩ => ⟨S32x512x2x4x64, .f32⟩
  | .hbm, ⟨2, _⟩ => ⟨S1024x2608, .f32⟩
  | .hbm, ⟨3, _⟩ => ⟨S32x1x2608, .f32⟩
  | .hbm, ⟨4, _⟩ => ⟨S32x1x1536, .f32⟩
  | .hbm, ⟨5, _⟩ => ⟨S32x1x6x4x64, .f32⟩
  | .hbm, ⟨6, _⟩ => ⟨S32x1x4x4x64, .f32⟩
  | .hbm, ⟨7, _⟩ => ⟨S32x1x2x4x64, .f32⟩
  | .hbm, ⟨8, _⟩ => ⟨S32x513x2x4x64, .f32⟩
  | .hbm, ⟨9, _⟩ => ⟨S32x512x2x4x64, .f32⟩
  | _, _ => ⟨S32x1x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel7.lean ====
abbrev S32x1x1024 : Shape := ⟨3, ![32, 1, 1024]⟩
abbrev S1024x3072 : Shape := ⟨2, ![1024, 3072]⟩
abbrev S32x1024 : Shape := ⟨2, ![32, 1024]⟩
abbrev S1024x2048 : Shape := ⟨2, ![1024, 2048]⟩
abbrev S32x2048 : Shape := ⟨2, ![32, 2048]⟩
abbrev S32x1x2x8x128 : Shape := ⟨5, ![32, 1, 2, 8, 128]⟩

abbrev nBuf : Space → Nat
  | .hbm => 7
  | .vmem => 3
  | .smem => 0
  | _ => 0

abbrev bufTy : (tb : Table) → Fin (tcTables nBuf tb) → BufTy
  | .hbm, ⟨0, _⟩ => ⟨S32x1x1024, .f32⟩
  | .hbm, ⟨1, _⟩ => ⟨S1024x3072, .f32⟩
  | .hbm, ⟨2, _⟩ => ⟨S32x1024, .f32⟩
  | .hbm, ⟨3, _⟩ => ⟨S1024x2048, .f32⟩
  | .hbm, ⟨4, _⟩ => ⟨S1024x2048, .bf16⟩
  | .hbm, ⟨5, _⟩ => ⟨S32x2048, .f32⟩
  | .hbm, ⟨6, _⟩ => ⟨S32x1x2x8x128, .f32⟩
  | .local _ .vmem, ⟨0, _⟩ => ⟨S32x1024, .f32⟩
  | .local _ .vmem, ⟨1, _⟩ => ⟨S1024x2048, .bf16⟩
  | .local _ .vmem, ⟨2, _⟩ => ⟨S32x2048, .f32⟩
  | _, _ => ⟨S32x1x1024, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨2, ![1, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S32x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S1024x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 1 → Memref sig .tc .vmem S32x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]
-- ==== Reference7Ideal.lean ====
abbrev S32x1x1024 : Shape := ⟨3, ![32, 1, 1024]⟩
abbrev S1024x3072 : Shape := ⟨2, ![1024, 3072]⟩
abbrev S32x1x3072 : Shape := ⟨3, ![32, 1, 3072]⟩
abbrev S32x1x2048 : Shape := ⟨3, ![32, 1, 2048]⟩
abbrev S32x1x2x8x128 : Shape := ⟨5, ![32, 1, 2, 8, 128]⟩

abbrev nBuf : Space → Nat
  | .hbm => 5
  | .vmem => 0
  | .smem => 0
  | _ => 0

abbrev bufTy : (tb : Table) → Fin (tcTables nBuf tb) → BufTy
  | .hbm, ⟨0, _⟩ => ⟨S32x1x1024, .f32⟩
  | .hbm, ⟨1, _⟩ => ⟨S1024x3072, .f32⟩
  | .hbm, ⟨2, _⟩ => ⟨S32x1x3072, .f32⟩
  | .hbm, ⟨3, _⟩ => ⟨S32x1x2048, .f32⟩
  | .hbm, ⟨4, _⟩ => ⟨S32x1x2x8x128, .f32⟩
  | _, _ => ⟨S32x1x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel8.lean ====
abbrev S4x4096x1024 : Shape := ⟨3, ![4, 4096, 1024]⟩
abbrev S1024x3072 : Shape := ⟨2, ![1024, 3072]⟩
abbrev S16384x1024 : Shape := ⟨2, ![16384, 1024]⟩
abbrev S1024x1024 : Shape := ⟨2, ![1024, 1024]⟩
abbrev S512x1024 : Shape := ⟨2, ![512, 1024]⟩

abbrev nBuf : Space → Nat
  | .hbm => 7
  | .vmem => 5
  | .smem => 0
  | _ => 0

abbrev bufTy : (tb : Table) → Fin (tcTables nBuf tb) → BufTy
  | .hbm, ⟨0, _⟩ => ⟨S4x4096x1024, .f32⟩
  | .hbm, ⟨1, _⟩ => ⟨S1024x3072, .f32⟩
  | .hbm, ⟨2, _⟩ => ⟨S16384x1024, .f32⟩
  | .hbm, ⟨3, _⟩ => ⟨S1024x1024, .f32⟩
  | .hbm, ⟨4, _⟩ => ⟨S1024x1024, .bf16⟩
  | .hbm, ⟨5, _⟩ => ⟨S16384x1024, .bf16⟩
  | .hbm, ⟨6, _⟩ => ⟨S4x4096x1024, .bf16⟩
  | .local _ .vmem, ⟨0, _⟩ => ⟨S512x1024, .f32⟩
  | .local _ .vmem, ⟨1, _⟩ => ⟨S512x1024, .f32⟩
  | .local _ .vmem, ⟨2, _⟩ => ⟨S1024x1024, .bf16⟩
  | .local _ .vmem, ⟨3, _⟩ => ⟨S512x1024, .bf16⟩
  | .local _ .vmem, ⟨4, _⟩ => ⟨S512x1024, .bf16⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![32, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference8Ideal.lean ====
abbrev S4x4096x1024 : Shape := ⟨3, ![4, 4096, 1024]⟩
abbrev S1024x3072 : Shape := ⟨2, ![1024, 3072]⟩
abbrev S4x4096x3072 : Shape := ⟨3, ![4, 4096, 3072]⟩

abbrev nBuf : Space → Nat
  | .hbm => 5
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S1024x3072, .f32⟩
  | .hbm, ⟨2, _⟩ => ⟨S4x4096x3072, .f32⟩
  | .hbm, ⟨3, _⟩ => ⟨S4x4096x1024, .f32⟩
  | .hbm, ⟨4, _⟩ => ⟨S4x4096x1024, .bf16⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel9.lean ====
abbrev S4x4096x1024 : Shape := ⟨3, ![4, 4096, 1024]⟩
abbrev S1024x2608 : Shape := ⟨2, ![1024, 2608]⟩
abbrev S16384x1024 : Shape := ⟨2, ![16384, 1024]⟩
abbrev S1024x1024 : Shape := ⟨2, ![1024, 1024]⟩
abbrev S1024x16x64 : Shape := ⟨3, ![1024, 16, 64]⟩
abbrev S_ : Shape := ⟨0, ![]⟩
abbrev S1024x16x128 : Shape := ⟨3, ![1024, 16, 128]⟩
abbrev S1024x2048 : Shape := ⟨2, ![1024, 2048]⟩
abbrev S16384x2048 : Shape := ⟨2, ![16384, 2048]⟩
abbrev S512x1024 : Shape := ⟨2, ![512, 1024]⟩
abbrev S512x2048 : Shape := ⟨2, ![512, 2048]⟩
abbrev S4x4096x2048 : Shape := ⟨3, ![4, 4096, 2048]⟩

abbrev nBuf : Space → Nat
  | .hbm => 12
  | .vmem => 5
  | .smem => 0
  | _ => 0

abbrev bufTy : (tb : Table) → Fin (tcTables nBuf tb) → BufTy
  | .hbm, ⟨0, _⟩ => ⟨S4x4096x1024, .f32⟩
  | .hbm, ⟨1, _⟩ => ⟨S1024x2608, .f32⟩
  | .hbm, ⟨2, _⟩ => ⟨S16384x1024, .f32⟩
  | .hbm, ⟨3, _⟩ => ⟨S1024x1024, .f32⟩
  | .hbm, ⟨4, _⟩ => ⟨S1024x1024, .bf16⟩
  | .hbm, ⟨5, _⟩ => ⟨S1024x16x64, .bf16⟩
  | .hbm, ⟨6, _⟩ => ⟨S_, .i32⟩
  | .hbm, ⟨7, _⟩ => ⟨S_, .bf16⟩
  | .hbm, ⟨8, _⟩ => ⟨S1024x16x128, .bf16⟩
  | .hbm, ⟨9, _⟩ => ⟨S1024x2048, .bf16⟩
  | .hbm, ⟨10, _⟩ => ⟨S16384x2048, .bf16⟩
  | .hbm, ⟨11, _⟩ => ⟨S4x4096x2048, .bf16⟩
  | .local _ .vmem, ⟨0, _⟩ => ⟨S512x1024, .f32⟩
  | .local _ .vmem, ⟨1, _⟩ => ⟨S512x1024, .f32⟩
  | .local _ .vmem, ⟨2, _⟩ => ⟨S1024x2048, .bf16⟩
  | .local _ .vmem, ⟨3, _⟩ => ⟨S512x2048, .bf16⟩
  | .local _ .vmem, ⟨4, _⟩ => ⟨S512x2048, .bf16⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_c : Ref sig .tc := ⟨.hbm, 6, rfl⟩
abbrev main_call0_v0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![32, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1024x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference9Ideal.lean ====
abbrev S4x4096x1024 : Shape := ⟨3, ![4, 4096, 1024]⟩
abbrev S1024x2608 : Shape := ⟨2, ![1024, 2608]⟩
abbrev S4x4096x2608 : Shape := ⟨3, ![4, 4096, 2608]⟩
abbrev S4x4096x16x64 : Shape := ⟨4, ![4, 4096, 16, 64]⟩
abbrev S_ : Shape := ⟨0, ![]⟩
abbrev S4x4096x16x128 : Shape := ⟨4, ![4, 4096, 16, 128]⟩
abbrev S4x4096x2048 : Shape := ⟨3, ![4, 4096, 2048]⟩

abbrev nBuf : Space → Nat
  | .hbm => 10
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S1024x2608, .f32⟩
  | .hbm, ⟨2, _⟩ => ⟨S4x4096x2608, .f32⟩
  | .hbm, ⟨3, _⟩ => ⟨S4x4096x1024, .f32⟩
  | .hbm, ⟨4, _⟩ => ⟨S4x4096x16x64, .f32⟩
  | .hbm, ⟨5, _⟩ => ⟨S_, .f32⟩
  | .hbm, ⟨6, _⟩ => ⟨S4x4096x16x64, .f32⟩
  | .hbm, ⟨7, _⟩ => ⟨S4x4096x16x128, .f32⟩
  | .hbm, ⟨8, _⟩ => ⟨S4x4096x2048, .f32⟩
  | .hbm, ⟨9, _⟩ => ⟨S4x4096x2048, .bf16⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel10.lean ====
abbrev S4x4096x1024 : Shape := ⟨3, ![4, 4096, 1024]⟩
abbrev S1024x2608 : Shape := ⟨2, ![1024, 2608]⟩
abbrev S1024x48 : Shape := ⟨2, ![1024, 48]⟩
abbrev S_ : Shape := ⟨0, ![]⟩
abbrev S1024x128 : Shape := ⟨2, ![1024, 128]⟩
abbrev S16384x1024 : Shape := ⟨2, ![16384, 1024]⟩
abbrev S16384x128 : Shape := ⟨2, ![16384, 128]⟩
abbrev S512x1024 : Shape := ⟨2, ![512, 1024]⟩
abbrev S512x128 : Shape := ⟨2, ![512, 128]⟩
abbrev S16384x48 : Shape := ⟨2, ![16384, 48]⟩
abbrev S4x4096x3x4x4 : Shape := ⟨5, ![4, 4096, 3, 4, 4]⟩

abbrev nBuf : Space → Nat
  | .hbm => 11
  | .vmem => 5
  | .smem => 0
  | _ => 0

abbrev bufTy : (tb : Table) → Fin (tcTables nBuf tb) → BufTy
  | .hbm, ⟨0, _⟩ => ⟨S4x4096x1024, .f32⟩
  | .hbm, ⟨1, _⟩ => ⟨S1024x2608, .f32⟩
  | .hbm, ⟨2, _⟩ => ⟨S1024x48, .f32⟩
  | .hbm, ⟨3, _⟩ => ⟨S_, .i32⟩
  | .hbm, ⟨4, _⟩ => ⟨S_, .f32⟩
  | .hbm, ⟨5, _⟩ => ⟨S1024x128, .f32⟩
  | .hbm, ⟨6, _⟩ => ⟨S1024x128, .bf16⟩
  | .hbm, ⟨7, _⟩ => ⟨S16384x1024, .f32⟩
  | .hbm, ⟨8, _⟩ => ⟨S16384x128, .f32⟩
  | .hbm, ⟨9, _⟩ => ⟨S16384x48, .f32⟩
  | .hbm, ⟨10, _⟩ => ⟨S4x4096x3x4x4, .f32⟩
  | .local _ .vmem, ⟨0, _⟩ => ⟨S512x1024, .f32⟩
  | .local _ .vmem, ⟨1, _⟩ => ⟨S512x1024, .f32⟩
  | .local _ .vmem, ⟨2, _⟩ => ⟨S1024x128, .bf16⟩
  | .local _ .vmem, ⟨3, _⟩ => ⟨S512x128, .f32⟩
  | .local _ .vmem, ⟨4, _⟩ => ⟨S512x128, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_call0_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![32, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1024x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference10Ideal.lean ====
abbrev S4x4096x1024 : Shape := ⟨3, ![4, 4096, 1024]⟩
abbrev S1024x2608 : Shape := ⟨2, ![1024, 2608]⟩
abbrev S4x4096x2608 : Shape := ⟨3, ![4, 4096, 2608]⟩
abbrev S4x4096x48 : Shape := ⟨3, ![4, 4096, 48]⟩
abbrev S_ : Shape := ⟨0, ![]⟩
abbrev S4x4096x3x4x4 : Shape := ⟨5, ![4, 4096, 3, 4, 4]⟩

abbrev nBuf : Space → Nat
  | .hbm => 13
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S1024x2608, .f32⟩
  | .hbm, ⟨2, _⟩ => ⟨S4x4096x2608, .f32⟩
  | .hbm, ⟨3, _⟩ => ⟨S4x4096x48, .f32⟩
  | .hbm, ⟨4, _⟩ => ⟨S4x4096x48, .f32⟩
  | .hbm, ⟨5, _⟩ => ⟨S4x4096x48, .f32⟩
  | .hbm, ⟨6, _⟩ => ⟨S_, .f32⟩
  | .hbm, ⟨7, _⟩ => ⟨S4x4096x48, .f32⟩
  | .hbm, ⟨8, _⟩ => ⟨S4x4096x48, .f32⟩
  | .hbm, ⟨9, _⟩ => ⟨S_, .f32⟩
  | .hbm, ⟨10, _⟩ => ⟨S4x4096x48, .f32⟩
  | .hbm, ⟨11, _⟩ => ⟨S4x4096x48, .f32⟩
  | .hbm, ⟨12, _⟩ => ⟨S4x4096x3x4x4, .f32⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩
abbrev main_cst_0 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩

abbrev nD : Nat := 1
abbrev τ : Topo := Topo.v7x

variable {F : FTy → Type} [FloatOps F]
-- ==== Kernel11.lean ====
abbrev S4x4096x1536 : Shape := ⟨3, ![4, 4096, 1536]⟩
abbrev S2x32x64 : Shape := ⟨3, ![2, 32, 64]⟩
abbrev S2x2048x128 : Shape := ⟨3, ![2, 2048, 128]⟩
abbrev S2x128x64 : Shape := ⟨3, ![2, 128, 64]⟩
abbrev S2x2x16x64x128 : Shape := ⟨5, ![2, 2, 16, 64, 128]⟩
abbrev S2x16x64x2x128 : Shape := ⟨5, ![2, 16, 64, 2, 128]⟩
abbrev S2x16x64x256 : Shape := ⟨4, ![2, 16, 64, 256]⟩
abbrev S_ : Shape := ⟨0, ![]⟩
abbrev S2x16x64x512 : Shape := ⟨4, ![2, 16, 64, 512]⟩
abbrev S2x16x128x512 : Shape := ⟨4, ![2, 16, 128, 512]⟩
abbrev S2x8x256x512 : Shape := ⟨4, ![2, 8, 256, 512]⟩
abbrev S2x1x2048 : Shape := ⟨3, ![2, 1, 2048]⟩
abbrev S2x8x2048 : Shape := ⟨3, ![2, 8, 2048]⟩
abbrev S2x4x4x256x64 : Shape := ⟨5, ![2, 4, 4, 256, 64]⟩
abbrev S1x4096x128 : Shape := ⟨3, ![1, 4096, 128]⟩
abbrev S1x8x256x512 : Shape := ⟨4, ![1, 8, 256, 512]⟩
abbrev S1x8x2048 : Shape := ⟨3, ![1, 8, 2048]⟩
abbrev S1x2048x128 : Shape := ⟨3, ![1, 2048, 128]⟩
abbrev S1x128x64 : Shape := ⟨3, ![1, 128, 64]⟩
abbrev S1x1x2x256x64 : Shape := ⟨5, ![1, 1, 2, 256, 64]⟩
abbrev S8x2048 : Shape := ⟨2, ![8, 2048]⟩
abbrev S2048x128 : Shape := ⟨2, ![2048, 128]⟩
abbrev S8x128 : Shape := ⟨2, ![8, 128]⟩
abbrev S1x128 : Shape := ⟨2, ![1, 128]⟩
abbrev S128x64 : Shape := ⟨2, ![128, 64]⟩
abbrev S256x512 : Shape := ⟨2, ![256, 512]⟩
abbrev S4096x128 : Shape := ⟨2, ![4096, 128]⟩
abbrev S256x128 : Shape := ⟨2, ![256, 128]⟩
abbrev S256x256 : Shape := ⟨2, ![256, 256]⟩
abbrev S8x256x512 : Shape := ⟨3, ![8, 256, 512]⟩
abbrev S1x256x512 : Shape := ⟨3, ![1, 256, 512]⟩
abbrev S255x128 : Shape := ⟨2, ![255, 128]⟩
abbrev S256x64 : Shape := ⟨2, ![256, 64]⟩
abbrev S1x1x1x256x64 : Shape := ⟨5, ![1, 1, 1, 256, 64]⟩
abbrev S2x4x4x255x64 : Shape := ⟨5, ![2, 4, 4, 255, 64]⟩

abbrev nBuf : Space → Nat
  | .hbm => 21
  | .vmem => 12
  | .smem => 0
  | _ => 0

abbrev bufTy : (tb : Table) → Fin (tcTables nBuf tb) → BufTy
  | .hbm, ⟨0, _⟩ => ⟨S4x4096x1536, .f32⟩
  | .hbm, ⟨1, _⟩ => ⟨S2x32x64, .f32⟩
  | .hbm, ⟨2, _⟩ => ⟨S2x2048x128, .f32⟩
  | .hbm, ⟨3, _⟩ => ⟨S2x128x64, .f32⟩
  | .hbm, ⟨4, _⟩ => ⟨S2x2x16x64x128, .f32⟩
  | .hbm, ⟨5, _⟩ => ⟨S2x16x64x2x128, .f32⟩
  | .hbm, ⟨6, _⟩ => ⟨S2x16x64x256, .f32⟩
  | .hbm, ⟨7, _⟩ => ⟨S_, .f32⟩
  | .hbm, ⟨8, _⟩ => ⟨S2x16x64x256, .f32⟩
  | .hbm, ⟨9, _⟩ => ⟨S2x16x64x512, .f32⟩
  | .hbm, ⟨10, _⟩ => ⟨S2x16x64x512, .f32⟩
  | .hbm, ⟨11, _⟩ => ⟨S2x16x128x512, .f32⟩
  | .hbm, ⟨12, _⟩ => ⟨S2x8x256x512, .f32⟩
  | .hbm, ⟨13, _⟩ => ⟨S2x1x2048, .f32⟩
  | .hbm, ⟨14, _⟩ => ⟨S2x8x2048, .f32⟩
  | .hbm, ⟨15, _⟩ => ⟨S2x8x256x512, .bf16⟩
  | .hbm, ⟨16, _⟩ => ⟨S2x8x2048, .bf16⟩
  | .hbm, ⟨17, _⟩ => ⟨S2x2048x128, .bf16⟩
  | .hbm, ⟨18, _⟩ => ⟨S2x128x64, .bf16⟩
  | .hbm, ⟨19, _⟩ => ⟨S2x4x4x256x64, .bf16⟩
  | .hbm, ⟨20, _⟩ => ⟨S2x4x4x255x64, .bf16⟩
  | .local _ .vmem, ⟨0, _⟩ => ⟨S1x4096x128, .f32⟩
  | .local _ .vmem, ⟨1, _⟩ => ⟨S1x4096x128, .f32⟩
  | .local _ .vmem, ⟨2, _⟩ => ⟨S1x8x256x512, .bf16⟩
  | .local _ .vmem, ⟨3, _⟩ => ⟨S1x8x256x512, .bf16⟩
  | .local _ .vmem, ⟨4, _⟩ => ⟨S1x8x2048, .bf16⟩
  | .local _ .vmem, ⟨5, _⟩ => ⟨S1x8x2048, .bf16⟩
  | .local _ .vmem, ⟨6, _⟩ => ⟨S1x2048x128, .bf16⟩
  | .local _ .vmem, ⟨7, _⟩ => ⟨S1x2048x128, .bf16⟩
  | .local _ .vmem, ⟨8, _⟩ => ⟨S1x128x64, .bf16⟩
  | .local _ .vmem, ⟨9, _⟩ => ⟨S1x128x64, .bf16⟩
  | .local _ .vmem, ⟨10, _⟩ => ⟨S1x1x2x256x64, .bf16⟩
  | .local _ .vmem, ⟨11, _⟩ => ⟨S1x1x2x256x64, .bf16⟩
  | _, _ => ⟨S4x4096x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![2, 4, 2], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg0 c2_i32
  let v1 : BitVec 32 := Scalar.addi v0 arg2
  let c0_i32 : BitVec 32 := 0#32
  let c0_i32_0 : BitVec 32 := 0#32
  ![arg1.toNat, c0_i32.toNat, v1.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, arg2.toNat, c0_i32.toNat, c0_i32_0.toNat]

abbrev stage0_0 : Fin 2 → Memref sig .tc .vmem S1x4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x8x256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, false]

abbrev stage0_2 : Fin 2 → Memref sig .tc .vmem S1x8x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 2 → Memref sig .tc .vmem S1x2048x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]

abbrev stage0_4 : Fin 2 → Memref sig .tc .vmem S1x128x64 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, false]

abbrev stage0_5 : Fin 2 → Memref sig .tc .vmem S1x1x2x256x64 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]
-- ==== Reference11Ideal.lean ====
abbrev S4x4096x1536 : Shape := ⟨3, ![4, 4096, 1536]⟩
abbrev S2x32x64 : Shape := ⟨3, ![2, 32, 64]⟩
abbrev S2x2048x128 : Shape := ⟨3, ![2, 2048, 128]⟩
abbrev S2x128x64 : Shape := ⟨3, ![2, 128, 64]⟩
abbrev S4x4096x6x4x64 : Shape := ⟨5, ![4, 4096, 6, 4, 64]⟩
abbrev S4x4096x1x4x64 : Shape := ⟨5, ![4, 4096, 1, 4, 64]⟩
abbrev S4x4096x4x64 : Shape := ⟨4, ![4, 4096, 4, 64]⟩
abbrev S1x32x64 : Shape := ⟨3, ![1, 32, 64]⟩
abbrev S32x64 : Shape := ⟨2, ![32, 64]⟩
abbrev S1x2048x128 : Shape := ⟨3, ![1, 2048, 128]⟩
abbrev S2048x128 : Shape := ⟨2, ![2048, 128]⟩
abbrev S1x128x64 : Shape := ⟨3, ![1, 128, 64]⟩
abbrev S128x64 : Shape := ⟨2, ![128, 64]⟩
abbrev S4x256x16x4x64 : Shape := ⟨5, ![4, 256, 16, 4, 64]⟩
abbrev S2x16x64x128 : Shape := ⟨4, ![2, 16, 64, 128]⟩
abbrev S2x128x4x256x4 : Shape := ⟨5, ![2, 128, 4, 256, 4]⟩
abbrev S4x256x2x4x128 : Shape := ⟨5, ![4, 256, 2, 4, 128]⟩
abbrev S2048 : Shape := ⟨1, ![2048]⟩
abbrev S128 : Shape := ⟨1, ![128]⟩
abbrev S4x255x1x4x128 : Shape := ⟨5, ![4, 255, 1, 4, 128]⟩
abbrev S4x255x4x128 : Shape := ⟨4, ![4, 255, 4, 128]⟩
abbrev S1x1x1x128 : Shape := ⟨4, ![1, 1, 1, 128]⟩
abbrev S_ : Shape := ⟨0, ![]⟩
abbrev S4x255x4x64 : Shape := ⟨4, ![4, 255, 4, 64]⟩
abbrev S4x4x255x64 : Shape := ⟨4, ![4, 4, 255, 64]⟩
abbrev S1x4x4x255x64 : Shape := ⟨5, ![1, 4, 4, 255, 64]⟩
abbrev S2x4x4x255x64 : Shape := ⟨5, ![2, 4, 4, 255, 64]⟩

abbrev nBuf : Space → Nat
  | .hbm => 91
  | .vmem => 0
  | .smem => 0
  | _ => 0

abbrev bufTy : (tb : Table) → Fin (tcTables nBuf tb) → BufTy
  | .hbm, ⟨0, _⟩ => ⟨S4x4096x1536, .f32⟩
  | .hbm, ⟨1, _⟩ => ⟨S2x32x64, .f32⟩
  | .hbm, ⟨2, _⟩ => ⟨S2x2048x128, .f32⟩
  | .hbm, ⟨3, _⟩ => ⟨S2x128x64, .f32⟩
  | .hbm, ⟨4, _⟩ => ⟨S4x4096x6x4x64, .f32⟩
  | .hbm, ⟨5, _⟩ => ⟨S4x4096x1x4x64, .f32⟩
  | .hbm, ⟨6, _⟩ => ⟨S4x4096x4x64, .f32⟩
  | .hbm, ⟨7, _⟩ => ⟨S1x32x64, .f32⟩
  | .hbm, ⟨8, _⟩ => ⟨S32x64, .f32⟩
  | .hbm, ⟨9, _⟩ => ⟨S1x2048x128, .f32⟩
  | .hbm, ⟨10, _⟩ => ⟨S2048x128, .f32⟩
  | .hbm, ⟨11, _⟩ => ⟨S1x128x64, .f32⟩
  | .hbm, ⟨12, _⟩ => ⟨S128x64, .f32⟩
  | .hbm, ⟨13, _⟩ => ⟨S4x256x16x4x64, .f32⟩
  | .hbm, ⟨14, _⟩ => ⟨S2x16x64x128, .f32⟩
  | .hbm, ⟨15, _⟩ => ⟨S2x128x4x256x4, .f32⟩
  | .hbm, ⟨16, _⟩ => ⟨S4x256x2x4x128, .f32⟩
  | .hbm, ⟨17, _⟩ => ⟨S2048, .f32⟩
  | .hbm, ⟨18, _⟩ => ⟨S128, .f32⟩
  | .hbm, ⟨19, _⟩ => ⟨S4x255x1x4x128, .f32⟩
  | .hbm, ⟨20, _⟩ => ⟨S4x255x4x128, .f32⟩
  | .hbm, ⟨21, _⟩ => ⟨S1x1x1x128, .f32⟩
  | .hbm, ⟨22, _⟩ => ⟨S4x255x4x128, .f32⟩
  | .hbm, ⟨23, _⟩ => ⟨S4x255x4x128, .f32⟩
  | .hbm, ⟨24, _⟩ => ⟨S4x255x1x4x128, .f32⟩
  | .hbm, ⟨25, _⟩ => ⟨S4x255x4x128, .f32⟩
  | .hbm, ⟨26, _⟩ => ⟨S4x255x4x128, .f32⟩
  | .hbm, ⟨27, _⟩ => ⟨S4x255x4x128, .f32⟩
  | .hbm, ⟨28, _⟩ => ⟨S4x255x4x128, .f32⟩
  | .hbm, ⟨29, _⟩ => ⟨S_, .f32⟩
  | .hbm, ⟨30, _⟩ => ⟨S4x255x4x128, .f32⟩
  | .hbm, ⟨31, _⟩ => ⟨S4x255x4x128, .f32⟩
  | .hbm, ⟨32, _⟩ => ⟨S4x255x4x128, .f32⟩
  | .hbm, ⟨33, _⟩ => ⟨S_, .f32⟩
  | .hbm, ⟨34, _⟩ => ⟨S4x255x4x128, .f32⟩
  | .hbm, ⟨35, _⟩ => ⟨S4x255x4x128, .f32⟩
  | .hbm, ⟨36, _⟩ => ⟨S4x255x4x128, .f32⟩
  | .hbm, ⟨37, _⟩ => ⟨S_, .f32⟩
  | .hbm, ⟨38, _⟩ => ⟨S4x255x4x128, .f32⟩
  | .hbm, ⟨39, _⟩ => ⟨S4x255x4x128, .f32⟩
  | .hbm, ⟨40, _⟩ => ⟨S_, .f32⟩
  | .hbm, ⟨41, _⟩ => ⟨S4x255x4x128, .f32⟩
  | .hbm, ⟨42, _⟩ => ⟨S4x255x4x128, .f32⟩
  | .hbm, ⟨43, _⟩ => ⟨S4x255x4x128, .f32⟩
  | .hbm, ⟨44, _⟩ => ⟨S4x255x4x64, .f32⟩
  | .hbm, ⟨45, _⟩ => ⟨S4x4096x1x4x64, .f32⟩
  | .hbm, ⟨46, _⟩ => ⟨S4x4096x4x64, .f32⟩
  | .hbm, ⟨47, _⟩ => ⟨S1x32x64, .f32⟩
  | .hbm, ⟨48, _⟩ => ⟨S32x64, .f32⟩
  | .hbm, ⟨49, _⟩ => ⟨S1x2048x128, .f32⟩
  | .hbm, ⟨50, _⟩ => ⟨S2048x128, .f32⟩
  | .hbm, ⟨51, _⟩ => ⟨S1x128x64, .f32⟩
  | .hbm, ⟨52, _⟩ => ⟨S128x64, .f32⟩
  | .hbm, ⟨53, _⟩ => ⟨S4x256x16x4x64, .f32⟩
  | .hbm, ⟨54, _⟩ => ⟨S2x16x64x128, .f32⟩
  | .hbm, ⟨55, _⟩ => ⟨S2x128x4x256x4, .f32⟩
  | .hbm, ⟨56, _⟩ => ⟨S4x256x2x4x128, .f32⟩
  | .hbm, ⟨57, _⟩ => ⟨S2048, .f32⟩
  | .hbm, ⟨58, _⟩ => ⟨S128, .f32⟩
  | .hbm, ⟨59, _⟩ => ⟨S4x255x1x4x128, .f32⟩
  | .hbm, ⟨60, _⟩ => ⟨S4x255x4x128, .f32⟩
  | .hbm, ⟨61, _⟩ => ⟨S1x1x1x128, .f32⟩
  | .hbm, ⟨62, _⟩ => ⟨S4x255x4x128, .f32⟩
  | .hbm, ⟨63, _⟩ => ⟨S4x255x4x128, .f32⟩
  | .hbm, ⟨64, _⟩ => ⟨S4x255x1x4x128, .f32⟩
  | .hbm, ⟨65, _⟩ => ⟨S4x255x4x128, .f32⟩
  | .hbm, ⟨66, _⟩ => ⟨S4x255x4x128, .f32⟩
  | .hbm, ⟨67, _⟩ => ⟨S4x255x4x128, .f32⟩
  | .hbm, ⟨68, _⟩ => ⟨S4x255x4x128, .f32⟩
  | .hbm, ⟨69, _⟩ => ⟨S_, .f32⟩
  | .hbm, ⟨70, _⟩ => ⟨S4x255x4x128, .f32⟩
  | .hbm, ⟨71, _⟩ => ⟨S4x255x4x128, .f32⟩
  | .hbm, ⟨72, _⟩ => ⟨S4x255x4x128, .f32⟩
  | .hbm, ⟨73, _⟩ => ⟨S_, .f32⟩
  | .hbm, ⟨74, _⟩ => ⟨S4x255x4x128, .f32⟩
  | .hbm, ⟨75, _⟩ => ⟨S4x255x4x128, .f32⟩
  | .hbm, ⟨76, _⟩ => ⟨S4x255x4x128, .f32⟩
  | .hbm, ⟨77, _⟩ => ⟨S_, .f32⟩
  | .hbm, ⟨78, _⟩ => ⟨S4x255x4x128, .f32⟩
  | .hbm, ⟨79, _⟩ => ⟨S4x255x4x128, .f32⟩
  | .hbm, ⟨80, _⟩ => ⟨S_, .f32⟩
  | .hbm, ⟨81, _⟩ => ⟨S4x255x4x128, .f32⟩
  | .hbm, ⟨82, _⟩ => ⟨S4x255x4x128, .f32⟩
  | .hbm, ⟨83, _⟩ => ⟨S4x255x4x128, .f32⟩
  | .hbm, ⟨84, _⟩ => ⟨S4x255x4x64, .f32⟩
  | .hbm, ⟨85, _⟩ => ⟨S4x4x255x64, .f32⟩
  | .hbm, ⟨86, _⟩ => ⟨S4x4x255x64, .f32⟩
  | .hbm, ⟨87, _⟩ => ⟨S1x4x4x255x64, .f32⟩
  | .hbm, ⟨88, _⟩ => ⟨S1x4x4x255x64, .f32⟩
  | .hbm, ⟨89, _⟩ => ⟨S2x4x4x255x64, .f32⟩
  | .hbm, ⟨90, _⟩ => ⟨S2x4x4x255x64, .bf16⟩
  | _, _ => ⟨S4x4096x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_cst : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_cst_0 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_cst_1 : Ref sig .tc := ⟨.hbm, 37, rfl⟩
abbrev main_v31 : Ref sig .tc := ⟨.hbm, 38, rfl⟩
abbrev main_v32 : Ref sig .tc := ⟨.hbm, 39, rfl⟩
abbrev main_cst_2 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩
abbrev main_v47 : Ref sig .tc := ⟨.hbm, 55, rfl⟩
abbrev main_v48 : Ref sig .tc := ⟨.hbm, 56, rfl⟩
abbrev main_v49 : Ref sig .tc := ⟨.hbm, 57, rfl⟩
abbrev main_v50 : Ref sig .tc := ⟨.hbm, 58, rfl⟩
abbrev main_v51 : Ref sig .tc := ⟨.hbm, 59, rfl⟩
abbrev main_v52 : Ref sig .tc := ⟨.hbm, 60, rfl⟩
abbrev main_v53 : Ref sig .tc := ⟨.hbm, 61, rfl⟩
abbrev main_v54 : Ref sig .tc := ⟨.hbm, 62, rfl⟩
abbrev main_v55 : Ref sig .tc := ⟨.hbm, 63, rfl⟩
abbrev main_v56 : Ref sig .tc := ⟨.hbm, 64, rfl⟩
abbrev main_v57 : Ref sig .tc := ⟨.hbm, 65, rfl⟩
abbrev main_v58 : Ref sig .tc := ⟨.hbm, 66, rfl⟩
abbrev main_v59 : Ref sig .tc := ⟨.hbm, 67, rfl⟩
abbrev main_v60 : Ref sig .tc := ⟨.hbm, 68, rfl⟩
abbrev main_cst_3 : Ref sig .tc := ⟨.hbm, 69, rfl⟩
abbrev main_v61 : Ref sig .tc := ⟨.hbm, 70, rfl⟩
abbrev main_v62 : Ref sig .tc := ⟨.hbm, 71, rfl⟩
abbrev main_v63 : Ref sig .tc := ⟨.hbm, 72, rfl⟩
abbrev main_cst_4 : Ref sig .tc := ⟨.hbm, 73, rfl⟩
abbrev main_v64 : Ref sig .tc := ⟨.hbm, 74, rfl⟩
abbrev main_v65 : Ref sig .tc := ⟨.hbm, 75, rfl⟩
abbrev main_v66 : Ref sig .tc := ⟨.hbm, 76, rfl⟩
abbrev main_cst_5 : Ref sig .tc := ⟨.hbm, 77, rfl⟩
abbrev main_v67 : Ref sig .tc := ⟨.hbm, 78, rfl⟩
abbrev main_v68 : Ref sig .tc := ⟨.hbm, 79, rfl⟩
abbrev main_cst_6 : Ref sig .tc := ⟨.hbm, 80, rfl⟩
abbrev main_v69 : Ref sig .tc := ⟨.hbm, 81, rfl⟩
abbrev main_v70 : Ref sig .tc := ⟨.hbm, 82, rfl⟩
abbrev main_v71 : Ref sig .tc := ⟨.hbm, 83, rfl⟩
abbrev main_v72 : Ref sig .tc := ⟨.hbm, 84, rfl⟩
abbrev main_v73 : Ref sig .tc := ⟨.hbm, 85, rfl⟩
abbrev main_v74 : Ref sig .tc := ⟨.hbm, 86, rfl⟩
abbrev main_v75 : Ref sig .tc := ⟨.hbm, 87, rfl⟩
abbrev main_v76 : Ref sig .tc := ⟨.hbm, 88, rfl⟩
abbrev main_v77 : Ref sig .tc := ⟨.hbm, 89, rfl⟩
abbrev main_v78 : Ref sig .tc := ⟨.hbm, 90, rfl⟩

abbrev nD : Nat := 1
abbrev τ : Topo := Topo.v7x

variable {F : FTy → Type} [FloatOps F]
-- ==== Proof.BodyIdeal.lean ====
module

public import proofs.«01_k».proof.Proof.Gen.KernelIdeal.Frame
public import proofs.«01_k».proof.Proof.Gen.KernelIdeal.Loops
public import proofs.«01_k».proof.Proof.Gen.KernelIdeal.Skeleton
public import Idealize.ShloMosaic.Lib.Claim

/-!
# The attention kernel's body, idealized

What one grid point (a sequence, a head, a tile of 512 queries) computes, written as a function of the
blocks it is given, and the proof that the body leaves exactly that in its output block.

The body carries three values, the running maxima, the running sums and the running weighted values of
both attention maps, over the key chunks: the far chunks (a loop), the chunk just before the queries' own
(only where there is one) and the queries' own.
-/

@[expose] public section

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## What a grid point computes -/

/-- The running maxima, sums and weighted values. -/
abbrev Carry (F : FTy → Type) [FloatOps F] : Type := FVec F S1x1024 .f32 × FVec F S1x1024 .f32 × FVec F S128x1024 .f32

/-- Before the first chunk. -/
def start : Carry F := (k0_pay3 (F := F), k0_pay4 (F := F), k0_pay5 (F := F))

/-- One far chunk of keys `kk` and values `vv`. -/
def chunk (v0 kk vv : Vec F S1x512x128 .bf16) (a : Carry F) : Carry F :=
  (k0_pay7 v0 a.1 kk, k0_pay10 v0 a.1 a.2.1 kk, k0_pay11 v0 a.1 a.2.2 kk vv)

/-- The rows far chunk `k` reads. -/
abbrev rFar (i : grid0.Coords) (k : Fin (k0_t1_loop i).trips) : Rect S1x4096x128 :=
  Rect.unit (s := S1x4096x128) (k0_off1 i k) S1x512x128.size (k0_off1_inb i k)

/-- The carried values before far chunk `n`. -/
def far (i : grid0.Coords) (v0 : Vec F S1x512x128 .bf16) (x1 x2 : Vec F S1x4096x128 .bf16) : ℕ → Carry F
  | 0 => start
  | n + 1 => if h : n < (k0_t1_loop i).trips then
      chunk v0 (View.ld x1 (rFar i ⟨n, h⟩)) (View.ld x2 (rFar i ⟨n, h⟩)) (far i v0 x1 x2 n)
    else far i v0 x1 x2 n

/-- The rows the chunk just before the queries' own has. -/
abbrev rNear (i : grid0.Coords) (h : k0_cond1 i = 1#1) : Rect S1x4096x128 :=
  Rect.unit (s := S1x4096x128) (k0_off3 i) S1x512x128.size (k0_off3_inb i h)
/-- The rows of the queries' own chunk. -/
abbrev rOwn (i : grid0.Coords) : Rect S1x4096x128 :=
  Rect.unit (s := S1x4096x128) (k0_off4 i) S1x512x128.size (k0_off4_inb i)
/-- The bias tile of the chunk before, -/
abbrev rTile0 : Rect S2x1x512x1024 := Rect.unit (s := S2x1x512x1024) ![0, 0, 0, 0] S1x1x512x1024.size inb_S2x1x512x1024_S1x1x512x1024_0_0_0_0
/-- and of the queries' own. -/
abbrev rTile1 : Rect S2x1x512x1024 := Rect.unit (s := S2x1x512x1024) ![1, 0, 0, 0] S1x1x512x1024.size inb_S2x1x512x1024_S1x1x512x1024_1_0_0_0
/-- A whole block of queries. -/
abbrev rQ : Rect S1x512x128 := Rect.unit (s := S1x512x128) ![0, 0, 0] S1x512x128.size inb_S1x512x128_S1x512x128_0_0_0
/-- The whole block of lambda's factors. -/
abbrev rLam : Rect S4x64 := Rect.unit (s := S4x64) ![0, 0] S4x64.size inb_S4x64_S4x64_0_0
/-- The whole block of gains. -/
abbrev rG : Rect S128x1 := Rect.unit (s := S128x1) ![0, 0] S128x1.size inb_S128x1_S128x1_0_0

/-- The chunk just before the queries' own, with its bias tile `bb`. -/
def nearChunk (v0 kk vv : Vec F S1x512x128 .bf16) (bb : Vec F S1x1x512x1024 .f32) (a : Carry F) : Carry F :=
  (k0_pay19 v0 a.1 kk bb, k0_pay22 v0 a.1 a.2.1 kk bb, k0_pay23 v0 a.1 a.2.2 kk bb vv)

/-- The carried values after it, where there is one. -/
def near (i : grid0.Coords) (v0 : Vec F S1x512x128 .bf16) (x1 x2 : Vec F S1x4096x128 .bf16) (x3 : Vec F S2x1x512x1024 .f32) (a : Carry F) : Carry F :=
  if h : k0_cond1 i = 1#1 then
    nearChunk v0 (View.ld x1 (rNear i h)) (View.ld x2 (rNear i h)) (View.ld x3 rTile0) a
  else a

/-- The carried values before the queries' own chunk. -/
def before (i : grid0.Coords) (v0 : Vec F S1x512x128 .bf16) (x1 x2 : Vec F S1x4096x128 .bf16) (x3 : Vec F S2x1x512x1024 .f32) : Carry F :=
  near i v0 x1 x2 x3 (far i v0 x1 x2 (k0_t1_loop i).trips)

/-- The difference of the two maps' outputs after the queries' own chunk. -/
def diff (i : grid0.Coords) (v0 : Vec F S1x512x128 .bf16) (x1 x2 : Vec F S1x4096x128 .bf16) (x3 : Vec F S2x1x512x1024 .f32) (x4 : Vec F S4x64 .f32) : FVec F S128x512 .f32 :=
  k0_pay25 (before i v0 x1 x2 x3).1 (before i v0 x1 x2 x3).2.1 (before i v0 x1 x2 x3).2.2 (k0_pay24 v0 (View.ld x1 (rOwn i)))
    (View.ld x3 rTile1) (View.ld x2 (rOwn i)) (View.ld x4 rLam)

/-- The output block of grid point `i` from its input blocks. -/
def out (i : grid0.Coords) (x0 : Vec F S1x512x128 .bf16) (x1 x2 : Vec F S1x4096x128 .bf16) (x3 : Vec F S2x1x512x1024 .f32) (x4 : Vec F S4x64 .f32) (x5 : Vec F S128x1 .f32) : Vec F S1x512x128 .bf16 :=
  View.canon [⟨rQ, k0_pay1 (diff i (View.ld x0 rQ) x1 x2 x3 x4) (View.ld x5 rG)⟩]

/-- The store fills the block. -/
theorem out_cover (p : Vec F rQ.shape .bf16) (y : S1x512x128.Idx) :
    ∃ q ∈ ([⟨rQ, p⟩] : List (View.Piece (Elt F) S1x512x128 .bf16)), y ∈ q.1.set :=
  View.cover_of_tiled [⟨rQ, p⟩] S1x512x128.size (by rfl) y

/-! ## The loops -/

/-- The kernel's second loop, the remainder of an unrolling by one, makes no trip. -/
theorem trips2 (i : grid0.Coords) : (k0_t2_loop i).trips = 0 := by
  have h : ∀ n : Fin 8, (Scf.Loop.trips (w := 32)
      ⟨Scalar.addi 0#32 (Scalar.muli (Scalar.divsi (Scalar.subi (Scalar.maxsi (Scalar.subi (BitVec.ofNat 32 n.val) 1#32) 0#32) 0#32) 1#32) 1#32),
        Scalar.addi 0#32 (Scalar.subi (Scalar.maxsi (Scalar.subi (BitVec.ofNat 32 n.val) 1#32) 0#32) 0#32), 1#32⟩) = 0 := by decide +kernel
  exact h (i 2)

/-- The first loop's carried values are `far`. -/
theorem far_of_run (𝒱 : Variants) (c : Dev nD) (bd : Option 𝒱.V) (i : grid0.Coords) (arg3 : Memref sig .tc .vmem S1x512x128 .bf16) (harg3 : arg3.IsWhole) (arg4 : Memref sig .tc .vmem S1x4096x128 .bf16) (harg4 : arg4.IsWhole) (arg5 : Memref sig .tc .vmem S1x4096x128 .bf16) (harg5 : arg5.IsWhole) (arg6 : Memref sig .tc .vmem S2x1x512x1024 .f32) (harg6 : arg6.IsWhole) (arg7 : Memref sig .tc .vmem S4x64 .f32) (harg7 : arg7.IsWhole) (arg8 : Memref sig .tc .vmem S128x1 .f32) (harg8 : arg8.IsWhole) (arg9 : Memref sig .tc .vmem S1x512x128 .bf16) (harg9 : arg9.IsWhole) (v0 : Vec F S1x512x128 .bf16) (X4 : BufTy.Contents (Elt F) arg4.view.ty) (X5 : BufTy.Contents (Elt F) arg5.view.ty) (n : ℕ) (hn : n ≤ (k0_t1_loop i).trips) :
    st_k0_t1 (F := F) 𝒱 c bd i arg3 harg3 arg4 harg4 arg5 harg5 arg6 harg6 arg7 harg7 arg8 harg8 arg9 harg9 v0 X4 X5 (k0_pay3 (F := F), k0_pay4 (F := F), k0_pay5 (F := F)) n
      = far i v0 (arg4.view.read (Elt F) X4) (arg5.view.read (Elt F) X5) n := by
  induction n with
  | zero => rfl
  | succ n ih =>
    rw [st_k0_t1_succ (F := F) 𝒱 c bd i arg3 harg3 arg4 harg4 arg5 harg5 arg6 harg6 arg7 harg7 arg8 harg8 arg9 harg9 v0 X4 X5 _ ⟨n, hn⟩, ih (Nat.le_of_succ_le hn), far, dif_pos (show n < (k0_t1_loop i).trips from hn)]
    unfold tripR_k0_t1 trip_k0_t1
    rfl

/-! ## The body's triple -/

set_option maxHeartbeats 1000000 in
/-- On whole staging memrefs the body leaves its inputs as they were and `out` in the output block. -/
theorem sound_kernel (c : Dev nD) (E : Set ℕ) (i : grid0.Coords) (arg3 : Memref sig .tc .vmem S1x512x128 .bf16) (harg3 : arg3.IsWhole) (arg4 : Memref sig .tc .vmem S1x4096x128 .bf16) (harg4 : arg4.IsWhole) (arg5 : Memref sig .tc .vmem S1x4096x128 .bf16) (harg5 : arg5.IsWhole) (arg6 : Memref sig .tc .vmem S2x1x512x1024 .f32) (harg6 : arg6.IsWhole) (arg7 : Memref sig .tc .vmem S4x64 .f32) (harg7 : arg7.IsWhole) (arg8 : Memref sig .tc .vmem S128x1 .f32) (harg8 : arg8.IsWhole) (arg9 : Memref sig .tc .vmem S1x512x128 .bf16) (harg9 : arg9.IsWhole)
    (x0 : Vec F S1x512x128 .bf16) (x1 x2 : Vec F S1x4096x128 .bf16) (x3 : Vec F S2x1x512x1024 .f32) (x4 : Vec F S4x64 .f32) (x5 : Vec F S128x1 .f32) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ (∃ d, owns (c : Thread nD τ) arg9 fullShare d)
        ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare (out i x0 x1 x2 x3 x4 x5)) -∗ K ⟨⟩))
      ⊢ wp frame (wpE (defs₀ (F := F)) Variants.none c none) E (cc0_diff_prompt_attention i arg3 harg3 arg4 harg4 arg5 harg5 arg6 harg6 arg7 harg7 arg8 harg8 arg9 harg9) K := by
  by_cases hc : k0_cond1 i = 1#1
  all_goals
    simp only [cc0_diff_prompt_attention_eq_skeleton]
    unfold cc0_diff_prompt_attention_skel
    rw [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
    subst hf0 hf1 hf2 hf3 hf4 hf5
    sl_exec (disch := first | sl_exact hc)
    sl_step
    iapply Hk
    isplitl [H0]
    · iexists f0; isplitr; · ipureintro; rfl
      iexact H0
    isplitl [H1]
    · iexists f1; isplitr; · ipureintro; rfl
      iexact H1
    isplitl [H2]
    · iexists f2; isplitr; · ipureintro; rfl
      iexact H2
    isplitl [H3]
    · iexists f3; isplitr; · ipureintro; rfl
      iexact H3
    isplitl [H4]
    · iexists f4; isplitr; · ipureintro; rfl
      iexact H4
    isplitl [H5]
    · iexists f5; isplitr; · ipureintro; rfl
      iexact H5
    iexists _; isplitr; swap; · iexact H6
    ipureintro
    refine (View.read_writes_eq_canon _ _ _ (out_cover _)).trans ?_
  · unfold sound_kernel.sl.r_4 sound_kernel.sl.r sound_kernel.sl.r_1 sound_kernel.sl.r_2 sound_kernel.sl.r_3
    have t2 := trips2 i
    dsimp only [k0_t2_loop, Scf.Loop.trips] at t2
    simp only [t2, st_k0_t2_zero, far_of_run _ _ _ _ _ _ _ _ _ _ _ _ _ _ _ _ _ _ _ _ _ _ le_rfl]
    unfold out diff before near
    simp only [dif_pos hc]
    rfl
  · unfold sound_kernel.sl.r_9 sound_kernel.sl.r_5 sound_kernel.sl.r_6 sound_kernel.sl.r_7 sound_kernel.sl.r_8
    have t2 := trips2 i
    dsimp only [k0_t2_loop, Scf.Loop.trips] at t2
    simp only [t2, st_k0_t2_zero, far_of_run _ _ _ _ _ _ _ _ _ _ _ _ _ _ _ _ _ _ _ _ _ _ le_rfl]
    unfold out diff before near
    simp only [dif_neg hc]
    rfl

/-! ## The launch -/

/-- What each window's array holds before the launch and each block after the body. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => out (grid0.coords t) (iblk m c 0 t) (iblk m c 1 t) (iblk m c 2 t) (iblk m c 3 t) (iblk m c 4 t) (iblk m c 5 t)
  Φ _ := Pipeline.ΦA spec0 c
  q w := Pipeline.shareOf spec0 w
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = out (grid0.coords t) (iblk m c 0 t) (iblk m c 1 t) (iblk m c 2 t) (iblk m c 3 t) (iblk m c 4 t) (iblk m c 5 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-- What the body is given at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d)))

/-- and what it gives back. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel c Set.univ (grid0.coords t) _ _ _ _ _ _ _ _ _ _ _ _ _ _ (iblk m c 0 t) (iblk m c 1 t) (iblk m c 2 t) (iblk m c 3 t) (iblk m c 4 t) (iblk m c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
set_option maxHeartbeats 800000 in
/-- The launch, and every semaphore counter at zero at its end. -/
theorem run_main_quiescent : θ_run defs (onTc (τ := τ) (main (F := F))) (s₀ m ρ) (fun r => (Pipeline.FramePost cfgs (dats m) 0 (V m)) r ∧ r.2.sem = fun _ => 0) :=
  Pipeline.θ_run_frame_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hΦ := fun _ _ => rfl)

theorem run_main : θ_run defs (onTc (τ := τ) (main (F := F))) (s₀ m ρ) (Pipeline.FramePost cfgs (dats m) 0 (V m)) :=
  (θ_run defs _ _).mono (fun _ h => h.1) (run_main_quiescent m ρ)

theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (A_eq m) (run_main m ρ)

/-- The kernel runs, leaves its arguments as they were and its semaphores at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (unchanged m ρ) ((θ_run defs _ _).mono (fun _ h => h.2) (run_main_quiescent m ρ))

end Cert.KernelIdeal.Body

end
-- ==== Proof.Bias.lean ====
/- The bucket of a distance between a query and a key, as a word, and the row of the bias table it names: both
   programs compute it with the same operations. Past 512 it is the last row. -/
module

public import Idealize.ShloMosaic.Lib.Pipeline.ValueKit
public import Idealize.ShloMosaic.Lib.Pointwise
public import Idealize.ShloMosaic.Lib.WordCmp

@[expose] public section

noncomputable section

open Idealize.ShloMosaic
open scoped BigOperators

namespace Cert.Bias

/-- The logarithmic part of the bucket of a non-negative distance. -/
def large (n : BitVec 32) : BitVec 32 :=
  FloatOps.fptosi (F := Ideal) (φ := .f32) 32
    (Ideal.div (Ideal.log (Ideal.div (FloatOps.sitofp (F := Ideal) .f32 (IntOp.maxsi n 1#32)) (Ideal.ofBits .f32 0x41800000#32)))
      (Ideal.ofBits .f32 0x40051592#32) * Ideal.ofBits .f32 0x41800000#32)

/-- The bucket of a distance. -/
def bucket (d : BitVec 32) : BitVec 32 :=
  Scalar.select (IntOp.cmpi .slt (IntOp.maxsi d 0#32) 16#32) (IntOp.maxsi d 0#32)
    (IntOp.minsi (IntOp.addi 16#32 (large (IntOp.maxsi d 0#32))) 31#32)

/-- A row number as a table is indexed with it, negative ones counting from the end. -/
def wrap (b : BitVec 32) : BitVec 32 := Scalar.select (IntOp.cmpi .slt b 0#32) (IntOp.addi b 32#32) b

/-- The row of the table a distance names. -/
def row (d : BitVec 32) : Fin 32 := ⟨min (wrap (bucket d)).toInt.toNat 31, by omega⟩

theorem word_int (n : ℕ) (h : n < 2 ^ 31) : (BitVec.ofNat 32 n).toInt = (n : ℤ) := by
  rw [BitVec.toInt_eq_toNat_of_lt, BitVec.toNat_ofNat, Nat.mod_eq_of_lt (by omega)]
  rw [BitVec.toNat_ofNat, Nat.mod_eq_of_lt (by omega)]; omega

theorem large_far (d : ℕ) (h : 513 ≤ d) (h' : d < 4096) :
    ∃ z : ℕ, 15 ≤ z ∧ z ≤ 5000 ∧ large (BitVec.ofNat 32 d) = BitVec.ofNat 32 z := by
  have e1 : IntOp.maxsi (BitVec.ofNat 32 d) 1#32 = BitVec.ofNat 32 d := by
    unfold IntOp.maxsi
    rw [if_pos]
    simp only [BitVec.slt, decide_eq_true_eq]
    rw [word_int _ (by omega), word_int _ (by omega)]; omega
  have e2 : (BitVec.ofNat 32 d).toInt = (d : ℤ) := word_int d (by omega)
  have c16 : Ideal.ofBits .f32 0x41800000#32 = ((16 : ℝ) : EReal) := by
    simp [Ideal.ofBits, Ideal.ieee, -EReal.coe_mul]; norm_num
  have cln : Ideal.ofBits .f32 0x40051592#32 = ((8721810 / 4194304 : ℝ) : EReal) := by
    simp [Ideal.ofBits, Ideal.ieee, -EReal.coe_mul]; norm_num
  have hd : (513 : ℝ) ≤ d := by exact_mod_cast h
  have hd' : (d : ℝ) < 4096 := by exact_mod_cast h'
  have hlog : 2.5 ≤ Real.log ((d : ℝ) * (1 / 16)) := by
    have h5 : Real.log 32 ≤ Real.log ((d : ℝ) * (1 / 16)) := Real.log_le_log (by norm_num) (by linarith)
    have : Real.log 32 = 5 * Real.log 2 := by
      rw [show (32 : ℝ) = 2 ^ 5 by norm_num, Real.log_pow]; norm_num
    have := Real.one_sub_inv_le_log_of_pos (x := 2) (by norm_num)
    norm_num at this
    linarith
  have hlog' : Real.log ((d : ℝ) * (1 / 16)) ≤ 256 := by
    have := Real.log_le_sub_one_of_pos (x := (d : ℝ) * (1 / 16)) (by linarith)
    linarith
  generalize hv : Real.log ((d : ℝ) * (1 / 16)) = v at *
  have hval : Ideal.div (Ideal.log (Ideal.div (FloatOps.sitofp (F := Ideal) .f32 (IntOp.maxsi (BitVec.ofNat 32 d) 1#32))
      (Ideal.ofBits .f32 0x41800000#32))) (Ideal.ofBits .f32 0x40051592#32) * Ideal.ofBits .f32 0x41800000#32
      = ((v * (1 / (8721810 / 4194304)) * 16 : ℝ) : EReal) := by
    rw [e1, c16, cln]
    change Ideal.div (Ideal.log (Ideal.div ((((BitVec.ofNat 32 d).toInt : ℝ)) : EReal) ((16 : ℝ) : EReal))) _ * _ = _
    rw [e2, Int.cast_natCast, Ideal.div_coe (y := 16) (by norm_num), ← EReal.coe_mul, Ideal.log_coe, if_neg (by push Not; linarith), hv,
      Ideal.div_coe (by norm_num), ← EReal.coe_mul, ← EReal.coe_mul]
  have hx : (15 : ℝ) ≤ v * (1 / (8721810 / 4194304)) * 16 := by norm_num; linarith
  have hx' : v * (1 / (8721810 / 4194304)) * 16 ≤ 5000 := by norm_num; linarith
  generalize v * (1 / (8721810 / 4194304)) * 16 = x at *
  refine ⟨⌊x⌋.toNat, ?_, ?_, ?_⟩
  · have : (15 : ℤ) ≤ ⌊x⌋ := Int.le_floor.2 (by exact_mod_cast hx)
    omega
  · have : ⌊x⌋ ≤ (5000 : ℤ) := by
      have := Int.floor_le x
      exact_mod_cast le_trans this hx'
    omega
  · have g1 : (15 : ℤ) ≤ ⌊x⌋ := Int.le_floor.2 (by exact_mod_cast hx)
    have g2 : ⌊x⌋ ≤ (5000 : ℤ) := by
      have := Int.floor_le x
      exact_mod_cast le_trans this hx'
    unfold large
    rw [hval]
    change BitVec.ofInt 32 (max (-(2 ^ (32 - 1) : ℕ)) (min ((2 ^ (32 - 1) : ℕ) - 1) (if 0 ≤ x then ⌊x⌋ else ⌈x⌉))) = _
    rw [if_pos (by linarith)]
    have : max (-((2 ^ (32 - 1) : ℕ) : ℤ)) (min (((2 ^ (32 - 1) : ℕ) : ℤ) - 1) ⌊x⌋) = ((⌊x⌋.toNat : ℕ) : ℤ) := by
      rw [min_eq_right (by norm_num; omega), max_eq_right (by norm_num; omega)]; omega
    rw [this]
    exact BitVec.ofInt_natCast 32 _

/-- Past 512 every distance has the last row. -/
theorem row_far (d : ℕ) (h : 513 ≤ d) (h' : d < 4096) : row (BitVec.ofNat 32 d) = 31 := by
  obtain ⟨z, z1, z2, hz⟩ := large_far d h h'
  have e0 : IntOp.maxsi (BitVec.ofNat 32 d) 0#32 = BitVec.ofNat 32 d := by
    unfold IntOp.maxsi
    rw [if_pos]
    simp only [BitVec.slt, decide_eq_true_eq]
    rw [word_int _ (by omega), word_int _ (by omega)]; omega
  have e1 : bucket (BitVec.ofNat 32 d) = 31#32 := by
    unfold bucket
    rw [e0, hz]
    have c : IntOp.cmpi .slt (BitVec.ofNat 32 d) 16#32 = 0#1 := by
      have : (BitVec.ofNat 32 d).slt 16#32 = false := by
        simp only [BitVec.slt, decide_eq_false_iff_not]
        rw [word_int _ (by omega), word_int _ (by omega)]; omega
      unfold IntOp.cmpi; simp only [this]; rfl
    rw [c, show ∀ a b : BitVec 32, Scalar.select 0#1 a b = b from fun a b => if_neg (by decide)]
    unfold IntOp.minsi IntOp.addi
    by_cases hs : (16#32 + BitVec.ofNat 32 z).slt 31#32
    · exfalso
      rw [show (16#32 + BitVec.ofNat 32 z) = BitVec.ofNat 32 (16 + z) from (BitVec.ofNat_add _ _).symm] at hs
      simp only [BitVec.slt, decide_eq_true_eq] at hs
      rw [word_int _ (by omega), word_int _ (by omega)] at hs; omega
    · rw [if_neg hs]
  refine Fin.ext ?_
  show min (wrap (bucket (BitVec.ofNat 32 d))).toInt.toNat 31 = 31
  rw [e1]
  decide

/-- Rows of a table taken at a column of row numbers. -/
theorem gather_rows {α : Type} {N C B : ℕ} (hN : 0 < N)
    (wf : GatherDims.WF ⟨2, ![N, C]⟩ ⟨2, ![B, 1]⟩ ⟨2, ![B, C]⟩ [1] [0] [] [0] [] 1 ![1, C])
    (x : (⟨2, ![N, C]⟩ : Shape).Idx → α) (idx : IVec ⟨2, ![B, 1]⟩ 32) (b : Fin B) (y : Fin C) :
    Host.gather (⟨[1], [0], [], [], [0], 1, ![1, C], wf⟩ : GatherDims ⟨2, ![N, C]⟩ ⟨2, ![B, 1]⟩ ⟨2, ![B, C]⟩) x idx (ix2 b y)
      = x (ix2 ⟨min (idx (ix2 b 0)).toInt.toNat (N - 1), by omega⟩ y) := by
  unfold Host.gather
  refine congrArg x (funext fun a => Fin.ext ?_)
  generalize hd : (⟨[1], [0], [], [], [0], 1, ![1, C], wf⟩ : GatherDims ⟨2, ![N, C]⟩ ⟨2, ![B, 1]⟩ ⟨2, ![B, C]⟩) = d
  show d.start (ix2 b y) idx a + d.batchCoord (ix2 b y) a + d.offCoord (ix2 b y) a = _
  subst hd
  match a with
  | ⟨0, _⟩ =>
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    refine (dif_pos (List.mem_singleton.mpr rfl)).trans ?_
    refine congrArg (fun i => min (idx i).toInt.toNat (N - 1)) (funext fun b' => Fin.ext ?_)
    match b' with
    | ⟨0, _⟩ => rfl
    | ⟨1, _⟩ => rfl
  | ⟨1, _⟩ =>
    rw [GatherDims.batchCoord_eq_zero _ _ _ List.not_mem_nil]
    unfold GatherDims.start GatherDims.offCoord
    rw [dif_neg (fun h => by simp at h), dif_pos ((GatherDims.mem_sKept _ _).mpr ⟨fun h => by simp at h, List.not_mem_nil⟩),
      Nat.zero_add]
    rfl

/-- Slabs of a table taken at an array of row numbers. -/
theorem gather_slabs {α : Type} {N C D A B : ℕ} (hN : 0 < N)
    (wf : GatherDims.WF ⟨3, ![N, C, D]⟩ ⟨3, ![A, B, 1]⟩ ⟨4, ![A, B, C, D]⟩ [2, 3] [0] [] [0] [] 2 ![1, C, D])
    (x : (⟨3, ![N, C, D]⟩ : Shape).Idx → α) (idx : IVec ⟨3, ![A, B, 1]⟩ 32) (a : Fin A) (b : Fin B) (y : Fin C) (z : Fin D) :
    Host.gather (⟨[2, 3], [0], [], [], [0], 2, ![1, C, D], wf⟩ : GatherDims ⟨3, ![N, C, D]⟩ ⟨3, ![A, B, 1]⟩ ⟨4, ![A, B, C, D]⟩)
        x idx (ix4 a b y z)
      = x (ix3 ⟨min (idx (ix3 a b 0)).toInt.toNat (N - 1), by omega⟩ y z) := by
  unfold Host.gather
  refine congrArg x (funext fun o => Fin.ext ?_)
  generalize hd : (⟨[2, 3], [0], [], [], [0], 2, ![1, C, D], wf⟩ : GatherDims ⟨3, ![N, C, D]⟩ ⟨3, ![A, B, 1]⟩ ⟨4, ![A, B, C, D]⟩) = d
  show d.start (ix4 a b y z) idx o + d.batchCoord (ix4 a b y z) o + d.offCoord (ix4 a b y z) o = _
  subst hd
  match o with
  | ⟨0, _⟩ =>
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    refine (dif_pos (List.mem_singleton.mpr rfl)).trans ?_
    refine congrArg (fun i => min (idx i).toInt.toNat (N - 1)) (funext fun b' => Fin.ext ?_)
    match b' with
    | ⟨0, _⟩ => rfl
    | ⟨1, _⟩ => rfl
    | ⟨2, _⟩ => rfl
  | ⟨1, _⟩ =>
    rw [GatherDims.batchCoord_eq_zero _ _ _ List.not_mem_nil]
    unfold GatherDims.start GatherDims.offCoord
    rw [dif_neg (fun h => by simp at h), dif_pos ((GatherDims.mem_sKept _ _).mpr ⟨fun h => by simp at h, List.not_mem_nil⟩),
      Nat.zero_add]
    rfl
  | ⟨2, _⟩ =>
    rw [GatherDims.batchCoord_eq_zero _ _ _ List.not_mem_nil]
    unfold GatherDims.start GatherDims.offCoord
    rw [dif_neg (fun h => by simp at h), dif_pos ((GatherDims.mem_sKept _ _).mpr ⟨fun h => by simp at h, List.not_mem_nil⟩),
      Nat.zero_add]
    rfl

end Cert.Bias
-- ==== Proof.Softmax.lean ====
/- Softmax taken chunk by chunk: what the running maximum, the running sum and a running weighted value are after
   some chunks of scores, and that their quotient at the end is the weighted mean. Scores are extended reals, a
   masked one being minus infinity; weights and values are real numbers. -/
module

public import Idealize.ShloMosaic.Lib.Pipeline.ValueKit
public import Idealize.ShloMosaic.Lib.Pointwise

@[expose] public section

noncomputable section

open Idealize.ShloMosaic
open scoped BigOperators

namespace Cert.Softmax

/-- The bit pattern of minus infinity. -/
theorem bot_bits : Ideal.ofBits .f32 0xFF800000#32 = (⊥ : EReal) := by
  simp [Ideal.ofBits, Ideal.ieee]

/-- The bit pattern of 1e-30 is a real number between 0 and 1. -/
theorem tiny_bits : ∃ ε : ℝ, Ideal.ofBits .f32 0x0DA24260#32 = (ε : EReal) ∧ 0 ≤ ε ∧ ε ≤ 1 := by
  refine ⟨_, by simp [Ideal.ofBits, Ideal.ieee, -EReal.coe_mul]; rfl, ?_, ?_⟩ <;> norm_num

theorem coe_max (a b : ℝ) : ((max a b : ℝ) : EReal) = max (a : EReal) (b : EReal) :=
  EReal.coe_strictMono.monotone.map_max

/-- The maximum of the entries of a chunk, with the maximum so far. -/
def top {n : ℕ} (m : EReal) (s : Fin n → EReal) : EReal :=
  max m (Finset.univ.fold max (Ideal.ofBits .f32 0xFF800000#32) s)

/-- A fold of maxima from minus infinity is attained. -/
theorem fold_attained {n : ℕ} (s : Fin n → EReal) (hne : ∃ c, s c ≠ ⊥) :
    ∃ c, Finset.univ.fold max (Ideal.ofBits .f32 0xFF800000#32) s = s c ∧ s c ≠ ⊥ ∧ ∀ d, s d ≤ s c := by
  obtain ⟨c0, h0⟩ := hne
  obtain ⟨c, -, hc⟩ := Finset.exists_max_image Finset.univ s ⟨c0, Finset.mem_univ _⟩
  refine ⟨c, le_antisymm ?_ ?_, ?_, fun d => hc d (Finset.mem_univ _)⟩
  · rw [Finset.fold_max_le]
    exact ⟨by rw [bot_bits]; exact bot_le, fun d hd => hc d hd⟩
  · rw [Finset.le_fold_max]
    exact Or.inr ⟨c, Finset.mem_univ _, le_refl _⟩
  · intro h
    exact h0 (le_bot_iff.1 (h ▸ hc c0 (Finset.mem_univ _)))

/-- A sum of real numbers read as extended reals. -/
theorem sum_coe {n : ℕ} (f : Fin n → EReal) (g : Fin n → ℝ) (h : ∀ c, f c = (g c : EReal)) :
    ∑ c, f c = ((∑ c, g c : ℝ) : EReal) := by
  simp only [h]
  induction n with
  | zero => simp
  | succ n ih =>
    rw [Fin.sum_univ_succ, Fin.sum_univ_succ, EReal.coe_add, ih (fun c => f c.succ) (fun c => g c.succ) (fun c => h _)]

/-- A score and its weight: masked, or a real number `x` and `2 ^ x`. -/
def Weighs (s : EReal) (w : ℝ) : Prop := (s = ⊥ ∧ w = 0) ∨ ∃ x : ℝ, s = (x : EReal) ∧ w = Real.rpow 2 x

theorem Weighs.nonneg {s : EReal} {w : ℝ} (h : Weighs s w) : 0 ≤ w := by
  rcases h with ⟨-, rfl⟩ | ⟨x, -, rfl⟩
  · exact le_refl _
  · exact Real.rpow_nonneg (by norm_num) _

/-- A weight relative to a real maximum. -/
theorem Weighs.exp2_sub {s : EReal} {w : ℝ} (h : Weighs s w) (M : ℝ) :
    Ideal.exp2 (s - (M : EReal)) = ((w * Real.rpow 2 (-M) : ℝ) : EReal) := by
  rcases h with ⟨rfl, rfl⟩ | ⟨x, rfl, rfl⟩
  · rw [EReal.bot_sub]; simp
  · rw [← EReal.coe_sub, Ideal.exp2_coe]
    congr 1
    rw [sub_eq_add_neg]
    exact Real.rpow_add (by norm_num) _ _

/-- After chunks of total weight `L` and total weighted value `A`: nothing yet, or a real maximum `M` and both
    totals relative to it, the total weight then at least that of the maximum. -/
def Ok (m l a : EReal) (L A : ℝ) : Prop :=
  (m = ⊥ ∧ l = 0 ∧ a = 0 ∧ L = 0 ∧ A = 0) ∨
  ∃ M : ℝ, m = (M : EReal) ∧ l = ((L * Real.rpow 2 (-M) : ℝ) : EReal) ∧ a = ((A * Real.rpow 2 (-M) : ℝ) : EReal)
    ∧ 1 ≤ L * Real.rpow 2 (-M)

/-- One more chunk of scores. -/
theorem Ok.step {n : ℕ} {m l a : EReal} {L A : ℝ} (h : Ok m l a L A) (s : Fin n → EReal) (w : Fin n → ℝ)
    (v : Fin n → EReal) (u : Fin n → ℝ) (hs : ∀ c, Weighs (s c) (w c)) (hne : ∃ c, s c ≠ ⊥)
    (hv : ∀ c, v c = (u c : EReal)) :
    (∃ M : ℝ, top m s = (M : EReal)) ∧
    Ok (top m s) (Ideal.exp2 (m - top m s) * l + ∑ c, Ideal.exp2 (s c - top m s))
      (Ideal.exp2 (m - top m s) * a + ∑ c, v c * Ideal.exp2 (s c - top m s))
      (L + ∑ c, w c) (A + ∑ c, u c * w c) := by
  obtain ⟨c, hc, hcb, hmax⟩ := fold_attained s hne
  obtain ⟨x, hx, hw⟩ : ∃ x : ℝ, s c = (x : EReal) ∧ w c = Real.rpow 2 x := by
    rcases hs c with ⟨h1, -⟩ | h1
    · exact absurd h1 hcb
    · exact h1
  have pow_neg : ∀ y : ℝ, Real.rpow 2 y * Real.rpow 2 (-y) = 1 := fun y => by
    have := Real.rpow_add (x := 2) (by norm_num) y (-y)
    rw [add_neg_cancel, Real.rpow_zero] at this
    exact this.symm
  have wsum : w c ≤ ∑ d, w d := Finset.single_le_sum (fun d _ => (hs d).nonneg) (Finset.mem_univ c)
  have w0 : 0 ≤ ∑ d, w d := Finset.sum_nonneg fun d _ => (hs d).nonneg
  have pos : ∀ y : ℝ, 0 < Real.rpow 2 y := fun y => Real.rpow_pos_of_pos (by norm_num) y
  have key : ∀ M : ℝ, ∑ d, Ideal.exp2 (s d - (M : EReal)) = (((∑ d, w d) * Real.rpow 2 (-M) : ℝ) : EReal) := fun M => by
    rw [sum_coe _ (fun d => w d * Real.rpow 2 (-M)) fun d => (hs d).exp2_sub M, Finset.sum_mul]
  have keyv : ∀ M : ℝ, ∑ d, v d * Ideal.exp2 (s d - (M : EReal))
      = (((∑ d, u d * w d) * Real.rpow 2 (-M) : ℝ) : EReal) := fun M => by
    rw [sum_coe _ (fun d => u d * w d * Real.rpow 2 (-M)) fun d => by
      rw [(hs d).exp2_sub M, hv, ← EReal.coe_mul, mul_assoc], Finset.sum_mul]
  have htop : top m s = max m (x : EReal) := by rw [top, hc, hx]
  rw [htop]
  rcases h with ⟨rfl, rfl, rfl, rfl, rfl⟩ | ⟨M, rfl, rfl, rfl, h1⟩
  · rw [max_eq_right bot_le]
    refine ⟨⟨x, rfl⟩, Or.inr ⟨x, rfl, ?_, ?_, ?_⟩⟩
    · rw [key, mul_zero, zero_add, zero_add]
    · rw [keyv, mul_zero, zero_add, zero_add]
    · rw [zero_add, ← pow_neg x, ← hw]
      exact mul_le_mul_of_nonneg_right wsum (pos _).le
  · rw [← coe_max]
    refine ⟨⟨_, rfl⟩, ?_⟩
    generalize hM : max M x = M'
    have scale : ∀ z : ℝ, Ideal.exp2 ((M : EReal) - (M' : EReal)) * ((z * Real.rpow 2 (-M) : ℝ) : EReal)
        = ((z * Real.rpow 2 (-M') : ℝ) : EReal) := fun z => by
      rw [Weighs.exp2_sub (Or.inr ⟨M, rfl, rfl⟩) M', ← EReal.coe_mul]
      congr 1
      have := pow_neg M
      calc _ = z * Real.rpow 2 (-M') * (Real.rpow 2 M * Real.rpow 2 (-M)) := by ring
        _ = _ := by rw [this, mul_one]
    refine Or.inr ⟨M', rfl, ?_, ?_, ?_⟩
    · rw [key, scale, ← EReal.coe_add, ← add_mul]
    · rw [keyv, scale, ← EReal.coe_add, ← add_mul]
    · rcases le_total M x with hle | hle
      · rw [max_eq_right hle] at hM
        subst hM
        have hL : 0 ≤ L := by
          by_contra hn
          have := mul_neg_of_neg_of_pos (not_le.1 hn) (pos (-M))
          linarith
        rw [← pow_neg x, ← hw]
        exact mul_le_mul_of_nonneg_right (by linarith) (pos _).le
      · rw [max_eq_left hle] at hM
        subst hM
        have := mul_nonneg w0 (pos (-M)).le
        rw [add_mul]; linarith

/-- The quotient at the end is the weighted mean. -/
theorem Ok.div {m l a : EReal} {L A : ℝ} (h : Ok m l a L A) (hm : ∃ M : ℝ, m = (M : EReal)) :
    0 < L ∧ Ideal.div a (max l (Ideal.ofBits .f32 0x0DA24260#32)) = ((A / L : ℝ) : EReal) := by
  obtain ⟨M0, hM0⟩ := hm
  rcases h with ⟨rfl, -⟩ | ⟨M, rfl, rfl, rfl, h1⟩
  · exact absurd hM0 (by simp)
  · obtain ⟨ε, hε, -, hε1⟩ := tiny_bits
    have pos : 0 < Real.rpow 2 (-M) := Real.rpow_pos_of_pos (by norm_num) _
    have hL : 0 < L := by
      by_contra hn
      have := mul_nonpos_of_nonpos_of_nonneg (not_lt.1 hn) pos.le
      linarith
    refine ⟨hL, ?_⟩
    rw [hε, ← coe_max, max_eq_left (le_trans hε1 h1), Ideal.div_coe (by positivity), ← EReal.coe_mul]
    congr 1
    field_simp

/-- The whole row at once, in the natural base: with a score `y` where unmasked and minus infinity elsewhere, the
    exponentials over their sum are the weights over theirs, whatever real `β` the weights are relative to. -/
theorem row {n : ℕ} (s : Fin n → EReal) (y : Fin n → ℝ) (p : Fin n → Prop) [DecidablePred p] (β : ℝ)
    (hs : ∀ c, s c = if p c then (y c : EReal) else ⊥) (hne : ∃ c, p c) (e : Fin n → EReal)
    (he : ∀ c, e c = if p c then Ideal.exp (s c - Finset.univ.fold max (Ideal.ofBits .f32 0xFF800000#32) s) else 0) (k : Fin n) :
    Ideal.div (e k) (max (∑ c, e c) (Ideal.ofBits .f32 0x0DA24260#32))
      = (((if p k then Real.exp (y k - β) else 0) / (∑ c, if p c then Real.exp (y c - β) else 0) : ℝ) : EReal) := by
  obtain ⟨c, hc, hcb, hmax⟩ := fold_attained s (by
    obtain ⟨c, hc⟩ := hne
    exact ⟨c, by rw [hs, if_pos hc]; exact EReal.coe_ne_bot _⟩)
  have pc : p c := by
    by_contra hn
    exact hcb (by rw [hs, if_neg hn])
  have he' : ∀ d, e d = (((if p d then Real.exp (y d - β) else 0) * Real.exp (β - y c) : ℝ) : EReal) := fun d => by
    rw [he, hc, hs c, if_pos pc]
    by_cases hd : p d
    · rw [if_pos hd, if_pos hd, hs d, if_pos hd, ← EReal.coe_sub, Ideal.exp_coe, ← Real.exp_add]
      congr 2; ring
    · rw [if_neg hd, if_neg hd, zero_mul]; rfl
  have pos : 0 < Real.exp (β - y c) := Real.exp_pos _
  have one : 1 ≤ (∑ d, if p d then Real.exp (y d - β) else 0) * Real.exp (β - y c) := by
    have : (if p c then Real.exp (y c - β) else 0) ≤ ∑ d, if p d then Real.exp (y d - β) else 0 :=
      Finset.single_le_sum (f := fun d => if p d then Real.exp (y d - β) else 0)
        (fun d _ => by split <;> [exact (Real.exp_pos _).le; exact le_refl _]) (Finset.mem_univ c)
    rw [if_pos pc] at this
    calc (1 : ℝ) = Real.exp (y c - β) * Real.exp (β - y c) := by rw [← Real.exp_add]; simp
      _ ≤ _ := mul_le_mul_of_nonneg_right this pos.le
  obtain ⟨ε, hε, -, hε1⟩ := tiny_bits
  rw [sum_coe e _ he', ← Finset.sum_mul, hε, ← coe_max, max_eq_left (le_trans hε1 one), he' k,
    Ideal.div_coe (by positivity), ← EReal.coe_mul]
  congr 1
  have hL : (∑ d, if p d then Real.exp (y d - β) else 0) ≠ 0 := by
    intro h0; rw [h0, zero_mul] at one; linarith
  field_simp

end Cert.Softmax
-- ==== Proof.Spec.lean ====
/- What attention computes on real arguments, before the normalisation of a head's output: two softmax maps over the
   keys up to the query, the second taken off the first with the factor lambda. Weights are relative to the last row
   of the bias table, a shift neither map sees. -/
module

public import proofs.«01_k».proof.Proof.Bias
public import proofs.«01_k».proof.Proof.Softmax

@[expose] public section

noncomputable section

open Idealize.ShloMosaic
open scoped BigOperators

namespace Cert.Spec

/-- A selection by a bit that says whether `p` holds. -/
theorem select_iff {α : Type} (b : BitVec 1) (p : Prop) [Decidable p] (h : b = 1#1 ↔ p) (x y : α) :
    Scalar.select b x y = if p then x else y := by
  unfold Scalar.select
  exact if_congr h rfl rfl

/-- The product of a query's lanes with a key's, of head `h` and map `c`. -/
def dot (Q : Fin 4 → Fin 4096 → Fin 1024 → ℝ) (KV : Fin 4 → Fin 4096 → Fin 2048 → ℝ) (b : Fin 4) (h : Fin 8) (c : Fin 2)
    (q k : Fin 4096) : ℝ :=
  ∑ d : Fin 64, KV b k ⟨h.val * 128 + (c.val * 64 + d.val), by omega⟩ * Q b q ⟨h.val * 128 + c.val * 64 + d.val, by omega⟩

/-- The column of the bias table of head `h` and map `c`. -/
def col (h : Fin 8) (c : Fin 2) : Fin 16 := ⟨h.val * 2 + c.val, by omega⟩

/-- The score of key `k` for query `q`. -/
def score (Q : Fin 4 → Fin 4096 → Fin 1024 → ℝ) (KV : Fin 4 → Fin 4096 → Fin 2048 → ℝ) (T : Fin 32 → Fin 16 → ℝ)
    (b : Fin 4) (h : Fin 8) (c : Fin 2) (q k : Fin 4096) : ℝ :=
  dot Q KV b h c q k * (1 / 8) + T (Bias.row (BitVec.ofNat 32 (q.val - k.val))) (col h c)

/-- The weight of key `k` for query `q`. -/
def weight (Q : Fin 4 → Fin 4096 → Fin 1024 → ℝ) (KV : Fin 4 → Fin 4096 → Fin 2048 → ℝ) (T : Fin 32 → Fin 16 → ℝ)
    (b : Fin 4) (h : Fin 8) (c : Fin 2) (q k : Fin 4096) : ℝ :=
  if k.val ≤ q.val then Real.exp (score Q KV T b h c q k - T 31 (col h c)) else 0

/-- Lane `e` of the weighted mean of the values. -/
def mean (Q : Fin 4 → Fin 4096 → Fin 1024 → ℝ) (KV : Fin 4 → Fin 4096 → Fin 2048 → ℝ) (T : Fin 32 → Fin 16 → ℝ)
    (b : Fin 4) (h : Fin 8) (c : Fin 2) (q : Fin 4096) (e : Fin 128) : ℝ :=
  (∑ k : Fin 4096, KV b k ⟨1024 + h.val * 128 + e.val, by omega⟩ * weight Q KV T b h c q k) / ∑ k : Fin 4096, weight Q KV T b h c q k

/-- The first map's mean less lambda times the second's. -/
def diff (Q : Fin 4 → Fin 4096 → Fin 1024 → ℝ) (KV : Fin 4 → Fin 4096 → Fin 2048 → ℝ) (T : Fin 32 → Fin 16 → ℝ) (lam : ℝ)
    (b : Fin 4) (h : Fin 8) (q : Fin 4096) (e : Fin 128) : ℝ :=
  mean Q KV T b h 0 q e - lam * mean Q KV T b h 1 q e

/-- Lambda of its factors, as the programs compute it. -/
def lamOf (p : Fin 4 → Fin 64 → EReal) : EReal :=
  Ideal.exp (∑ x, p 0 x * p 1 x) - Ideal.exp (∑ x, p 2 x * p 3 x) + Ideal.ofBits .f32 0x3EB60549#32

/-- On real factors it is real. -/
theorem lamOf_real (p : Fin 4 → Fin 64 → EReal) (P : Fin 4 → Fin 64 → ℝ) (h : ∀ i x, p i x = (P i x : EReal)) :
    ∃ l : ℝ, lamOf p = (l : EReal) := by
  obtain ⟨z, hz⟩ : ∃ z : ℝ, Ideal.ofBits .f32 0x3EB60549#32 = (z : EReal) :=
    ⟨_, by simp [Ideal.ofBits, Ideal.ieee, -EReal.coe_mul]; rfl⟩
  refine ⟨Real.exp (∑ x, P 0 x * P 1 x) - Real.exp (∑ x, P 2 x * P 3 x) + z, ?_⟩
  unfold lamOf
  rw [Softmax.sum_coe (fun x => p 0 x * p 1 x) (fun x => P 0 x * P 1 x) fun x => by rw [h, h, ← EReal.coe_mul],
    Softmax.sum_coe (fun x => p 2 x * p 3 x) (fun x => P 2 x * P 3 x) fun x => by rw [h, h, ← EReal.coe_mul],
    Ideal.exp_coe, Ideal.exp_coe, hz, ← EReal.coe_sub, ← EReal.coe_add]

/-- The normalisation of a head's output `o`, at lane `e`, with gain `g`. -/
def norm (o : Fin 128 → EReal) (g : EReal) (e : Fin 128) : EReal :=
  o e * Ideal.rsqrt (Ideal.div (∑ x, o x * o x) (Ideal.ofBits .f32 0x43000000#32) + Ideal.ofBits .f32 0x3727C5AC#32) * g
    * Ideal.ofBits .f32 0x3F24FD5C#32

/-- The difference of the two maps taken before the sum over the values: the same. -/
theorem diff_of_maps (Q : Fin 4 → Fin 4096 → Fin 1024 → ℝ) (KV : Fin 4 → Fin 4096 → Fin 2048 → ℝ) (T : Fin 32 → Fin 16 → ℝ)
    (lam : ℝ) (b : Fin 4) (h : Fin 8) (q : Fin 4096) (e : Fin 128) (v : Fin 4096 → EReal) (p0 p1 : Fin 4096 → EReal)
    (hv : ∀ k, v k = ((KV b k ⟨1024 + h.val * 128 + e.val, by omega⟩ : ℝ) : EReal))
    (h0 : ∀ k, p0 k = ((weight Q KV T b h 0 q k / ∑ k, weight Q KV T b h 0 q k : ℝ) : EReal))
    (h1 : ∀ k, p1 k = ((weight Q KV T b h 1 q k / ∑ k, weight Q KV T b h 1 q k : ℝ) : EReal)) :
    ∑ k, v k * (p0 k - (lam : EReal) * p1 k) = ((diff Q KV T lam b h q e : ℝ) : EReal) := by
  rw [Softmax.sum_coe _ _ fun k => by
    rw [hv, h0, h1, ← EReal.coe_mul, ← EReal.coe_sub, ← EReal.coe_mul]]
  congr 1
  unfold diff mean
  generalize (∑ k, weight Q KV T b h 0 q k) = L0
  generalize (∑ k, weight Q KV T b h 1 q k) = L1
  rw [Finset.sum_div, Finset.sum_div, Finset.mul_sum, ← Finset.sum_sub_distrib]
  refine Finset.sum_congr rfl fun k _ => ?_
  ring

end Cert.Spec
-- ==== Proof.KernelHost.lean ====
/- What the attention kernel finds in the arrays its host code prepares: the scaled queries, and the two bias tiles of a
   head, cut out of a ring of distances by reading rows one element shorter than they are. -/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.BodyIdeal
public import proofs.«01_k».proof.Proof.Spec
public import Idealize.ShloMosaic.Lib.Pipeline.ValueKit
public import Idealize.ShloMosaic.Lib.Pointwise
public import Idealize.ShloMosaic.Lib.Claim
public import proofs.«01_k».proof.Defs

@[expose] public section

set_option maxRecDepth 16384

noncomputable section

open Idealize.ShloMosaic Idealize.ShloMosaic.TcCoe Idealize.SL.Sem
open Idealize.ShloMosaic.Pipeline (Dat)
open scoped BigOperators

namespace Cert.KernelHost
open Cert.KernelIdeal Cert.KernelIdeal.Gen

/-- A word, everywhere on the ring. -/
def bc (u : BitVec 32) : IVec S1024 32 := broadcastInDim S1024 ![] bcast_S_S1024 (constantI S_ 32 u)
/-- A float, everywhere on the ring. -/
def bf (u : BitVec 32) : FVec Ideal S1024 .f32 := broadcastInDim S1024 ![] bcast_S_S1024 (constant (F := Ideal) S_ .f32 u)

/-- The ring of distances: `u` less the position on its first half, `w` less the position on its second. -/
def ring (u w : BitVec 32) : IVec S1024 32 :=
  select (cmpi .slt (iotaInDim S1024 32 0) (bc 512#32)) (subi (bc u) (iotaInDim S1024 32 0)) (subi (bc w) (iotaInDim S1024 32 0))

/-- Negative distances taken as none. -/
def clip (d : IVec S1024 32) : IVec S1024 32 := maxsi (subi (bc 0#32) (negi d)) (bc 0#32)

/-- The buckets. -/
def buckets (n : IVec S1024 32) : IVec S1024 32 :=
  select (cmpi .slt n (bc 16#32)) n (minsi (addi (bc 16#32) (fptosi 32 (mulf (Host.divf (Host.log (Host.divf
    (sitofp (F := Ideal) .f32 (maxsi n (bc 1#32))) (bf 0x41800000#32))) (bf 0x40051592#32)) (bf 0x41800000#32)))) (bc 31#32))

/-- One over the logarithm of two. -/
def log2e : FVec Ideal S_ .f32 := Host.divf (constant (F := Ideal) S_ .f32 0x3F800000#32) (Host.log (constant (F := Ideal) S_ .f32 0x40000000#32))

/-- The biases of the ring relative to the table's last row, in base two. -/
def rel (k : IVec S1024 32) (tbl : FVec Ideal S32x16 .f32) : FVec Ideal S1024x16 .f32 :=
  mulf (subf
    (Host.gather gather_S32x16_S1024x1_S1024x16_1_0_n_n_0_1_116 tbl (broadcastInDim S1024x1 ![0] bcast_S1024_S1024x1_0
      (select (cmpi .slt k (bc 0#32)) (addi k (bc 32#32)) k)))
    (broadcastInDim S1024x16 ![0, 1] bcast_S1x16_S1024x16_0_1 (broadcastInDim S1x16 ![1] bcast_S16_S1x16_1
      (shapeCast S16 (extractStridedSlice S1x16 ![31, 0] tbl slices_S32x16_S1x16_31_0) shapeCasts_S1x16_S16))))
    (broadcastInDim S1024x16 ![] bcast_S_S1024x16 log2e)

/-- The tile cut out of the ring. -/
def skew (x : FVec Ideal S1024x16 .f32) : FVec Ideal S16x512x512 .f32 :=
  extractStridedSlice S16x512x512 ![0, 0, 0] (shapeCast S16x512x1023 (extractStridedSlice S16x523776 ![0, 0]
    (shapeCast S16x524288 (broadcastInDim S1x16x512x1024 ![0, 1, 2, 3] bcast_S1x16x1x1024_S1x16x512x1024_0_1_2_3
      (shapeCast S1x16x1x1024 (transpose S16x1024 [1, 0] x transposes_S1024x16_S16x1024_1_0) shapeCasts_S16x1024_S1x16x1x1024))
      shapeCasts_S1x16x512x1024_S16x524288) slices_S16x524288_S16x523776_0_0) shapeCasts_S16x523776_S16x512x1023)
    slices_S16x512x1023_S16x512x512_0_0_0

/-- A tile with what is past the query masked. -/
def masked (x : FVec Ideal S16x512x512 .f32) : FVec Ideal S16x512x512 .f32 :=
  select (broadcastInDim S16x512x512 ![0, 1, 2] bcast_S1x512x512_S16x512x512_0_1_2 (broadcastInDim S1x512x512 ![1, 2] bcast_S512x512_S1x512x512_1_2
    (cmpi .sle (broadcastInDim S512x512 ![0, 1] bcast_S1x512_S512x512_0_1 (broadcastInDim S1x512 ![1] bcast_S512_S1x512_1 (iotaInDim S512 32 0)))
      (broadcastInDim S512x512 ![0, 1] bcast_S512x1_S512x512_0_1 (broadcastInDim S512x1 ![0] bcast_S512_S512x1_0 (iotaInDim S512 32 0))))))
    x (broadcastInDim S16x512x512 ![] bcast_S_S16x512x512 (id (constant (F := Ideal) S_ .f32 0xFF800000#32)))

/-- Two tiles of each head, laid out as the kernel reads them. -/
def layOut (x y : FVec Ideal S16x512x512 .f32) : FVec Ideal S2x8x512x1024 .f32 :=
  shapeCast S2x8x512x1024 (transpose S2x8x512x2x512 [0, 1, 4, 2, 3] (shapeCast S2x8x2x512x512
    (concatenate S2x16x512x512 0 [⟨S1x16x512x512, broadcastInDim S1x16x512x512 ![1, 2, 3] bcast_S16x512x512_S1x16x512x512_1_2_3 x⟩,
      ⟨S1x16x512x512, broadcastInDim S1x16x512x512 ![1, 2, 3] bcast_S16x512x512_S1x16x512x512_1_2_3 y⟩]
      concatenates_S1x16x512x512_S1x16x512x512_S2x16x512x512_d0) shapeCasts_S2x16x512x512_S2x8x2x512x512)
    transposes_S2x8x2x512x512_S2x8x512x2x512_0_1_4_2_3) shapeCasts_S2x8x512x2x512_S2x8x512x1024

/-- The two bias tiles. -/
def tiles (tbl : FVec Ideal S32x16 .f32) : FVec Ideal S2x8x512x1024 .f32 :=
  layOut (skew (rel (buckets (clip (ring 512#32 1536#32))) tbl)) (masked (skew (rel (buckets (clip (ring 0#32 1024#32))) tbl)))

variable (m : (ℓ : Loc nD τ sig) → Buf (Elt Ideal) ℓ)

theorem V_v134 (c : Dev nD) : V m c main_v134
    = truncf (F := Ideal) .bf16 (mulf (m ((c : Thread nD τ).loc main_arg0)) (broadcastInDim S4x4096x1024 ![] bcast_S_S4x4096x1024
      (mulf (constant (F := Ideal) S_ .f32 0x3E000000#32) log2e))) bitsLt_bf16_f32 := by
  entry_read; try rfl
theorem V_v135 (c : Dev nD) : V m c main_v135 = truncf (F := Ideal) .bf16 (m ((c : Thread nD τ).loc main_arg1)) bitsLt_bf16_f32 := by
  entry_read; try rfl
theorem V_v136 (c : Dev nD) : V m c main_v136 = shapeCast S128x1 (m ((c : Thread nD τ).loc main_arg4)) shapeCasts_S128_S128x1 := by
  entry_read; try rfl
theorem V_arg3 (c : Dev nD) : V m c main_arg3 = m ((c : Thread nD τ).loc main_arg3) := by
  entry_read; try rfl
/-! The host code's parts, each from any contents before it. -/

section Parts
variable (W : Valuation τ sig (Elt Ideal))

theorem p0_v4 : StableHlo.after (hostOps0 (F := Ideal)) W (Proc.devRef .tc main_v4) = (broadcastInDim S512x1 ![0] bcast_S512_S512x1_0 (iotaInDim S512 32 0)) := by
  after_results; try rfl

theorem p0_v6 : StableHlo.after (hostOps0 (F := Ideal)) W (Proc.devRef .tc main_v6) = (broadcastInDim S1x512 ![1] bcast_S512_S1x512_1 (iotaInDim S512 32 0)) := by
  after_results; try rfl

theorem p0_v9 : StableHlo.after (hostOps0 (F := Ideal)) W (Proc.devRef .tc main_v9) = cmpi .slt (iotaInDim S1024 32 0) (bc 512#32) := by
  after_results; try rfl

theorem p0_v11 : StableHlo.after (hostOps0 (F := Ideal)) W (Proc.devRef .tc main_v11) = subi (bc 512#32) (iotaInDim S1024 32 0) := by
  after_results; try rfl

theorem p0_v13 : StableHlo.after (hostOps0 (F := Ideal)) W (Proc.devRef .tc main_v13) = subi (bc 1536#32) (iotaInDim S1024 32 0) := by
  after_results; try rfl

theorem p0_arg2 : StableHlo.after (hostOps0 (F := Ideal)) W (Proc.devRef .tc main_arg2) = W (Proc.devRef .tc main_arg2) := by
  after_results; try rfl

theorem p1_v14 : StableHlo.after (hostOps0_1 (F := Ideal)) W (Proc.devRef .tc main_v14) = select (W (Proc.devRef .tc main_v9)) (W (Proc.devRef .tc main_v11)) (W (Proc.devRef .tc main_v13)) := by
  after_results; try rfl

theorem p1_v4 : StableHlo.after (hostOps0_1 (F := Ideal)) W (Proc.devRef .tc main_v4) = W (Proc.devRef .tc main_v4) := by
  after_results; try rfl

theorem p1_v6 : StableHlo.after (hostOps0_1 (F := Ideal)) W (Proc.devRef .tc main_v6) = W (Proc.devRef .tc main_v6) := by
  after_results; try rfl

theorem p1_arg2 : StableHlo.after (hostOps0_1 (F := Ideal)) W (Proc.devRef .tc main_arg2) = W (Proc.devRef .tc main_arg2) := by
  after_results; try rfl

theorem p2_v19 : StableHlo.after (hostOps0_2 (F := Ideal)) W (Proc.devRef .tc main_v19) = clip (W (Proc.devRef .tc main_v14)) := by
  after_results; try rfl

theorem p2_v34 : StableHlo.after (hostOps0_2 (F := Ideal)) W (Proc.devRef .tc main_v34) = cmpi .slt (clip (W (Proc.devRef .tc main_v14))) (bc 16#32) := by
  after_results; try rfl

theorem p2_v36 : StableHlo.after (hostOps0_2 (F := Ideal)) W (Proc.devRef .tc main_v36) = (minsi (addi (bc 16#32) (fptosi 32 (mulf (Host.divf (Host.log (Host.divf (sitofp (F := Ideal) .f32 (maxsi (clip (W (Proc.devRef .tc main_v14))) (bc 1#32))) (bf 0x41800000#32))) (bf 0x40051592#32)) (bf 0x41800000#32)))) (bc 31#32)) := by
  after_results; try rfl

theorem p2_v4 : StableHlo.after (hostOps0_2 (F := Ideal)) W (Proc.devRef .tc main_v4) = W (Proc.devRef .tc main_v4) := by
  after_results; try rfl

theorem p2_v6 : StableHlo.after (hostOps0_2 (F := Ideal)) W (Proc.devRef .tc main_v6) = W (Proc.devRef .tc main_v6) := by
  after_results; try rfl

theorem p2_arg2 : StableHlo.after (hostOps0_2 (F := Ideal)) W (Proc.devRef .tc main_arg2) = W (Proc.devRef .tc main_arg2) := by
  after_results; try rfl

theorem p3_v37 : StableHlo.after (hostOps0_3 (F := Ideal)) W (Proc.devRef .tc main_v37) = select (W (Proc.devRef .tc main_v34)) (W (Proc.devRef .tc main_v19)) (W (Proc.devRef .tc main_v36)) := by
  after_results; try rfl

theorem p3_v4 : StableHlo.after (hostOps0_3 (F := Ideal)) W (Proc.devRef .tc main_v4) = W (Proc.devRef .tc main_v4) := by
  after_results; try rfl

theorem p3_v6 : StableHlo.after (hostOps0_3 (F := Ideal)) W (Proc.devRef .tc main_v6) = W (Proc.devRef .tc main_v6) := by
  after_results; try rfl

theorem p3_arg2 : StableHlo.after (hostOps0_3 (F := Ideal)) W (Proc.devRef .tc main_arg2) = W (Proc.devRef .tc main_arg2) := by
  after_results; try rfl

theorem p4_v60 : StableHlo.after (hostOps0_4 (F := Ideal)) W (Proc.devRef .tc main_v60) = skew (rel (W (Proc.devRef .tc main_v37)) (W (Proc.devRef .tc main_arg2))) := by
  after_results; try rfl

theorem p4_v64 : StableHlo.after (hostOps0_4 (F := Ideal)) W (Proc.devRef .tc main_v64) = broadcastInDim S1x512x512 ![1, 2] bcast_S512x512_S1x512x512_1_2 (cmpi .sle (broadcastInDim S512x512 ![0, 1] bcast_S1x512_S512x512_0_1 (W (Proc.devRef .tc main_v6))) (broadcastInDim S512x512 ![0, 1] bcast_S512x1_S512x512_0_1 (W (Proc.devRef .tc main_v4)))) := by
  after_results; try rfl

theorem p4_v67 : StableHlo.after (hostOps0_4 (F := Ideal)) W (Proc.devRef .tc main_v67) = cmpi .slt (iotaInDim S1024 32 0) (bc 512#32) := by
  after_results; try rfl

theorem p4_v69 : StableHlo.after (hostOps0_4 (F := Ideal)) W (Proc.devRef .tc main_v69) = subi (bc 0#32) (iotaInDim S1024 32 0) := by
  after_results; try rfl

theorem p4_v71 : StableHlo.after (hostOps0_4 (F := Ideal)) W (Proc.devRef .tc main_v71) = subi (bc 1024#32) (iotaInDim S1024 32 0) := by
  after_results; try rfl

theorem p4_arg2 : StableHlo.after (hostOps0_4 (F := Ideal)) W (Proc.devRef .tc main_arg2) = W (Proc.devRef .tc main_arg2) := by
  after_results; try rfl

theorem p5_v72 : StableHlo.after (hostOps0_5 (F := Ideal)) W (Proc.devRef .tc main_v72) = select (W (Proc.devRef .tc main_v67)) (W (Proc.devRef .tc main_v69)) (W (Proc.devRef .tc main_v71)) := by
  after_results; try rfl

theorem p5_v60 : StableHlo.after (hostOps0_5 (F := Ideal)) W (Proc.devRef .tc main_v60) = W (Proc.devRef .tc main_v60) := by
  after_results; try rfl

theorem p5_v64 : StableHlo.after (hostOps0_5 (F := Ideal)) W (Proc.devRef .tc main_v64) = W (Proc.devRef .tc main_v64) := by
  after_results; try rfl

theorem p5_arg2 : StableHlo.after (hostOps0_5 (F := Ideal)) W (Proc.devRef .tc main_arg2) = W (Proc.devRef .tc main_arg2) := by
  after_results; try rfl

theorem p6_v77 : StableHlo.after (hostOps0_6 (F := Ideal)) W (Proc.devRef .tc main_v77) = clip (W (Proc.devRef .tc main_v72)) := by
  after_results; try rfl

theorem p6_v92 : StableHlo.after (hostOps0_6 (F := Ideal)) W (Proc.devRef .tc main_v92) = cmpi .slt (clip (W (Proc.devRef .tc main_v72))) (bc 16#32) := by
  after_results; try rfl

theorem p6_v94 : StableHlo.after (hostOps0_6 (F := Ideal)) W (Proc.devRef .tc main_v94) = (minsi (addi (bc 16#32) (fptosi 32 (mulf (Host.divf (Host.log (Host.divf (sitofp (F := Ideal) .f32 (maxsi (clip (W (Proc.devRef .tc main_v72))) (bc 1#32))) (bf 0x41800000#32))) (bf 0x40051592#32)) (bf 0x41800000#32)))) (bc 31#32)) := by
  after_results; try rfl

theorem p6_v60 : StableHlo.after (hostOps0_6 (F := Ideal)) W (Proc.devRef .tc main_v60) = W (Proc.devRef .tc main_v60) := by
  after_results; try rfl

theorem p6_v64 : StableHlo.after (hostOps0_6 (F := Ideal)) W (Proc.devRef .tc main_v64) = W (Proc.devRef .tc main_v64) := by
  after_results; try rfl

theorem p6_arg2 : StableHlo.after (hostOps0_6 (F := Ideal)) W (Proc.devRef .tc main_arg2) = W (Proc.devRef .tc main_arg2) := by
  after_results; try rfl

theorem p7_v95 : StableHlo.after (hostOps0_7 (F := Ideal)) W (Proc.devRef .tc main_v95) = select (W (Proc.devRef .tc main_v92)) (W (Proc.devRef .tc main_v77)) (W (Proc.devRef .tc main_v94)) := by
  after_results; try rfl

theorem p7_v60 : StableHlo.after (hostOps0_7 (F := Ideal)) W (Proc.devRef .tc main_v60) = W (Proc.devRef .tc main_v60) := by
  after_results; try rfl

theorem p7_v64 : StableHlo.after (hostOps0_7 (F := Ideal)) W (Proc.devRef .tc main_v64) = W (Proc.devRef .tc main_v64) := by
  after_results; try rfl

theorem p7_arg2 : StableHlo.after (hostOps0_7 (F := Ideal)) W (Proc.devRef .tc main_arg2) = W (Proc.devRef .tc main_arg2) := by
  after_results; try rfl

theorem p8_v118 : StableHlo.after (hostOps0_8 (F := Ideal)) W (Proc.devRef .tc main_v118) = skew (rel (W (Proc.devRef .tc main_v95)) (W (Proc.devRef .tc main_arg2))) := by
  after_results; try rfl

theorem p8_cst_33 : StableHlo.after (hostOps0_8 (F := Ideal)) W (Proc.devRef .tc main_cst_33) = constant (F := Ideal) S_ .f32 0xFF800000#32 := by
  after_results; try rfl

theorem p8_v60 : StableHlo.after (hostOps0_8 (F := Ideal)) W (Proc.devRef .tc main_v60) = W (Proc.devRef .tc main_v60) := by
  after_results; try rfl

theorem p8_v64 : StableHlo.after (hostOps0_8 (F := Ideal)) W (Proc.devRef .tc main_v64) = W (Proc.devRef .tc main_v64) := by
  after_results; try rfl

theorem p9_v119 : StableHlo.after (hostOps0_9 (F := Ideal)) W (Proc.devRef .tc main_v119) = select (broadcastInDim S16x512x512 ![0, 1, 2] bcast_S1x512x512_S16x512x512_0_1_2 (W (Proc.devRef .tc main_v64))) (W (Proc.devRef .tc main_v118)) (broadcastInDim S16x512x512 ![] bcast_S_S16x512x512 (id (W (Proc.devRef .tc main_cst_33)))) := by
  after_results; try rfl

theorem p9_v60 : StableHlo.after (hostOps0_9 (F := Ideal)) W (Proc.devRef .tc main_v60) = W (Proc.devRef .tc main_v60) := by
  after_results; try rfl

theorem p10_v60 : StableHlo.after (hostOps0_10 (F := Ideal)) W (Proc.devRef .tc main_v60) = W (Proc.devRef .tc main_v60) := by
  after_results; try rfl

theorem p10_v119 : StableHlo.after (hostOps0_10 (F := Ideal)) W (Proc.devRef .tc main_v119) = W (Proc.devRef .tc main_v119) := by
  after_results; try rfl

theorem p11_v60 : StableHlo.after (hostOps0_11 (F := Ideal)) W (Proc.devRef .tc main_v60) = W (Proc.devRef .tc main_v60) := by
  after_results; try rfl

theorem p11_v119 : StableHlo.after (hostOps0_11 (F := Ideal)) W (Proc.devRef .tc main_v119) = W (Proc.devRef .tc main_v119) := by
  after_results; try rfl

theorem p12_v131 : StableHlo.after (hostOps0_12 (F := Ideal)) W (Proc.devRef .tc main_v131) = layOut (W (Proc.devRef .tc main_v60)) (W (Proc.devRef .tc main_v119)) := by
  after_results; try rfl

end Parts

/-- What the region finds in its bias window's array. -/
theorem V_v131 (c : Dev nD) : V m c main_v131 = tiles (m ((c : Thread nD τ).loc main_arg2)) := by
  have h : V m c main_v131 = StableHlo.after [hostOps0, hostOps0_1, hostOps0_2, hostOps0_3, hostOps0_4, hostOps0_5, hostOps0_6, hostOps0_7, hostOps0_8,
          hostOps0_9, hostOps0_10, hostOps0_11, hostOps0_12].flatten (fun b => m (c, b)) (Proc.devRef .tc main_v131) := rfl
  rw [h]
  simp only [List.flatten_cons, List.flatten_nil, List.append_nil, StableHlo.after_append]
  rw [p12_v131, p11_v60, p11_v119, p10_v60, p10_v119, p9_v60, p9_v119, p8_v60, p8_v64, p8_v118, p8_cst_33, p7_v60, p7_v64, p7_v95, p7_arg2,
    p6_v60, p6_v64, p6_arg2, p6_v77, p6_v92, p6_v94, p5_v60, p5_v64, p5_v72, p5_arg2, p4_v60, p4_v64, p4_v67, p4_v69, p4_v71, p4_arg2,
    p3_v37, p3_v4, p3_v6, p3_arg2, p2_v19, p2_v34, p2_v36, p2_v4, p2_v6, p2_arg2, p1_v14, p1_v4, p1_v6, p1_arg2,
    p0_v4, p0_v6, p0_v9, p0_v11, p0_v13, p0_arg2]
  rfl

end Cert.KernelHost
-- ==== Proof.KernelRow.lean ====
/- One chunk of keys in the attention kernel, for one query of one map and one value lane: the carried maximum, sum and
   weighted sum stay those of the weights met so far. -/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.BodyIdeal
public import proofs.«01_k».proof.Proof.Spec
public import Idealize.ShloMosaic.Lib.Pipeline.ValueKit
public import Idealize.ShloMosaic.Lib.Pointwise
public import Idealize.ShloMosaic.Lib.Claim
public import proofs.«01_k».proof.Defs

@[expose] public section

set_option maxRecDepth 16384

noncomputable section

open Idealize.ShloMosaic Idealize.ShloMosaic.TcCoe Idealize.SL.Sem
open Idealize.ShloMosaic.Pipeline (Dat)
open scoped BigOperators

namespace Cert.KernelRow
open Cert.KernelIdeal Cert.KernelIdeal.Gen Cert.KernelIdeal.Body
open Cert.Softmax

/-- The carried values at column `j` and lane `e` are those of weights summing to `L`, their products with the values to `A`. -/
def Good (a : Carry Ideal) (j : Fin 1024) (e : Fin 128) (L A : ℝ) : Prop :=
  Ok (a.1 (ix2 0 j)) (a.2.1 (ix2 0 j)) (a.2.2 (ix2 e j)) L A

/-- Before the first chunk. -/
theorem start_good (j : Fin 1024) (e : Fin 128) : Good (start (F := Ideal)) j e 0 0 := by
  refine Or.inl ⟨?_, ?_, ?_, rfl, rfl⟩
  · show k0_pay3 (F := Ideal) (ix2 0 j) = ⊥
    pointwise [k0_pay3]
    rfl
  · show k0_pay4 (F := Ideal) (ix2 0 j) = 0
    pointwise [k0_pay4]
  · show k0_pay5 (F := Ideal) (ix2 e j) = 0
    pointwise [k0_pay5]

/-- After a far chunk. -/
theorem chunk_good (v0 kk vv : FVec Ideal S1x512x128 .bf16) (a : Carry Ideal) (j : Fin 1024) (e : Fin 128) (L A : ℝ)
    (w u : Fin 512 → ℝ) (h : Good a j e L A) (hs : ∀ c, Weighs (k0_pay6 (F := Ideal) v0 kk (ix2 c j) : EReal) (w c))
    (hne : ∃ c, (k0_pay6 (F := Ideal) v0 kk (ix2 c j) : EReal) ≠ ⊥) (hv : ∀ c, vv (ix3 0 c e) = (u c : EReal)) :
    Good (chunk v0 kk vv a) j e (L + ∑ c, w c) (A + ∑ c, u c * w c) := by
  have key := (Ok.step h (fun c => k0_pay6 (F := Ideal) v0 kk (ix2 c j)) w (fun c => vv (ix3 0 c e)) u hs hne hv).2
  have t : (k0_pay7 v0 a.1 kk (ix2 0 j) : EReal) = top (a.1 (ix2 0 j)) (fun c => k0_pay6 (F := Ideal) v0 kk (ix2 c j)) := by
    pointwise [k0_pay7]
    rfl
  unfold Good chunk
  dsimp only
  rw [show (k0_pay10 v0 a.1 a.2.1 kk (ix2 0 j) : EReal) = Ideal.exp2 (a.1 (ix2 0 j) - k0_pay7 v0 a.1 kk (ix2 0 j)) * a.2.1 (ix2 0 j)
      + ∑ c, Ideal.exp2 (k0_pay6 (F := Ideal) v0 kk (ix2 c j) - k0_pay7 v0 a.1 kk (ix2 0 j)) by
    pointwise [k0_pay10, k0_pay9, k0_pay8]; rfl,
    show (k0_pay11 v0 a.1 a.2.2 kk vv (ix2 e j) : EReal) = Ideal.exp2 (a.1 (ix2 0 j) - k0_pay7 v0 a.1 kk (ix2 0 j)) * a.2.2 (ix2 e j)
      + ∑ c, vv (ix3 0 c e) * Ideal.exp2 (k0_pay6 (F := Ideal) v0 kk (ix2 c j) - k0_pay7 v0 a.1 kk (ix2 0 j)) by
    pointwise [k0_pay11, k0_pay9, k0_pay8]; rfl, t]
  exact key

/-- After the chunk before the queries' own. -/
theorem near_good (v0 kk vv : FVec Ideal S1x512x128 .bf16) (bb : FVec Ideal S1x1x512x1024 .f32) (a : Carry Ideal) (j : Fin 1024) (e : Fin 128) (L A : ℝ)
    (w u : Fin 512 → ℝ) (h : Good a j e L A) (hs : ∀ c, Weighs (k0_pay18 (F := Ideal) v0 kk bb (ix2 c j) : EReal) (w c))
    (hne : ∃ c, (k0_pay18 (F := Ideal) v0 kk bb (ix2 c j) : EReal) ≠ ⊥) (hv : ∀ c, vv (ix3 0 c e) = (u c : EReal)) :
    Good (nearChunk v0 kk vv bb a) j e (L + ∑ c, w c) (A + ∑ c, u c * w c) := by
  have key := (Ok.step h (fun c => k0_pay18 (F := Ideal) v0 kk bb (ix2 c j)) w (fun c => vv (ix3 0 c e)) u hs hne hv).2
  have t : (k0_pay19 v0 a.1 kk bb (ix2 0 j) : EReal) = top (a.1 (ix2 0 j)) (fun c => k0_pay18 (F := Ideal) v0 kk bb (ix2 c j)) := by
    pointwise [k0_pay19]
    rfl
  unfold Good nearChunk
  dsimp only
  rw [show (k0_pay22 v0 a.1 a.2.1 kk bb (ix2 0 j) : EReal) = Ideal.exp2 (a.1 (ix2 0 j) - k0_pay19 v0 a.1 kk bb (ix2 0 j)) * a.2.1 (ix2 0 j)
      + ∑ c, Ideal.exp2 (k0_pay18 (F := Ideal) v0 kk bb (ix2 c j) - k0_pay19 v0 a.1 kk bb (ix2 0 j)) by
    pointwise [k0_pay22, k0_pay21, k0_pay20]; rfl,
    show (k0_pay23 v0 a.1 a.2.2 kk bb vv (ix2 e j) : EReal) = Ideal.exp2 (a.1 (ix2 0 j) - k0_pay19 v0 a.1 kk bb (ix2 0 j)) * a.2.2 (ix2 e j)
      + ∑ c, vv (ix3 0 c e) * Ideal.exp2 (k0_pay18 (F := Ideal) v0 kk bb (ix2 c j) - k0_pay19 v0 a.1 kk bb (ix2 0 j)) by
    pointwise [k0_pay23, k0_pay21, k0_pay20]; rfl, t]
  exact key

/-- The mean of one map after the queries' own chunk. -/
def own (m l a : EReal) (s v : Fin 512 → EReal) : EReal :=
  Ideal.div (Ideal.exp2 (m - top m s) * a + ∑ c, v c * Ideal.exp2 (s c - top m s))
    (max (Ideal.exp2 (m - top m s) * l + ∑ c, Ideal.exp2 (s c - top m s)) (Ideal.ofBits .f32 0x0DA24260#32))

theorem own_good (m l a : EReal) (L A : ℝ) (h : Ok m l a L A) (s v : Fin 512 → EReal) (w u : Fin 512 → ℝ)
    (hs : ∀ c, Weighs (s c) (w c)) (hne : ∃ c, s c ≠ ⊥) (hv : ∀ c, v c = (u c : EReal)) :
    own m l a s v = (((A + ∑ c, u c * w c) / (L + ∑ c, w c) : ℝ) : EReal) := by
  obtain ⟨hm, hk⟩ := Ok.step h s w v u hs hne hv
  exact (Ok.div hk hm).2

/-- The difference of the two maps, at a query and a lane. -/
theorem diff_at (m0 l0 : FVec Ideal S1x1024 .f32) (a0 : FVec Ideal S128x1024 .f32) (s : FVec Ideal S512x1024 .f32)
    (bb : FVec Ideal S1x1x512x1024 .f32) (vv : FVec Ideal S1x512x128 .bf16) (lam : FVec Ideal S4x64 .f32) (e : Fin 128) (r : Fin 512) :
    (k0_pay25 m0 l0 a0 s bb vv lam (ix2 e r) : EReal)
      = own (m0 (ix2 0 ⟨r.val, by omega⟩)) (l0 (ix2 0 ⟨r.val, by omega⟩)) (a0 (ix2 e ⟨r.val, by omega⟩))
          (fun c => s (ix2 c ⟨r.val, by omega⟩) + bb (ix4 0 0 c ⟨r.val, by omega⟩)) (fun c => vv (ix3 0 c e))
        - Spec.lamOf (fun i x => lam (ix2 i x)) * own (m0 (ix2 0 ⟨512 + r.val, by omega⟩)) (l0 (ix2 0 ⟨512 + r.val, by omega⟩)) (a0 (ix2 e ⟨512 + r.val, by omega⟩))
          (fun c => s (ix2 c ⟨512 + r.val, by omega⟩) + bb (ix4 0 0 c ⟨512 + r.val, by omega⟩)) (fun c => vv (ix3 0 c e)) := by
  unfold Spec.lamOf own top
  pointwise [k0_pay25]
  rfl

/-- The normalised output, at a query and a lane. -/
theorem norm_at (o : FVec Ideal S128x512 .f32) (g : FVec Ideal S128x1 .f32) (r : Fin 512) (e : Fin 128) :
    (k0_pay1 o g (ix3 0 r e) : EReal) = Spec.norm (fun x => o (ix2 x r)) (g (ix2 e 0)) e := by
  unfold Spec.norm
  pointwise [k0_pay1]

end Cert.KernelRow
-- ==== Proof.KernelOffsets.lean ====
/- Which chunks of keys the attention kernel reads at a grid point: for query tile `n` the far ones are 0 to n - 2, then
   n - 1 where there is one, then n. -/
module

public import proofs.«01_k».proof.Proof.BodyIdeal

@[expose] public section

namespace Cert.KernelOffsets
open Cert.KernelIdeal Cert.KernelIdeal.Gen Idealize.ShloMosaic

/-- How many far chunks there are. -/
theorem trips_eq (i : grid0.Coords) : (k0_t1_loop i).trips = (i 2).val - 1 := by
  have h : ∀ n : Fin 8, (Scf.Loop.trips (w := 32)
      ⟨0#32, Scalar.addi 0#32 (Scalar.muli (Scalar.divsi (Scalar.subi (Scalar.maxsi (Scalar.subi (BitVec.ofNat 32 n.val) 1#32) 0#32) 0#32) 1#32) 1#32), 1#32⟩) = n.val - 1 := by decide +kernel
  exact h (i 2)

/-- Whether there is a chunk before the queries' own. -/
theorem cond_iff (i : grid0.Coords) : k0_cond1 i = 1#1 ↔ 1 ≤ (i 2).val := by
  have h : ∀ n : Fin 8, Scalar.cmpi .ne (Scalar.extui (Scalar.cmpi .sge (BitVec.ofNat 32 n.val) 1#32) : BitVec 32) 0#32 = 1#1 ↔ 1 ≤ n.val := by decide +kernel
  exact h (i 2)

/-- Where a far chunk starts, -/
theorem off1 (i : grid0.Coords) (k : Fin (k0_t1_loop i).trips) : k0_off1 i k = ![0, 512 * k.val, 0] := by
  have h : ∀ n : Fin 8, (Scalar.muli (Scf.iv 0#32 1#32 n.val) 512#32).toNat = 512 * n.val := by decide +kernel
  have := trips_eq i
  have h8 : (i 2).val < 8 := (i 2).isLt
  have := h ⟨k.val, by omega⟩
  unfold k0_off1
  dsimp only
  funext a
  match a with
  | ⟨0, _⟩ => rfl
  | ⟨1, _⟩ => exact this
  | ⟨2, _⟩ => rfl

/-- the chunk before the queries' own, -/
theorem off3 (i : grid0.Coords) (hi : 1 ≤ (i 2).val) : k0_off3 i = ![0, 512 * ((i 2).val - 1), 0] := by
  have h : ∀ n : Fin 8, 1 ≤ n.val → (Scalar.muli (Scalar.subi (BitVec.ofNat 32 n.val) 1#32) 512#32).toNat = 512 * (n.val - 1) := by decide +kernel
  unfold k0_off3
  dsimp only
  funext a
  match a with
  | ⟨0, _⟩ => rfl
  | ⟨1, _⟩ => exact h (i 2) hi
  | ⟨2, _⟩ => rfl

/-- and the queries' own. -/
theorem off4 (i : grid0.Coords) : k0_off4 i = ![0, 512 * (i 2).val, 0] := by
  have h : ∀ n : Fin 8, (Scalar.muli (BitVec.ofNat 32 n.val) 512#32).toNat = 512 * n.val := by decide +kernel
  unfold k0_off4
  dsimp only
  funext a
  match a with
  | ⟨0, _⟩ => rfl
  | ⟨1, _⟩ => exact h (i 2)
  | ⟨2, _⟩ => rfl

end Cert.KernelOffsets
-- ==== Proof.KernelScore.lean ====
/- The attention kernel's scores, in base two and relative to the last row of the bias table, on real blocks. -/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.BodyIdeal
public import proofs.«01_k».proof.Proof.KernelRow
public import proofs.«01_k».proof.Proof.KernelOffsets
public import proofs.«01_k».proof.Proof.Spec
public import Idealize.ShloMosaic.Lib.Pipeline.ValueKit
public import Idealize.ShloMosaic.Lib.Pointwise
public import Idealize.ShloMosaic.Lib.Claim
public import proofs.«01_k».proof.Defs

@[expose] public section

set_option maxRecDepth 16384

noncomputable section

open Idealize.ShloMosaic Idealize.ShloMosaic.TcCoe Idealize.SL.Sem
open Idealize.ShloMosaic.Pipeline (Dat)
open scoped BigOperators

namespace Cert.KernelScore
open Cert.KernelIdeal Cert.KernelIdeal.Gen Cert.KernelIdeal.Body
open Cert.Softmax

/-- The column of query `r` of map `p`. -/
def colOf (p : Fin 2) (r : Fin 512) : Fin 1024 := ⟨p.val * 512 + r.val, by omega⟩

/-- The queries of a column, in the lanes of its map. -/
theorem lanes_at (v0 : FVec Ideal S1x512x128 .bf16) (p : Fin 2) (r : Fin 512) (x : Fin 128) :
    (k0_pay2 (F := Ideal) v0 (ix2 (colOf p r) x) : EReal) = if x.val / 64 = p.val then v0 (ix3 0 r x) else 0 := by
  have hs : ∀ x : Fin 128, (IntOp.cmpi .slt (BitVec.ofNat 32 x.val) 64#32 = 1#1) ↔ x.val < 64 := by decide +kernel
  have hg : ∀ x : Fin 128, (IntOp.cmpi .sge (BitVec.ofNat 32 x.val) 64#32 = 1#1) ↔ 64 ≤ x.val := by decide +kernel
  pointwise [k0_pay2]
  have hp := p.isLt
  have hx := x.isLt
  by_cases h : (colOf p r).val < 512
  · refine (dif_pos h).trans ((Spec.select_iff _ _ (hs x) _ _).trans ?_)
    have hp0 : p.val = 0 := by
      have : p.val * 512 + r.val < 512 := h
      omega
    have er : (⟨(colOf p r).val, h⟩ : Fin 512) = r := Fin.ext (by show p.val * 512 + r.val = r.val; omega)
    rw [er]
    exact if_congr (by omega) rfl rfl
  · refine (dif_neg h).trans ((Spec.select_iff _ _ (hg x) _ _).trans ?_)
    have hp1 : p.val = 1 := by
      have : ¬ (p.val * 512 + r.val < 512) := h
      omega
    have er : ∀ h', (⟨(colOf p r).val - 512, h'⟩ : Fin 512) = r := fun _ => Fin.ext (by show p.val * 512 + r.val - 512 = r.val; omega)
    rw [er]
    exact if_congr (by omega) rfl rfl

/-- The product of a column with a key, before any bias. -/
theorem plain_at (v0 kk : FVec Ideal S1x512x128 .bf16) (Qr : Fin 128 → ℝ) (Kr : Fin 128 → ℝ) (p : Fin 2) (r : Fin 512) (c : Fin 512)
    (hq : ∀ x, v0 (ix3 0 r x) = (Qr x : EReal)) (hk : ∀ x, kk (ix3 0 c x) = (Kr x : EReal)) :
    ∑ x : Fin 128, kk (ix3 0 c x) * (k0_pay2 (F := Ideal) v0 (ix2 (colOf p r) x) : EReal)
      = ((∑ d : Fin 64, Kr ⟨p.val * 64 + d.val, by omega⟩ * Qr ⟨p.val * 64 + d.val, by omega⟩ : ℝ) : EReal) := by
  rw [Softmax.sum_coe _ (fun x => Kr x * if x.val / 64 = p.val then Qr x else 0) fun x => by
    rw [lanes_at, hk, hq]
    split
    · rw [EReal.coe_mul]
    · rw [mul_zero, mul_zero, EReal.coe_zero]]
  congr 1
  rw [Fin.sum_univ_tiles 2 64 rfl, Fin.sum_univ_two]
  have e : ∀ (a : Fin 2) (t : Fin 64), (a.val * 64 + t.val) / 64 = a.val := fun a t => by omega
  match p with
  | 0 =>
    rw [add_eq_left.mpr]
    · exact Finset.sum_congr rfl fun t _ => by rw [if_pos (e 0 t)]
    · exact Finset.sum_eq_zero fun t _ => by rw [if_neg (by rw [e 1 t]; decide), mul_zero]
  | 1 =>
    rw [add_eq_right.mpr]
    · exact Finset.sum_congr rfl fun t _ => by rw [if_pos (e 1 t)]
    · exact Finset.sum_eq_zero fun t _ => by rw [if_neg (by rw [e 0 t]; decide), mul_zero]

/-- Two to a power that is taken in base two. -/
theorem weighs_real (y : ℝ) : Weighs ((y * (1 / Real.log 2) : ℝ) : EReal) (Real.exp y) := by
  refine Or.inr ⟨_, rfl, ?_⟩
  have h2 : Real.log 2 ≠ 0 := (Real.log_pos (by norm_num)).ne'
  show Real.exp y = (2 : ℝ) ^ (y * (1 / Real.log 2))
  rw [Real.rpow_def_of_pos (by norm_num)]
  congr 1
  field_simp

/-- Lane `x` of the queries of head `h`, -/
def queryLane (h : Fin 8) (x : Fin 128) : Fin 1024 := ⟨h.val * 128 + x.val, by omega⟩
/-- of its keys, -/
def keyLane (h : Fin 8) (x : Fin 128) : Fin 2048 := ⟨h.val * 128 + x.val, by omega⟩
/-- and of its values. -/
def valueLane (h : Fin 8) (x : Fin 128) : Fin 2048 := ⟨1024 + h.val * 128 + x.val, by omega⟩

/-- Row `r` of tile `n`. -/
def rowOf (n : Fin 8) (r : Fin 512) : Fin 4096 := ⟨512 * n.val + r.val, by omega⟩

variable (Q : Fin 4 → Fin 4096 → Fin 1024 → ℝ) (KV : Fin 4 → Fin 4096 → Fin 2048 → ℝ) (T : Fin 32 → Fin 16 → ℝ)
  (b : Fin 4) (h : Fin 8) (n m : Fin 8) (p : Fin 2) (r c : Fin 512) (v0 kk : FVec Ideal S1x512x128 .bf16)
  (hq : ∀ x : Fin 128, v0 (ix3 0 r x) = ((Q b (rowOf n r) (queryLane h x) * (1 / 8 * (1 / Real.log 2)) : ℝ) : EReal))
  (hk : ∀ x : Fin 128, kk (ix3 0 c x) = ((KV b (rowOf m c) (keyLane h x) : ℝ) : EReal))

include hq hk in
/-- The product of a column with a key. -/
theorem base_at : ∑ x : Fin 128, kk (ix3 0 c x) * (k0_pay2 (F := Ideal) v0 (ix2 (colOf p r) x) : EReal)
    = ((Spec.dot Q KV b h p (rowOf n r) (rowOf m c) * (1 / 8) * (1 / Real.log 2) : ℝ) : EReal) := by
  rw [plain_at v0 kk _ _ p r c hq hk]
  congr 1
  unfold Spec.dot
  rw [Finset.sum_mul, Finset.sum_mul]
  refine Finset.sum_congr rfl fun d _ => ?_
  have e : (⟨h.val * 128 + (p.val * 64 + d.val), by omega⟩ : Fin 1024) = ⟨h.val * 128 + p.val * 64 + d.val, by omega⟩ := Fin.ext (by simp only []; omega)
  simp only [queryLane, keyLane, e]
  ring

include hq hk in
/-- In a far chunk the bias is the last row's. -/
theorem far_weighs (hm : m.val + 2 ≤ n.val) :
    Weighs (k0_pay6 (F := Ideal) v0 kk (ix2 c (colOf p r)) : EReal) (Spec.weight Q KV T b h p (rowOf n r) (rowOf m c))
      ∧ (k0_pay6 (F := Ideal) v0 kk (ix2 c (colOf p r)) : EReal) ≠ ⊥ := by
  have e : (k0_pay6 (F := Ideal) v0 kk (ix2 c (colOf p r)) : EReal)
      = ((Spec.dot Q KV b h p (rowOf n r) (rowOf m c) * (1 / 8) * (1 / Real.log 2) : ℝ) : EReal) := by
    rw [← base_at Q KV b h n m p r c v0 kk hq hk]
    pointwise [k0_pay6]
  rw [e]
  refine ⟨?_, EReal.coe_ne_bot _⟩
  have hd : 513 ≤ (rowOf n r).val - (rowOf m c).val := by unfold rowOf; simp only []; omega
  have hd' : (rowOf n r).val - (rowOf m c).val < 4096 := by unfold rowOf; simp only []; omega
  unfold Spec.weight Spec.score
  rw [if_pos (by omega), Bias.row_far _ hd hd']
  rw [add_sub_cancel_right]
  exact weighs_real _

include hq hk in
/-- In the chunk before the queries' own the bias is the tile's. -/
theorem near_weighs (hm : m.val + 1 = n.val) (bb : FVec Ideal S1x1x512x1024 .f32)
    (hb : bb (ix4 0 0 c (colOf p r)) = (((T (Bias.row (BitVec.ofNat 32 (512 + r.val - c.val))) (Spec.col h p) - T 31 (Spec.col h p)) * (1 / Real.log 2) : ℝ) : EReal)) :
    Weighs (k0_pay18 (F := Ideal) v0 kk bb (ix2 c (colOf p r)) : EReal) (Spec.weight Q KV T b h p (rowOf n r) (rowOf m c))
      ∧ (k0_pay18 (F := Ideal) v0 kk bb (ix2 c (colOf p r)) : EReal) ≠ ⊥ := by
  have e : (k0_pay18 (F := Ideal) v0 kk bb (ix2 c (colOf p r)) : EReal)
      = (((Spec.score Q KV T b h p (rowOf n r) (rowOf m c) - T 31 (Spec.col h p)) * (1 / Real.log 2) : ℝ) : EReal) := by
    have e1 : (k0_pay18 (F := Ideal) v0 kk bb (ix2 c (colOf p r)) : EReal)
      = ∑ x : Fin 128, kk (ix3 0 c x) * (k0_pay2 (F := Ideal) v0 (ix2 (colOf p r) x) : EReal) + bb (ix4 0 0 c (colOf p r)) := by
      pointwise [k0_pay18]
    rw [e1, base_at Q KV b h n m p r c v0 kk hq hk, hb, ← EReal.coe_add]
    unfold Spec.score
    rw [show (rowOf n r).val - (rowOf m c).val = 512 + r.val - c.val by unfold rowOf; simp only []; omega]
    congr 1
    ring
  rw [e]
  refine ⟨?_, EReal.coe_ne_bot _⟩
  unfold Spec.weight
  rw [if_pos (by unfold rowOf; simp only []; omega)]
  exact weighs_real _

include hq hk in
/-- In the queries' own chunk the bias is the tile's, and past the query nothing counts. -/
theorem own_weighs (hm : m = n) (bb : FVec Ideal S1x1x512x1024 .f32)
    (hb : bb (ix4 0 0 c (colOf p r)) = if c.val ≤ r.val then
      (((T (Bias.row (BitVec.ofNat 32 (r.val - c.val))) (Spec.col h p) - T 31 (Spec.col h p)) * (1 / Real.log 2) : ℝ) : EReal) else ⊥) :
    Weighs ((k0_pay24 (F := Ideal) v0 kk (ix2 c (colOf p r)) : EReal) + bb (ix4 0 0 c (colOf p r))) (Spec.weight Q KV T b h p (rowOf n r) (rowOf m c))
      ∧ (c.val ≤ r.val → (k0_pay24 (F := Ideal) v0 kk (ix2 c (colOf p r)) : EReal) + bb (ix4 0 0 c (colOf p r)) ≠ ⊥) := by
  subst hm
  have e1 : (k0_pay24 (F := Ideal) v0 kk (ix2 c (colOf p r)) : EReal)
      = ∑ x : Fin 128, kk (ix3 0 c x) * (k0_pay2 (F := Ideal) v0 (ix2 (colOf p r) x) : EReal) := by
    pointwise [k0_pay24]
  rw [e1, base_at Q KV b h m m p r c v0 kk hq hk, hb]
  unfold Spec.weight
  by_cases hc : c.val ≤ r.val
  · rw [if_pos hc, if_pos (by unfold rowOf; simp only []; omega), ← EReal.coe_add]
    refine ⟨?_, fun _ => EReal.coe_ne_bot _⟩
    have e : (Spec.dot Q KV b h p (rowOf m r) (rowOf m c) * (1 / 8) * (1 / Real.log 2)
        + (T (Bias.row (BitVec.ofNat 32 (r.val - c.val))) (Spec.col h p) - T 31 (Spec.col h p)) * (1 / Real.log 2))
        = (Spec.score Q KV T b h p (rowOf m r) (rowOf m c) - T 31 (Spec.col h p)) * (1 / Real.log 2) := by
      unfold Spec.score
      rw [show (rowOf m r).val - (rowOf m c).val = r.val - c.val by unfold rowOf; simp only []; omega]
      ring
    rw [e]
    exact weighs_real _
  · rw [if_neg hc, if_neg (by unfold rowOf; simp only []; omega), EReal.add_bot]
    exact ⟨Or.inl ⟨rfl, rfl⟩, fun h => absurd h hc⟩

end Cert.KernelScore
-- ==== Proof.KernelLayout.lean ====
/- How the attention kernel's host code moves entries: two tiles laid side by side for each head, and a tile cut out of a
   ring. -/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.KernelHost
public import proofs.«01_k».proof.Proof.KernelScore
public import proofs.«01_k».proof.Proof.Spec
public import Idealize.ShloMosaic.Lib.Pipeline.ValueKit
public import Idealize.ShloMosaic.Lib.Pointwise
public import Idealize.ShloMosaic.Lib.Claim
public import proofs.«01_k».proof.Defs

@[expose] public section

set_option maxRecDepth 16384

noncomputable section

open Idealize.ShloMosaic Idealize.ShloMosaic.TcCoe Idealize.SL.Sem
open Idealize.ShloMosaic.Pipeline (Dat)
open scoped BigOperators

namespace Cert.KernelTiles
open Cert.KernelIdeal Cert.KernelIdeal.Gen Cert.KernelHost Cert.KernelScore

/-- The first tile of a head, -/
theorem layOut0 (x y : FVec Ideal S16x512x512 .f32) (h : Fin 8) (p : Fin 2) (r c : Fin 512) :
    layOut x y (ix4 0 h c (colOf p r)) = x (ix3 (Spec.col h p) r c) := by
  pointwise [layOut, colOf, Spec.col]

/-- and the second. -/
theorem layOut1 (x y : FVec Ideal S16x512x512 .f32) (h : Fin 8) (p : Fin 2) (r c : Fin 512) :
    layOut x y (ix4 1 h c (colOf p r)) = y (ix3 (Spec.col h p) r c) := by
  pointwise [layOut, colOf, Spec.col]

/-- Entry (r, c) of a tile cut out of the ring is c - r places on. -/
theorem skew_at (x : FVec Ideal S1024x16 .f32) (a : Fin 16) (r c : Fin 512) :
    skew x (ix3 a r c) = x (ix2 ⟨(r.val * 1023 + c.val) % 1024, by omega⟩ a) := by
  pointwise [skew]

end Cert.KernelTiles
-- ==== Proof.KernelTiles.lean ====
/- The two bias tiles the attention kernel's host code prepares, entry by entry: the bias of the distance between a query
   and a key, relative to the table's last row and in base two. -/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.KernelHost
public import proofs.«01_k».proof.Proof.KernelLayout
public import proofs.«01_k».proof.Proof.KernelScore
public import proofs.«01_k».proof.Proof.Spec
public import Idealize.ShloMosaic.Lib.Pipeline.ValueKit
public import Idealize.ShloMosaic.Lib.Pointwise
public import Idealize.ShloMosaic.Lib.Claim
public import proofs.«01_k».proof.Defs

@[expose] public section

set_option maxRecDepth 16384

noncomputable section

open Idealize.ShloMosaic Idealize.ShloMosaic.TcCoe Idealize.SL.Sem
open Idealize.ShloMosaic.Pipeline (Dat)
open scoped BigOperators

namespace Cert.KernelTiles
open Cert.KernelIdeal Cert.KernelIdeal.Gen Cert.KernelHost Cert.KernelScore

/-- The mask of a tile. -/
theorem masked_at (x : FVec Ideal S16x512x512 .f32) (a : Fin 16) (r c : Fin 512) :
    (masked x (ix3 a r c) : EReal) = if c.val ≤ r.val then x (ix3 a r c) else ⊥ := by
  have hs : (IntOp.cmpi .sle (BitVec.ofNat 32 c.val) (BitVec.ofNat 32 r.val) = 1#1) ↔ c.val ≤ r.val := by
    have e : IntOp.cmpi .sle (BitVec.ofNat 32 c.val) (BitVec.ofNat 32 r.val) = BitVec.ofBool ((BitVec.ofNat 32 c.val).sle (BitVec.ofNat 32 r.val)) := rfl
    rw [e, show ∀ b : Bool, (BitVec.ofBool b = 1#1) ↔ b = true from by decide]
    simp only [BitVec.sle, decide_eq_true_eq]
    rw [Bias.word_int _ (by omega), Bias.word_int _ (by omega)]
    omega
  pointwise [masked]
  refine (Spec.select_iff _ _ hs _ _).trans ?_
  exact if_congr Iff.rfl rfl Softmax.bot_bits

/-- One over the logarithm of two. -/
theorem log2e_at : (log2e ix0 : EReal) = ((1 / Real.log 2 : ℝ) : EReal) := by
  have h2 : Ideal.ofBits .f32 0x40000000#32 = ((2 : ℝ) : EReal) := by
    simp [Ideal.ofBits, Ideal.ieee, -EReal.coe_mul]
    norm_num
  have h1 : Ideal.ofBits .f32 0x3F800000#32 = ((1 : ℝ) : EReal) := by
    simp [Ideal.ofBits, Ideal.ieee, -EReal.coe_mul]
    norm_num
  have e : (log2e ix0 : EReal) = Ideal.div (Ideal.ofBits .f32 0x3F800000#32) (Ideal.log (Ideal.ofBits .f32 0x40000000#32)) := by
    pointwise [log2e]
  rw [e, h1, h2, Ideal.log_coe, if_neg (by norm_num), Ideal.div_coe (Real.log_pos (by norm_num)).ne', ← EReal.coe_mul, one_mul]

/-- A bias of the ring. -/
theorem rel_at (k : IVec S1024 32) (tbl : FVec Ideal S32x16 .f32) (o : Fin 1024) (a : Fin 16) (d : BitVec 32) (hd : k (ix1 o) = Bias.bucket d) :
    (rel k tbl (ix2 o a) : EReal) = (tbl (ix2 (Bias.row d) a) - tbl (ix2 31 a)) * ((1 / Real.log 2 : ℝ) : EReal) := by
  have g : (Host.gather gather_S32x16_S1024x1_S1024x16_1_0_n_n_0_1_116 tbl
          (broadcastInDim S1024x1 ![0] bcast_S1024_S1024x1_0 (select (cmpi .slt k (bc 0#32)) (addi k (bc 32#32)) k)) (ix2 o a))
        = tbl (ix2 (Bias.row d) a) := by
    refine (Bias.gather_rows (by decide) _ tbl _ o a).trans ?_
    refine congrArg (fun r => tbl (ix2 r a)) (Fin.ext ?_)
    show min (BitVec.toInt _).toNat 31 = min (BitVec.toInt _).toNat 31
    congr 3
    pointwise [bc]
    rw [hd]
    rfl
  have e : (rel k tbl (ix2 o a) : EReal) = (Host.gather gather_S32x16_S1024x1_S1024x16_1_0_n_n_0_1_116 tbl
          (broadcastInDim S1024x1 ![0] bcast_S1024_S1024x1_0 (select (cmpi .slt k (bc 0#32)) (addi k (bc 32#32)) k)) (ix2 o a)
        - tbl (ix2 31 a)) * log2e ix0 := by
    pointwise [rel]
  rw [e, log2e_at]
  exact congrArg (fun t : EReal => (t - tbl (ix2 31 a)) * ((1 / Real.log 2 : ℝ) : EReal)) g

/-- The bucket of a place on the ring. -/
theorem buckets_at (k : IVec S1024 32) (o : Fin 1024) (d : BitVec 32) (hd : k (ix1 o) = IntOp.maxsi d 0#32) :
    buckets k (ix1 o) = Bias.bucket d := by
  pointwise [buckets, bc, bf]
  rw [hd]
  rfl

theorem clip_at (d : IVec S1024 32) (o : Fin 1024) : clip d (ix1 o) = IntOp.maxsi (d (ix1 o)) 0#32 := by
  pointwise [clip, bc]
  refine congrArg (fun x => IntOp.maxsi x 0#32) ?_
  show 0#32 - -(d (ix1 o)) = d (ix1 o)
  rw [BitVec.zero_sub, BitVec.neg_neg]

/-- The distance of a place on the ring. -/
theorem ring_at (u w : BitVec 32) (o : Fin 1024) :
    ring u w (ix1 o) = if o.val < 512 then u - BitVec.ofNat 32 o.val else w - BitVec.ofNat 32 o.val := by
  have hs : (IntOp.cmpi .slt (BitVec.ofNat 32 o.val) 512#32 = 1#1) ↔ o.val < 512 := by
    have e : IntOp.cmpi .slt (BitVec.ofNat 32 o.val) 512#32 = BitVec.ofBool ((BitVec.ofNat 32 o.val).slt 512#32) := rfl
    rw [e, show ∀ b : Bool, (BitVec.ofBool b = 1#1) ↔ b = true from by decide]
    simp only [BitVec.slt, decide_eq_true_eq]
    rw [Bias.word_int _ (by omega), Bias.word_int _ (by omega)]
    omega
  pointwise [ring, bc]
  exact Spec.select_iff _ _ hs _ _

/-- The distance `c - r` places on, where it is not negative. -/
theorem ring_skew (v w : ℕ) (hw : w = v + 1024) (hv : v ≤ 512) (r c : Fin 512) (hrc : c.val ≤ v + r.val) (hz : v = 512 ∨ c.val ≤ r.val) :
    ring (BitVec.ofNat 32 v) (BitVec.ofNat 32 w) (ix1 ⟨(r.val * 1023 + c.val) % 1024, by omega⟩)
      = BitVec.ofNat 32 (v + r.val - c.val) := by
  rw [ring_at]
  show (if (r.val * 1023 + c.val) % 1024 < 512 then _ else _) = _
  by_cases hc : r.val ≤ c.val
  · have e : (r.val * 1023 + c.val) % 1024 = c.val - r.val := by omega
    rw [if_pos (by omega)]
    show BitVec.ofNat 32 v - BitVec.ofNat 32 ((r.val * 1023 + c.val) % 1024) = _
    rw [e, BitVec.ofNat_sub_ofNat_of_le _ _ (by omega) (by omega)]
    congr 1
    omega
  · have e : (r.val * 1023 + c.val) % 1024 = 1024 + c.val - r.val := by omega
    rw [if_neg (by omega)]
    show BitVec.ofNat 32 w - BitVec.ofNat 32 ((r.val * 1023 + c.val) % 1024) = _
    rw [e, BitVec.ofNat_sub_ofNat_of_le _ _ (by omega) (by omega)]
    congr 1
    omega

/-- An entry of a tile. -/
theorem tile_at (tbl : FVec Ideal S32x16 .f32) (T : Fin 32 → Fin 16 → ℝ) (hT : ∀ r c, (tbl (ix2 r c) : EReal) = (T r c : EReal))
    (v w : ℕ) (hw : w = v + 1024) (hv : v ≤ 512) (a : Fin 16) (r c : Fin 512) (hrc : c.val ≤ v + r.val) (hz : v = 512 ∨ c.val ≤ r.val) :
    (skew (rel (buckets (clip (ring (BitVec.ofNat 32 v) (BitVec.ofNat 32 w)))) tbl) (ix3 a r c) : EReal)
      = (((T (Bias.row (BitVec.ofNat 32 (v + r.val - c.val))) a - T 31 a) * (1 / Real.log 2) : ℝ) : EReal) := by
  rw [skew_at, rel_at _ tbl _ a _ (buckets_at _ _ _ ((clip_at _ _).trans (congrArg (fun x => IntOp.maxsi x 0#32) (ring_skew v w hw hv r c hrc hz))))]
  rw [show (tbl (ix2 _ a) : EReal) = _ from hT _ _, show (tbl (ix2 31 a) : EReal) = _ from hT _ _, ← EReal.coe_sub, ← EReal.coe_mul]

/-- The tile of the chunk before the queries' own. -/
theorem before_at (tbl : FVec Ideal S32x16 .f32) (T : Fin 32 → Fin 16 → ℝ) (hT : ∀ r c, (tbl (ix2 r c) : EReal) = (T r c : EReal))
    (h : Fin 8) (p : Fin 2) (r c : Fin 512) :
    (tiles tbl (ix4 0 h c (colOf p r)) : EReal)
      = (((T (Bias.row (BitVec.ofNat 32 (512 + r.val - c.val))) (Spec.col h p) - T 31 (Spec.col h p)) * (1 / Real.log 2) : ℝ) : EReal) := by
  unfold tiles
  exact (layOut0 _ _ h p r c).trans (tile_at tbl T hT 512 1536 rfl (le_refl _) _ r c (by omega) (Or.inl rfl))

/-- The tile of the queries' own chunk. -/
theorem own_at (tbl : FVec Ideal S32x16 .f32) (T : Fin 32 → Fin 16 → ℝ) (hT : ∀ r c, (tbl (ix2 r c) : EReal) = (T r c : EReal))
    (h : Fin 8) (p : Fin 2) (r c : Fin 512) :
    (tiles tbl (ix4 1 h c (colOf p r)) : EReal) = if c.val ≤ r.val then
      (((T (Bias.row (BitVec.ofNat 32 (r.val - c.val))) (Spec.col h p) - T 31 (Spec.col h p)) * (1 / Real.log 2) : ℝ) : EReal) else ⊥ := by
  unfold tiles
  refine (layOut1 _ _ h p r c).trans ((masked_at _ _ r c).trans ?_)
  by_cases hc : c.val ≤ r.val
  · rw [if_pos hc, if_pos hc]
    have := tile_at tbl T hT 0 1024 rfl (by omega) (Spec.col h p) r c (by omega) (Or.inr hc)
    rw [Nat.zero_add] at this
    exact this
  · rw [if_neg hc, if_neg hc]

end Cert.KernelTiles
-- ==== Proof.KernelPoint.lean ====
/- A grid point of the attention kernel on real blocks: the difference it forms of the two maps is that of `Spec`. -/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.BodyIdeal
public import proofs.«01_k».proof.Proof.KernelRow
public import proofs.«01_k».proof.Proof.KernelOffsets
public import proofs.«01_k».proof.Proof.KernelScore
public import proofs.«01_k».proof.Proof.Spec
public import Idealize.ShloMosaic.Lib.Pipeline.ValueKit
public import Idealize.ShloMosaic.Lib.Pointwise
public import Idealize.ShloMosaic.Lib.Claim
public import proofs.«01_k».proof.Defs

@[expose] public section

set_option maxRecDepth 16384

noncomputable section

open Idealize.ShloMosaic Idealize.ShloMosaic.TcCoe Idealize.SL.Sem
open Idealize.ShloMosaic.Pipeline (Dat)
open scoped BigOperators

namespace Cert.KernelPoint
open Cert.KernelIdeal Cert.KernelIdeal.Gen Cert.KernelIdeal.Body
open Cert.Softmax Cert.KernelRow Cert.KernelOffsets Cert.KernelScore

/-- The sum of `f` over the rows of tile `m`. -/
def tileSum (f : Fin 4096 → ℝ) (m : ℕ) : ℝ := if h : m < 8 then ∑ c, f (rowOf ⟨m, h⟩ c) else 0

/-- A sum over all rows, of which those past tile `n` add nothing. -/
theorem sum_tiles (f : Fin 4096 → ℝ) (n : Fin 8) (hf : ∀ k : Fin 4096, 512 * n.val + 512 ≤ k.val → f k = 0) :
    ∑ k, f k = ∑ m ∈ Finset.range n.val, tileSum f m + ∑ c, f (rowOf n c) := by
  have e1 : ∑ k, f k = ∑ m : Fin 8, ∑ c : Fin 512, f (rowOf m c) := by
    rw [Fin.sum_univ_tiles 8 512 rfl]
    exact Finset.sum_congr rfl fun m _ => Finset.sum_congr rfl fun c _ => congrArg f (Fin.ext (by show m.val * 512 + c.val = 512 * m.val + c.val; omega))
  have e2 : ∑ m : Fin 8, ∑ c : Fin 512, f (rowOf m c) = ∑ m ∈ Finset.range 8, tileSum f m := by
    rw [Finset.sum_range]
    exact Finset.sum_congr rfl fun m _ => (show tileSum f m.val = _ from dif_pos m.isLt).symm
  have hn := n.isLt
  have e3 : ∑ m ∈ Finset.range (n.val + 1), tileSum f m = ∑ m ∈ Finset.range 8, tileSum f m := by
    refine Finset.sum_subset (fun x hx => Finset.mem_range.mpr (by have := Finset.mem_range.mp hx; omega)) fun m hm hm' => ?_
    have h8 := Finset.mem_range.mp hm
    have h9 : ¬ m < n.val + 1 := fun h => hm' (Finset.mem_range.mpr h)
    unfold tileSum
    rw [dif_pos h8]
    exact Finset.sum_eq_zero fun c _ => hf _ (by show 512 * n.val + 512 ≤ 512 * m + c.val; omega)
  rw [e1, e2, ← e3, Finset.sum_range_succ]
  congr 1
  exact dif_pos hn

/-- The weights of the keys, -/
abbrev wt (Q : Fin 4 → Fin 4096 → Fin 1024 → ℝ) (KV : Fin 4 → Fin 4096 → Fin 2048 → ℝ) (T : Fin 32 → Fin 16 → ℝ) (b : Fin 4) (h n : Fin 8)
    (p : Fin 2) (r : Fin 512) (k : Fin 4096) : ℝ := Spec.weight Q KV T b h p (rowOf n r) k
/-- and the weighted values. -/
abbrev wv (Q : Fin 4 → Fin 4096 → Fin 1024 → ℝ) (KV : Fin 4 → Fin 4096 → Fin 2048 → ℝ) (T : Fin 32 → Fin 16 → ℝ) (b : Fin 4) (h n : Fin 8)
    (p : Fin 2) (r : Fin 512) (e : Fin 128) (k : Fin 4096) : ℝ :=
  KV b k (valueLane h e) * Spec.weight Q KV T b h p (rowOf n r) k

variable (Q : Fin 4 → Fin 4096 → Fin 1024 → ℝ) (KV : Fin 4 → Fin 4096 → Fin 2048 → ℝ) (T : Fin 32 → Fin 16 → ℝ)
  (b : Fin 4) (h : Fin 8) (i : grid0.Coords) (n : Fin 8) (hn : (i 2).val = n.val)
  (v0 : FVec Ideal S1x512x128 .bf16) (x1 x2 : FVec Ideal S1x4096x128 .bf16) (x3 : FVec Ideal S2x1x512x1024 .f32)
  (hx0 : ∀ (r : Fin 512) (x : Fin 128), v0 (ix3 0 r x) = ((Q b (rowOf n r) (queryLane h x) * (1 / 8 * (1 / Real.log 2)) : ℝ) : EReal))
  (hx1 : ∀ (k : Fin 4096) (x : Fin 128), x1 (ix3 0 k x) = ((KV b k (keyLane h x) : ℝ) : EReal))
  (hx2 : ∀ (k : Fin 4096) (x : Fin 128), x2 (ix3 0 k x) = ((KV b k (valueLane h x) : ℝ) : EReal))
  (hb0 : ∀ (p : Fin 2) (r c : Fin 512), x3 (ix4 0 0 c (colOf p r))
    = (((T (Bias.row (BitVec.ofNat 32 (512 + r.val - c.val))) (Spec.col h p) - T 31 (Spec.col h p)) * (1 / Real.log 2) : ℝ) : EReal))
  (hb1 : ∀ (p : Fin 2) (r c : Fin 512), x3 (ix4 1 0 c (colOf p r)) = if c.val ≤ r.val then
    (((T (Bias.row (BitVec.ofNat 32 (r.val - c.val))) (Spec.col h p) - T 31 (Spec.col h p)) * (1 / Real.log 2) : ℝ) : EReal) else ⊥)

include hn in
/-- What a far chunk reads. -/
theorem far_read (x : FVec Ideal S1x4096x128 .bf16) (k : Fin (k0_t1_loop i).trips) (m : Fin 8) (hm : m.val = k.val) (c : Fin 512) (d : Fin 128) :
    View.ld (Val := Elt Ideal) (e' := .bf16) x (rFar i k) (ix3 0 c d) = x (ix3 0 (rowOf m c) d) := by
  refine congrArg x (funext fun a => Fin.ext ?_)
  have := off1 i k
  match a with
  | ⟨0, _⟩ =>
    show k0_off1 i k 0 + 1 * 0 = 0
    rw [this]; rfl
  | ⟨1, _⟩ =>
    show k0_off1 i k 1 + 1 * c.val = 512 * m.val + c.val
    rw [this, hm, Nat.one_mul]; rfl
  | ⟨2, _⟩ =>
    show k0_off1 i k 2 + 1 * d.val = d.val
    rw [this, Nat.one_mul]; exact Nat.zero_add _

include hn in
/-- What the chunk before the queries' own reads. -/
theorem near_read (x : FVec Ideal S1x4096x128 .bf16) (hc : k0_cond1 i = 1#1) (m : Fin 8) (hm : m.val + 1 = n.val) (c : Fin 512) (d : Fin 128) :
    View.ld (Val := Elt Ideal) (e' := .bf16) x (rNear i hc) (ix3 0 c d) = x (ix3 0 (rowOf m c) d) := by
  refine congrArg x (funext fun a => Fin.ext ?_)
  have := off3 i ((cond_iff i).mp hc)
  have e : (i 2).val - 1 = m.val := by omega
  match a with
  | ⟨0, _⟩ =>
    show k0_off3 i 0 + 1 * 0 = 0
    rw [this]; rfl
  | ⟨1, _⟩ =>
    show k0_off3 i 1 + 1 * c.val = 512 * m.val + c.val
    rw [this, e, Nat.one_mul]; rfl
  | ⟨2, _⟩ =>
    show k0_off3 i 2 + 1 * d.val = d.val
    rw [this, Nat.one_mul]; exact Nat.zero_add _

include hn in
/-- What the queries' own chunk reads. -/
theorem own_read (x : FVec Ideal S1x4096x128 .bf16) (c : Fin 512) (d : Fin 128) :
    View.ld (Val := Elt Ideal) (e' := .bf16) x (rOwn i) (ix3 0 c d) = x (ix3 0 (rowOf n c) d) := by
  refine congrArg x (funext fun a => Fin.ext ?_)
  have := off4 i
  match a with
  | ⟨0, _⟩ =>
    show k0_off4 i 0 + 1 * 0 = 0
    rw [this]; rfl
  | ⟨1, _⟩ =>
    show k0_off4 i 1 + 1 * c.val = 512 * n.val + c.val
    rw [this, hn, Nat.one_mul]; rfl
  | ⟨2, _⟩ =>
    show k0_off4 i 2 + 1 * d.val = d.val
    rw [this, Nat.one_mul]; exact Nat.zero_add _

/-- The bias tiles. -/
theorem tile0_read (x : FVec Ideal S2x1x512x1024 .f32) (c : Fin 512) (j : Fin 1024) : View.ld (Val := Elt Ideal) (e' := .f32) x rTile0 (ix4 0 0 c j) = x (ix4 0 0 c j) := by
  refine congrArg x (funext fun a => Fin.ext ?_)
  match a with
  | ⟨0, _⟩ => rfl
  | ⟨1, _⟩ => rfl
  | ⟨2, _⟩ => show 0 + 1 * c.val = c.val; omega
  | ⟨3, _⟩ => show 0 + 1 * j.val = j.val; omega
theorem tile1_read (x : FVec Ideal S2x1x512x1024 .f32) (c : Fin 512) (j : Fin 1024) : View.ld (Val := Elt Ideal) (e' := .f32) x rTile1 (ix4 0 0 c j) = x (ix4 1 0 c j) := by
  refine congrArg x (funext fun a => Fin.ext ?_)
  match a with
  | ⟨0, _⟩ => rfl
  | ⟨1, _⟩ => rfl
  | ⟨2, _⟩ => show 0 + 1 * c.val = c.val; omega
  | ⟨3, _⟩ => show 0 + 1 * j.val = j.val; omega

include hn hx0 hx1 hx2 in
theorem far_good (p : Fin 2) (r : Fin 512) (e : Fin 128) (N : ℕ) (hN : N ≤ (k0_t1_loop i).trips) :
    Good (far i v0 x1 x2 N) (colOf p r) e (∑ m ∈ Finset.range N, tileSum (wt Q KV T b h n p r) m) (∑ m ∈ Finset.range N, tileSum (wv Q KV T b h n p r e) m) := by
  induction N with
  | zero => exact start_good _ _
  | succ N ih =>
    have hl : N < (k0_t1_loop i).trips := hN
    have ht := trips_eq i
    have h8 := n.isLt
    have hN8 : N < 8 := by omega
    rw [far, dif_pos hl, Finset.sum_range_succ, Finset.sum_range_succ,
      show tileSum (wt Q KV T b h n p r) N = ∑ c, wt Q KV T b h n p r (rowOf ⟨N, hN8⟩ c) from dif_pos hN8,
      show tileSum (wv Q KV T b h n p r e) N = ∑ c, wv Q KV T b h n p r e (rowOf ⟨N, hN8⟩ c) from dif_pos hN8]
    have hw := fun c => far_weighs Q KV T b h n ⟨N, hN8⟩ p r c v0 (View.ld (Val := Elt Ideal) (e' := .bf16) x1 (rFar i ⟨N, hl⟩)) (hx0 r)
      (fun x => (far_read i n hn x1 ⟨N, hl⟩ ⟨N, hN8⟩ rfl c x).trans (hx1 _ _)) (by show N + 2 ≤ n.val; omega)
    exact chunk_good v0 _ _ _ _ e _ _ _ _ (ih (by omega)) (fun c => (hw c).1) ⟨0, (hw 0).2⟩
      (fun c => (far_read i n hn x2 ⟨N, hl⟩ ⟨N, hN8⟩ rfl c e).trans (hx2 _ _))

include hn hx0 hx1 hx2 hb0 in
theorem before_good (p : Fin 2) (r : Fin 512) (e : Fin 128) :
    Good (before i v0 x1 x2 x3) (colOf p r) e (∑ m ∈ Finset.range n.val, tileSum (wt Q KV T b h n p r) m)
      (∑ m ∈ Finset.range n.val, tileSum (wv Q KV T b h n p r e) m) := by
  have ht := trips_eq i
  have hf := far_good Q KV T b h i n hn v0 x1 x2 hx0 hx1 hx2 p r e _ (le_refl _)
  unfold before near
  by_cases hc : k0_cond1 i = 1#1
  · rw [dif_pos hc]
    have h1 := (cond_iff i).mp hc
    have h8 := n.isLt
    obtain ⟨N, hN⟩ : ∃ N, n.val = N + 1 := ⟨n.val - 1, by omega⟩
    have hN8 : N < 8 := by omega
    have e1 : (k0_t1_loop i).trips = N := by omega
    rw [hN, Finset.sum_range_succ, Finset.sum_range_succ,
      show tileSum (wt Q KV T b h n p r) N = ∑ c, wt Q KV T b h n p r (rowOf ⟨N, hN8⟩ c) from dif_pos hN8,
      show tileSum (wv Q KV T b h n p r e) N = ∑ c, wv Q KV T b h n p r e (rowOf ⟨N, hN8⟩ c) from dif_pos hN8]
    have hf' : Good (far i v0 x1 x2 (k0_t1_loop i).trips) (colOf p r) e (∑ m ∈ Finset.range N, tileSum (wt Q KV T b h n p r) m)
        (∑ m ∈ Finset.range N, tileSum (wv Q KV T b h n p r e) m) := by
      rw [e1] at hf ⊢
      exact hf
    have hw := fun c => near_weighs Q KV T b h n ⟨N, hN8⟩ p r c v0 (View.ld (Val := Elt Ideal) (e' := .bf16) x1 (rNear i hc)) (hx0 r)
      (fun x => (near_read i n hn x1 hc ⟨N, hN8⟩ hN.symm c x).trans (hx1 _ _)) hN.symm (View.ld (Val := Elt Ideal) (e' := .f32) x3 rTile0)
      ((tile0_read x3 c _).trans (hb0 p r c))
    exact near_good v0 _ _ _ _ _ e _ _ _ _ hf' (fun c => (hw c).1) ⟨0, (hw 0).2⟩
      (fun c => (near_read i n hn x2 hc ⟨N, hN8⟩ hN.symm c e).trans (hx2 _ _))
  · rw [dif_neg hc]
    have h1 : ¬ 1 ≤ (i 2).val := fun h => hc ((cond_iff i).mpr h)
    rw [show n.val = (k0_t1_loop i).trips by omega]
    exact hf

include hn hx0 hx1 hx2 hb0 hb1 in
theorem mean_at (p : Fin 2) (r : Fin 512) (e : Fin 128) :
    KernelRow.own ((before (F := Ideal) i v0 x1 x2 x3).1 (ix2 0 (colOf p r))) ((before (F := Ideal) i v0 x1 x2 x3).2.1 (ix2 0 (colOf p r))) ((before (F := Ideal) i v0 x1 x2 x3).2.2 (ix2 e (colOf p r)))
        (fun c => (k0_pay24 (F := Ideal) v0 (View.ld (Val := Elt Ideal) (e' := .bf16) x1 (rOwn i)) (ix2 c (colOf p r)) : EReal) + View.ld (Val := Elt Ideal) (e' := .f32) x3 rTile1 (ix4 0 0 c (colOf p r)))
        (fun c => View.ld (Val := Elt Ideal) (e' := .bf16) x2 (rOwn i) (ix3 0 c e))
      = ((Spec.mean Q KV T b h p (rowOf n r) e : ℝ) : EReal) := by
  have hw := fun c => own_weighs Q KV T b h n n p r c v0 (View.ld (Val := Elt Ideal) (e' := .bf16) x1 (rOwn i)) (hx0 r)
    (fun x => (own_read i n hn x1 c x).trans (hx1 _ _)) rfl (View.ld (Val := Elt Ideal) (e' := .f32) x3 rTile1) ((tile1_read x3 c _).trans (hb1 p r c))
  rw [own_good _ _ _ _ _ (before_good Q KV T b h i n hn v0 x1 x2 x3 hx0 hx1 hx2 hb0 p r e) _ _ _
    (fun c => KV b (rowOf n c) (valueLane h e)) (fun c => (hw c).1) ⟨0, (hw 0).2 (Nat.zero_le _)⟩
    (fun c => (own_read i n hn x2 c e).trans (hx2 _ _))]
  congr 1
  have z : ∀ k : Fin 4096, 512 * n.val + 512 ≤ k.val → Spec.weight Q KV T b h p (rowOf n r) k = 0 := fun k hk =>
    if_neg (by show ¬ k.val ≤ 512 * n.val + r.val; omega)
  exact (congrArg₂ (fun x y : ℝ => x / y)
    (sum_tiles (wv Q KV T b h n p r e) n fun k hk => by show _ * Spec.weight Q KV T b h p (rowOf n r) k = 0; rw [z k hk, mul_zero])
    (sum_tiles (wt Q KV T b h n p r) n z)).symm

include hn hx0 hx1 hx2 hb0 hb1 in
/-- The difference of the maps. -/
theorem diff_real (x4 : FVec Ideal S4x64 .f32) (l : ℝ) (hl : Spec.lamOf (fun a x => (View.ld (Val := Elt Ideal) (e' := .f32) x4 rLam (ix2 a x) : EReal)) = (l : EReal)) (r : Fin 512) (e : Fin 128) :
    (diff (F := Ideal) i v0 x1 x2 x3 x4 (ix2 e r) : EReal) = ((Spec.diff Q KV T l b h (rowOf n r) e : ℝ) : EReal) := by
  have m0 := mean_at Q KV T b h i n hn v0 x1 x2 x3 hx0 hx1 hx2 hb0 hb1 0 r e
  have m1 := mean_at Q KV T b h i n hn v0 x1 x2 x3 hx0 hx1 hx2 hb0 hb1 1 r e
  rw [show colOf 0 r = ⟨r.val, by omega⟩ from Fin.ext (by show 0 * 512 + r.val = r.val; omega)] at m0
  rw [show colOf 1 r = ⟨512 + r.val, by omega⟩ from Fin.ext (by show 1 * 512 + r.val = 512 + r.val; omega)] at m1
  unfold diff
  refine (diff_at _ _ _ _ _ _ _ e r).trans ?_
  rw [hl]
  refine (congrArg₂ (fun x y : EReal => x - (l : EReal) * y) m0 m1).trans ?_
  rw [← EReal.coe_mul, ← EReal.coe_sub]
  rfl

end Cert.KernelPoint
-- ==== Proof.KernelBlocks.lean ====
/- The blocks the attention kernel's grid points read, entry by entry, from the arguments. -/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.BodyIdeal
public import proofs.«01_k».proof.Proof.KernelHost
public import proofs.«01_k».proof.Proof.KernelTiles
public import proofs.«01_k».proof.Proof.KernelPoint
public import Idealize.ShloMosaic.Lib.Pipeline.ValueKit
public import Idealize.ShloMosaic.Lib.Pointwise
public import Idealize.ShloMosaic.Lib.Claim
public import proofs.«01_k».proof.Defs

@[expose] public section

set_option maxRecDepth 16384

noncomputable section

open Idealize.ShloMosaic Idealize.ShloMosaic.TcCoe Idealize.SL.Sem
open Idealize.ShloMosaic.Pipeline (Dat)
open scoped BigOperators

namespace Cert.KernelBlocks
open Cert.KernelIdeal Cert.KernelIdeal.Gen Cert.KernelIdeal.Body Cert.KernelHost Cert.KernelScore

/-- The blocks of a grid point: its prompt, its head and its chunk of queries. -/
theorem idx : ∀ t : Fin cfg0.N, win0_0.index t = ![t.val / 64, t.val % 8, t.val / 8 % 8]
    ∧ win0_1.index t = ![t.val / 64, 0, t.val / 8 % 8]
    ∧ win0_2.index t = ![t.val / 64, 0, 8 + t.val / 8 % 8]
    ∧ win0_3.index t = ![0, t.val / 8 % 8, 0, 0]
    ∧ win0_4.index t = ![0, 0]
    ∧ win0_5.index t = ![0, 0]
    ∧ win0_6.index t = ![t.val / 64, t.val % 8, t.val / 8 % 8] :=
  (by decide +kernel : ∀ t : Fin grid0.N, _)

/-- The last grid coordinate is the chunk of queries. -/
theorem chunk : ∀ t : Fin cfg0.N, ((grid0.coords t) 2).val = t.val % 8 :=
  (by decide +kernel : ∀ t : Fin grid0.N, _)

/-- There are 256 points. -/
theorem points : cfg0.N = 256 := by decide +kernel

def promptOf (t : Fin cfg0.N) : Fin 4 := ⟨t.val / 64, by have := t.isLt; have := points; omega⟩
def headOf (t : Fin cfg0.N) : Fin 8 := ⟨t.val / 8 % 8, by omega⟩
def chunkOf (t : Fin cfg0.N) : Fin 8 := ⟨t.val % 8, by omega⟩

/-- A whole block of queries is read whole, -/
theorem ld_q (x0 : FVec Ideal S1x512x128 .bf16) (r : Fin 512) (x : Fin 128) :
    View.ld (Val := Elt Ideal) (e' := .bf16) x0 rQ (ix3 0 r x) = x0 (ix3 0 r x) := by
  pointwise

/-- as are lambda's factors -/
theorem ld_lam (x4 : FVec Ideal S4x64 .f32) (a : Fin 4) (x : Fin 64) :
    View.ld (Val := Elt Ideal) (e' := .f32) x4 rLam (ix2 a x) = x4 (ix2 a x) := by
  pointwise

/-- and the gains. -/
theorem ld_g (x5 : FVec Ideal S128x1 .f32) (e : Fin 128) :
    View.ld (Val := Elt Ideal) (e' := .f32) x5 rG (ix2 e 0) = x5 (ix2 e 0) := by
  pointwise

variable (t : Fin cfg0.N)

/-- A block of queries, out of the array. -/
theorem blk0 (A : FVec Ideal S4x4096x1024 .bf16) (r : Fin 512) (x : Fin 128) :
    (((cfg0.win 0).blk t).view.read (Elt Ideal) A : FVec Ideal S1x512x128 .bf16) (ix3 0 r x) = A (ix3 (promptOf t) (rowOf (chunkOf t) r) (queryLane (headOf t) x)) := by
  blk_ext [idx t]
  all_goals simp only [promptOf, headOf, chunkOf, rowOf, queryLane]
  all_goals omega

/-- A block of keys, -/
theorem blk1 (A : FVec Ideal S4x4096x2048 .bf16) (k : Fin 4096) (x : Fin 128) :
    (((cfg0.win 1).blk t).view.read (Elt Ideal) A : FVec Ideal S1x4096x128 .bf16) (ix3 0 k x) = A (ix3 (promptOf t) k (keyLane (headOf t) x)) := by
  blk_ext [idx t]
  all_goals simp only [promptOf, headOf, keyLane]
  all_goals omega

/-- of values, -/
theorem blk2 (A : FVec Ideal S4x4096x2048 .bf16) (k : Fin 4096) (x : Fin 128) :
    (((cfg0.win 2).blk t).view.read (Elt Ideal) A : FVec Ideal S1x4096x128 .bf16) (ix3 0 k x) = A (ix3 (promptOf t) k (valueLane (headOf t) x)) := by
  blk_ext [idx t]
  all_goals simp only [promptOf, headOf, valueLane]
  all_goals omega

/-- of bias tiles, -/
theorem blk3 (A : FVec Ideal S2x8x512x1024 .f32) (w : Fin 2) (k : Fin 512) (x : Fin 1024) :
    (((cfg0.win 3).blk t).view.read (Elt Ideal) A : FVec Ideal S2x1x512x1024 .f32) (ix4 w 0 k x) = A (ix4 w (headOf t) k x) := by
  blk_ext [idx t]
  all_goals simp only [headOf]
  all_goals omega

/-- of lambda's factors, -/
theorem blk4 (A : FVec Ideal S4x64 .f32) (a : Fin 4) (x : Fin 64) :
    (((cfg0.win 4).blk t).view.read (Elt Ideal) A : FVec Ideal S4x64 .f32) (ix2 a x) = A (ix2 a x) := by
  blk_ext [idx t]

/-- of gains. -/
theorem blk5 (A : FVec Ideal S128x1 .f32) (e : Fin 128) :
    (((cfg0.win 5).blk t).view.read (Elt Ideal) A : FVec Ideal S128x1 .f32) (ix2 e 0) = A (ix2 e 0) := by
  blk_ext [idx t]

end Cert.KernelBlocks
-- ==== Proof.Finite.lean ====
/- What the precondition says: every entry of the first four arguments is a real number. -/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.Pre_finite
public import Idealize.ShloMosaic.Lib.Pipeline.ValueKit
public import Idealize.ShloMosaic.Lib.Pointwise
public import Idealize.ShloMosaic.Lib.Claim
public import Idealize.ShloMosaic.Lib.ReduceAll
public import Idealize.ShloMosaic.Lib.StableHlo.Predicate
public import proofs.«01_k».proof.Defs

@[expose] public section

set_option maxRecDepth 16384

noncomputable section

open Idealize.ShloMosaic Idealize.ShloMosaic.TcCoe Idealize.SL.Sem
open Idealize.ShloMosaic.Pipeline (Dat)
open scoped BigOperators

namespace Cert.Finite

open Cert.Pre_finite

/-- A number below infinity in absolute value is real. -/
theorem real_of_lt (x : EReal) (h : FloatOps.cmpf (F := Ideal) (φ := .f32) .olt (FloatOps.absf (F := Ideal) (φ := .f32) x) (Ideal.ofBits .f32 0x7F800000#32) = 1#1) :
    ((x.toReal : ℝ) : EReal) = x := by
  have ht : Ideal.ofBits .f32 0x7F800000#32 = ⊤ := by simp [Ideal.ofBits, Ideal.ieee]
  rw [ht] at h
  refine EReal.coe_toReal ?_ ?_
  · rintro rfl
    exact absurd h (by simp [FloatOps.cmpf, FloatOps.absf, Ideal.cmp])
  · rintro rfl
    exact absurd h (by simp [FloatOps.cmpf, FloatOps.absf, Ideal.cmp])

variable [Facts]

theorem reals (a0 : FVec Ideal S4x4096x1024 .f32) (a1 : FVec Ideal S4x4096x2048 .f32) (a2 : FVec Ideal S32x16 .f32) (a3 : FVec Ideal S4x64 .f32)
    (a4 : FVec Ideal S128 .f32) (h : fn (F := Ideal) a0 a1 a2 a3 a4 = fun _ => 1#1) :
    (∀ i, (((a0 i : EReal).toReal : ℝ) : EReal) = a0 i) ∧ (∀ i, (((a1 i : EReal).toReal : ℝ) : EReal) = a1 i)
      ∧ (∀ i, (((a2 i : EReal).toReal : ℝ) : EReal) = a2 i) ∧ (∀ i, (((a3 i : EReal).toReal : ℝ) : EReal) = a3 i) := by
  have h0 := congrFun h ix0
  unfold fn fn_part1 at h0
  obtain ⟨h0, k3⟩ := IntOp.andi_eq_one.mp h0
  obtain ⟨h0, k2⟩ := IntOp.andi_eq_one.mp h0
  obtain ⟨k0, k1⟩ := IntOp.andi_eq_one.mp h0
  refine ⟨fun i => ?_, fun i => ?_, fun i => ?_, fun i => ?_⟩
  · exact real_of_lt _ (Host.reduce_andi_all _ _ _ _ _ k0 i)
  · exact real_of_lt _ (Host.reduce_andi_all _ _ _ _ _ k1 i)
  · exact real_of_lt _ (Host.reduce_andi_all _ _ _ _ _ k2 i)
  · exact real_of_lt _ (Host.reduce_andi_all _ _ _ _ _ k3 i)

end Cert.Finite
-- ==== Proof.KernelResult.lean ====
/- The value of the attention kernel: every entry of its result, from finite arguments. -/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.BodyIdeal
public import proofs.«01_k».proof.Proof.KernelHost
public import proofs.«01_k».proof.Proof.KernelTiles
public import proofs.«01_k».proof.Proof.KernelPoint
public import proofs.«01_k».proof.Proof.KernelBlocks
public import proofs.«01_k».proof.Proof.Finite
public import Idealize.ShloMosaic.Lib.Pipeline.ValueKit
public import Idealize.ShloMosaic.Lib.Pointwise
public import Idealize.ShloMosaic.Lib.Claim
public import proofs.«01_k».proof.Defs

@[expose] public section

set_option maxRecDepth 16384

noncomputable section

open Idealize.ShloMosaic Idealize.ShloMosaic.TcCoe Idealize.SL.Sem
open Idealize.ShloMosaic.Pipeline (Dat)
open scoped BigOperators

namespace Cert.KernelResult
open Cert.KernelIdeal Cert.KernelIdeal.Gen Cert.KernelIdeal.Body Cert.KernelHost Cert.KernelScore Cert.KernelBlocks

/-- The output block is what the body stores. -/
theorem out_at (i : grid0.Coords) (x0 : FVec Ideal S1x512x128 .bf16) (x1 x2 : FVec Ideal S1x4096x128 .bf16) (x3 : FVec Ideal S2x1x512x1024 .f32)
    (x4 : FVec Ideal S4x64 .f32) (x5 : FVec Ideal S128x1 .f32) (y : S1x512x128.Idx) :
    out (F := Ideal) i x0 x1 x2 x3 x4 x5 y = k0_pay1 (F := Ideal) (diff i (View.ld x0 rQ) x1 x2 x3 x4) (View.ld x5 rG) y := by
  unfold out
  frame_out

/-- The scaled queries, at variables. -/
theorem scaled_at (A : FVec Ideal S4x4096x1024 .f32) (b : Fin 4) (q : Fin 4096) (d : Fin 1024) :
    (truncf (F := Ideal) .bf16 (mulf A (broadcastInDim S4x4096x1024 ![] bcast_S_S4x4096x1024
      (mulf (constant (F := Ideal) S_ .f32 0x3E000000#32) log2e))) bitsLt_bf16_f32 : FVec Ideal S4x4096x1024 .bf16) (ix3 b q d)
      = A (ix3 b q d) * (Ideal.ofBits .f32 0x3E000000#32 * log2e ix0) := by
  pointwise

/-- The scale. -/
theorem scale : Ideal.ofBits .f32 0x3E000000#32 * (log2e ix0 : EReal) = ((1 / 8 * (1 / Real.log 2) : ℝ) : EReal) := by
  have h8 : Ideal.ofBits .f32 0x3E000000#32 = ((1 / 8 : ℝ) : EReal) := by
    simp [Ideal.ofBits, Ideal.ieee, -EReal.coe_mul]
    norm_num
  rw [h8, KernelTiles.log2e_at, ← EReal.coe_mul]

/-- The gains as a column. -/
theorem column_at (A : FVec Ideal S128 .f32) (e : Fin 128) : shapeCast S128x1 A shapeCasts_S128_S128x1 (ix2 e 0) = A (ix1 e) := by
  pointwise

theorem keys_at (A : FVec Ideal S4x4096x2048 .f32) (i : S4x4096x2048.Idx) : (truncf (F := Ideal) .bf16 A bitsLt_bf16_f32 : FVec Ideal S4x4096x2048 .bf16) i = A i := by
  pointwise

variable (m : (ℓ : Loc nD τ sig) → Buf (Elt Ideal) ℓ) (c : Dev nD)

def a0 : FVec Ideal S4x4096x1024 .f32 := m ((c : Thread nD τ).loc main_arg0)
def a1 : FVec Ideal S4x4096x2048 .f32 := m ((c : Thread nD τ).loc main_arg1)
def a2 : FVec Ideal S32x16 .f32 := m ((c : Thread nD τ).loc main_arg2)
def a3 : FVec Ideal S4x64 .f32 := m ((c : Thread nD τ).loc main_arg3)
def a4 : FVec Ideal S128 .f32 := m ((c : Thread nD τ).loc main_arg4)

/-- The arguments as real numbers. -/
def Q (b : Fin 4) (q : Fin 4096) (d : Fin 1024) : ℝ := (a0 m c (ix3 b q d) : EReal).toReal
def KV (b : Fin 4) (k : Fin 4096) (d : Fin 2048) : ℝ := (a1 m c (ix3 b k d) : EReal).toReal
def T (r : Fin 32) (j : Fin 16) : ℝ := (a2 m c (ix2 r j) : EReal).toReal
def lam : ℝ := (Spec.lamOf fun i x => (a3 m c (ix2 i x) : EReal)).toReal

/-- The arguments are finite. -/
def Real : Prop :=
  (∀ i, (((a0 m c i : EReal).toReal : ℝ) : EReal) = a0 m c i) ∧ (∀ i, (((a1 m c i : EReal).toReal : ℝ) : EReal) = a1 m c i)
    ∧ (∀ i, (((a2 m c i : EReal).toReal : ℝ) : EReal) = a2 m c i) ∧ (∀ i, (((a3 m c i : EReal).toReal : ℝ) : EReal) = a3 m c i)

theorem lam_eq (h : Real m c) : Spec.lamOf (fun i x => (a3 m c (ix2 i x) : EReal)) = ((lam m c : ℝ) : EReal) := by
  obtain ⟨l, hl⟩ := Spec.lamOf_real (fun i x => (a3 m c (ix2 i x) : EReal)) (fun i x => (a3 m c (ix2 i x) : EReal).toReal)
    fun i x => (h.2.2.2 _).symm
  unfold lam
  rw [hl, EReal.toReal_coe]

/-- An entry of the result: the normalised difference of the two means. -/
def entry (b : Fin 4) (q : Fin 4096) (h : Fin 8) (e : Fin 128) : EReal :=
  Spec.norm (fun x => ((Spec.diff (Q m c) (KV m c) (T m c) (lam m c) b h q x : ℝ) : EReal)) (a4 m c (ix1 e)) e

/-- The result. -/
def result : FVec Ideal S4x4096x1024 .bf16 := fun i =>
  entry m c (i 0) (i 1) ⟨(i 2).val / 128, by have : (i 2).val < 1024 := (i 2).isLt; omega⟩ ⟨(i 2).val % 128, by omega⟩

variable (t : Fin cfg0.N)

/-- A head's output at a grid point. -/
theorem diff_at (h : Real m c) (r : Fin 512) (e : Fin 128) :
    (diff (F := Ideal) (grid0.coords t) (View.ld (iblk m c 0 t) rQ) (iblk m c 1 t) (iblk m c 2 t) (iblk m c 3 t) (iblk m c 4 t) (ix2 e r) : EReal)
      = ((Spec.diff (Q m c) (KV m c) (T m c) (lam m c) (promptOf t) (headOf t) (rowOf (chunkOf t) r) e : ℝ) : EReal) := by
  refine KernelPoint.diff_real (Q m c) (KV m c) (T m c) (promptOf t) (headOf t) (grid0.coords t) (chunkOf t) (chunk t)
    _ _ _ _ ?_ ?_ ?_ ?_ ?_ _ (lam m c) ?_ r e
  · intro r x
    refine (ld_q _ r x).trans ((blk0 t (V m c main_v134) r x).trans ?_)
    rw [V_v134]
    refine (scaled_at (a0 m c) _ _ _).trans ?_
    rw [scale, ← h.1, ← EReal.coe_mul]
    rfl
  · intro k x
    refine (blk1 t (V m c main_v135) k x).trans ?_
    rw [V_v135]
    exact (keys_at (a1 m c) _).trans (h.2.1 _).symm
  · intro k x
    refine (blk2 t (V m c main_v135) k x).trans ?_
    rw [V_v135]
    exact (keys_at (a1 m c) _).trans (h.2.1 _).symm
  · intro p r k
    refine (blk3 t (V m c main_v131) 0 k _).trans ?_
    rw [V_v131]
    exact KernelTiles.before_at (a2 m c) (T m c) (fun r j => (h.2.2.1 _).symm) (headOf t) p r k
  · intro p r k
    refine (blk3 t (V m c main_v131) 1 k _).trans ?_
    rw [V_v131]
    exact KernelTiles.own_at (a2 m c) (T m c) (fun r j => (h.2.2.1 _).symm) (headOf t) p r k
  · refine Eq.trans (congrArg Spec.lamOf ?_) (lam_eq m c h)
    funext a x
    refine (ld_lam _ a x).trans ((blk4 t (V m c main_arg3) a x).trans ?_)
    rw [V_arg3]
    rfl

theorem point (h : Real m c) (r : Fin 512) (e : Fin 128) :
    (out (F := Ideal) (grid0.coords t) (iblk m c 0 t) (iblk m c 1 t) (iblk m c 2 t) (iblk m c 3 t) (iblk m c 4 t) (iblk m c 5 t) (ix3 0 r e) : EReal)
      = entry m c (promptOf t) (rowOf (chunkOf t) r) (headOf t) e := by
  refine (out_at _ _ _ _ _ _ _ _).trans ((KernelRow.norm_at _ _ r e).trans ?_)
  unfold entry
  refine congrArg₂ (fun o g => Spec.norm o g e) ?_ ?_
  · funext x
    exact diff_at m c t h r x
  · refine (ld_g _ e).trans ((blk5 t (V m c main_v136) e).trans ?_)
    rw [V_v136]
    exact column_at (a4 m c) e

theorem index_eta (y : S1x512x128.Idx) : y = ix3 0 (y 1) (y 2) := by
  funext d
  match d with
  | ⟨0, _⟩ => exact Fin.ext (by have : (y 0).val < 1 := (y 0).isLt; show (y 0).val = 0; omega)
  | ⟨1, _⟩ => rfl
  | ⟨2, _⟩ => rfl

/-- The entry a block's entry is stored at. -/
theorem place (y : S1x512x128.Idx) :
    result m c (((cfg0.win 6).blk t).view.emb y) = entry m c (promptOf t) (rowOf (chunkOf t) (y 1)) (headOf t) (y 2) := by
  have y0 : (y 0).val < 1 := (y 0).isLt
  have y1 : (y 1).val < 512 := (y 1).isLt
  have y2 : (y 2).val < 128 := (y 2).isLt
  have e0 : (((cfg0.win 6).blk t).view.emb y 0).val = t.val / 64 := by blk_simp [idx t]; try omega
  have e1 : (((cfg0.win 6).blk t).view.emb y 1).val = t.val % 8 * 512 + (y 1).val := by blk_simp [idx t]; try omega
  have e2 : (((cfg0.win 6).blk t).view.emb y 2).val = t.val / 8 % 8 * 128 + (y 2).val := by blk_simp [idx t]; try omega
  unfold result
  congr 1
  · exact Fin.ext e0
  · exact Fin.ext (e1.trans (by show _ = 512 * (t.val % 8) + (y 1).val; omega))
  · refine Fin.ext ?_
    show (((cfg0.win 6).blk t).view.emb y 2).val / 128 = t.val / 8 % 8
    omega
  · refine Fin.ext ?_
    show (((cfg0.win 6).blk t).view.emb y 2).val % 128 = (y 2).val
    omega

/-- The result array when the run ends. -/
theorem final (h : Real m c) : (dats m 0 c).arrAt 6 (cfgs 0).N = result m c := by
  refine (dats m 0 c).arrAt_eq_of_covers 6 _ (by decide +kernel) fun t hf y => ?_
  refine Eq.trans ?_ (place m c t y).symm
  blk_simp; rw [after0_6]
  exact (congrArg _ (index_eta y)).trans (point m c t h (y 1) (y 2))

end Cert.KernelResult
-- ==== Proof.RefRow.lean ====
/- The reference's attention, entry by entry: before the normalisation a head's output is the difference of the two
   softmax means of `Spec`. -/
module

public import proofs.«01_k».proof.Proof.Gen.ReferenceIdeal
public import proofs.«01_k».proof.Proof.Gen.ReferenceIdeal.Run
public import proofs.«01_k».proof.Proof.Spec
public import Idealize.ShloMosaic.Lib.Pipeline.ValueKit
public import Idealize.ShloMosaic.Lib.Pointwise
public import Idealize.ShloMosaic.Lib.Claim
public import proofs.«01_k».proof.Defs

@[expose] public section

set_option maxRecDepth 16384

noncomputable section

open Idealize.ShloMosaic Idealize.ShloMosaic.TcCoe Idealize.SL.Sem
open Idealize.ShloMosaic.Pipeline (Dat)
open scoped BigOperators

namespace Cert.RefRow
open Cert.ReferenceIdeal Cert.ReferenceIdeal.Gen Cert.ReferenceIdeal.Value

variable (V0 : Valuation τ sig (Elt Ideal))

/-- The distance between a query and a key. -/
theorem distance (q k : Fin 4096) :
    (res_main_v29 (F := Ideal) V0 (ix2 q k) : BitVec 32) = BitVec.ofNat 32 q.val - BitVec.ofNat 32 k.val := by
  pointwise [res_main_v29, res_main_v24]
  rfl

/-- Its bucket. -/
theorem bucket (q k : Fin 4096) :
    (res_main_v49 (F := Ideal) V0 (ix2 q k) : BitVec 32) = Bias.bucket (res_main_v29 (F := Ideal) V0 (ix2 q k)) := by
  pointwise [res_main_v49, res_main_v31]
  rfl

/-- The mask. -/
theorem mask (q k : Fin 4096) :
    ((res_main_v67 (F := Ideal) V0 (ix5 0 q 0 0 k) : BitVec 1) = 1#1) ↔ k.val ≤ q.val := by
  have : (res_main_v67 (F := Ideal) V0 (ix5 0 q 0 0 k) : BitVec 1) = IntOp.cmpi .sge (BitVec.ofNat 32 q.val - BitVec.ofNat 32 k.val) 0#32 := by
    rw [← distance V0 q k]
    pointwise [res_main_v67]
  rw [this]
  have hq := q.isLt
  have hk := k.isLt
  have e : (BitVec.ofNat 32 q.val - BitVec.ofNat 32 k.val).toInt = (q.val : ℤ) - k.val := by
    rw [BitVec.toInt_sub, Bias.word_int _ (by omega), Bias.word_int _ (by omega)]
    exact Int.bmod_eq_of_le (by norm_num; omega) (by norm_num; omega)
  have e' : IntOp.cmpi .sge (BitVec.ofNat 32 q.val - BitVec.ofNat 32 k.val) 0#32
      = BitVec.ofBool ((0#32).sle (BitVec.ofNat 32 q.val - BitVec.ofNat 32 k.val)) := rfl
  rw [e', show ∀ b : Bool, (BitVec.ofBool b = 1#1) ↔ b = true from by decide]
  simp only [BitVec.sle, decide_eq_true_eq]
  rw [e, show (0#32).toInt = 0 from rfl]
  omega

/-- The bias of a key for a query. -/
theorem bias (x : FVec Ideal S32x8x2 .f32) (hs : S_.BroadcastsInDim S4096x4096 ![]) (hw : S4096x4096.BroadcastsInDim S4096x4096x1 ![0, 1])
    (w : IVec S4096x4096 32) (q k : Fin 4096) (h : Fin 8) (c : Fin 2) (d : BitVec 32) (hd : w (ix2 q k) = Bias.bucket d) :
    Host.gather gather_S32x8x2_S4096x4096x1_S4096x4096x8x2_23_0_n_n_0_2_182 x
        (broadcastInDim S4096x4096x1 ![0, 1] hw (select (cmpi .slt w (broadcastInDim S4096x4096 ![] hs (constantI S_ 32 0#32)))
          (addi w (broadcastInDim S4096x4096 ![] hs (constantI S_ 32 32#32))) w)) (ix4 q k h c)
      = x (ix3 (Bias.row d) h c) := by
  refine (Bias.gather_slabs (by decide) _ x _ q k h c).trans ?_
  refine congrArg (fun r => x (ix3 r h c)) (Fin.ext ?_)
  show min (BitVec.toInt _).toNat 31 = min (BitVec.toInt _).toNat 31
  congr 3
  pointwise
  rw [hd]
  rfl

variable (Q : Fin 4 → Fin 4096 → Fin 1024 → ℝ) (KV : Fin 4 → Fin 4096 → Fin 2048 → ℝ) (T : Fin 32 → Fin 16 → ℝ)
  (hQ : ∀ b q d, (V0 (Proc.devRef .tc main_arg0) (ix3 b q d) : EReal) = (Q b q d : EReal))
  (hKV : ∀ b k d, (V0 (Proc.devRef .tc main_arg1) (ix3 b k d) : EReal) = (KV b k d : EReal))
  (hT : ∀ r c, (V0 (Proc.devRef .tc main_arg2) (ix2 r c) : EReal) = (T r c : EReal))

theorem mask_select (q k : Fin 4096) {α : Type} (x y : α) :
    Scalar.select (res_main_v67 (F := Ideal) V0 (ix5 0 q 0 0 k) : BitVec 1) x y = if k.val ≤ q.val then x else y :=
  Spec.select_iff _ _ (mask V0 q k) x y

theorem eighth : Ideal.ofBits .f32 0x3E000000#32 = ((1 / 8 : ℝ) : EReal) := by
  simp [Ideal.ofBits, Ideal.ieee, -EReal.coe_mul]; norm_num

include hQ hKV hT in
/-- The masked score of a key for a query. -/
theorem score (b : Fin 4) (q k : Fin 4096) (h : Fin 8) (c : Fin 2) :
    (res_main_v68 (F := Ideal) V0 (ix5 b q h c k) : EReal)
      = if k.val ≤ q.val then ((Spec.score Q KV T b h c q k : ℝ) : EReal) else ⊥ := by
  pointwise [res_main_v68, res_main_v1]
  rw [mask_select V0 q k]
  by_cases hk : k.val ≤ q.val
  · rw [if_pos hk, if_pos hk]
    unfold Spec.score
    rw [EReal.coe_add, EReal.coe_mul]
    refine congrArg₂ (fun a b : EReal => a + b) (congrArg₂ (fun a b : EReal => a * b) ?_ eighth) ?_
    · refine Softmax.sum_coe _ _ fun d => ?_
      rw [EReal.coe_mul]
      exact congrArg₂ (fun a b : EReal => a * b) (hKV _ _ _) (hQ _ _ _)
    · refine (bias _ _ _ _ q k h c _ (bucket V0 q k)).trans ?_
      rw [distance V0 q k, ← BitVec.ofNat_sub_ofNat_of_le _ _ (by omega) hk]
      pointwise
      exact hT _ _
  · rw [if_neg hk, if_neg hk]
    exact Softmax.bot_bits

end Cert.RefRow
-- ==== Proof.RefOut.lean ====
/- The reference's softmax of the scores and the output of a head before its normalisation: the difference of the two
   means of `Spec`. -/
module

public import proofs.«01_k».proof.Proof.Gen.ReferenceIdeal
public import proofs.«01_k».proof.Proof.Gen.ReferenceIdeal.Run
public import proofs.«01_k».proof.Proof.RefRow
public import proofs.«01_k».proof.Proof.Spec
public import Idealize.ShloMosaic.Lib.Pipeline.ValueKit
public import Idealize.ShloMosaic.Lib.Pointwise
public import Idealize.ShloMosaic.Lib.Claim
public import proofs.«01_k».proof.Defs

@[expose] public section

set_option maxRecDepth 16384

noncomputable section

open Idealize.ShloMosaic Idealize.ShloMosaic.TcCoe Idealize.SL.Sem
open Idealize.ShloMosaic.Pipeline (Dat)
open scoped BigOperators

namespace Cert.RefRow
open Cert.ReferenceIdeal Cert.ReferenceIdeal.Gen Cert.ReferenceIdeal.Value

/-- The exponentials, at variables. -/
theorem exps_at (m : IVec S1x4096x1x1x4096 1) (s : FVec Ideal S4x4096x8x2x4096 .f32) (b : Fin 4) (q k : Fin 4096) (h : Fin 8) (c : Fin 2) :
    (select (broadcastInDim S4x4096x8x2x4096 ![0, 1, 2, 3, 4] bcast_S1x4096x1x1x4096_S4x4096x8x2x4096_0_1_2_3_4 m) (Host.exp (subf s (broadcastInDim S4x4096x8x2x4096 ![0, 1, 2, 3, 4] bcast_S4x4096x8x2x1_S4x4096x8x2x4096_0_1_2_3_4 (broadcastInDim S4x4096x8x2x1 ![0, 1, 2, 3] bcast_S4x4096x8x2_S4x4096x8x2x1_0_1_2_3 (Host.reduce FloatOps.maximumf s (constant S_ .f32 0xFF800000#32) reducesTo_S4x4096x8x2x4096_S4x4096x8x2_d4 h_S_))))) (broadcastInDim S4x4096x8x2x4096 ![] bcast_S_S4x4096x8x2x4096 (id (constant S_ .f32 0x00000000#32))) : FVec Ideal S4x4096x8x2x4096 .f32) (ix5 b q h c k)
      = Scalar.select (m (ix5 0 q 0 0 k)) (Ideal.exp (s (ix5 b q h c k)
          - Finset.univ.fold max (Ideal.ofBits .f32 0xFF800000#32) fun k => s (ix5 b q h c k))) (0 : EReal) := by
  pointwise
  exact congrArg _ (show Ideal.ofBits .f32 0x00000000#32 = 0 by simp [Ideal.ofBits, Ideal.ieee])

/-- A head's output, at variables. -/
theorem heads_at (x : FVec Ideal S4x4096x2x8x128 .f32) (p : FVec Ideal S4x4096x8x2x4096 .f32) (lam : FVec Ideal S4x64 .f32)
    (b : Fin 4) (q : Fin 4096) (h : Fin 8) (e : Fin 128) :
    (transpose S4x4096x8x128 [0, 3, 1, 2] (Host.dotGeneral dot_S4x4096x8x128_S4x4096x8x4096_S4x8x128x4096_1_3_3_1_02_02 none (shapeCast _ (extractStridedSlice S4x4096x1x8x128 ![0, 0, 1, 0, 0] x slices_S4x4096x2x8x128_S4x4096x1x8x128_0_0_1_0_0) shapeCasts_S4x4096x1x8x128_S4x4096x8x128) (subf (shapeCast _ (extractStridedSlice S4x4096x8x1x4096 ![0, 0, 0, 0, 0] p slices_S4x4096x8x2x4096_S4x4096x8x1x4096_0_0_0_0_0) shapeCasts_S4x4096x8x1x4096_S4x4096x8x4096) (mulf (broadcastInDim S4x4096x8x4096 ![] bcast_S_S4x4096x8x4096 (addf (subf (Host.exp (Host.reduceAdd (mulf (shapeCast _ (extractStridedSlice S1x64 ![0, 0] lam slices_S4x64_S1x64_0_0) shapeCasts_S1x64_S64) (shapeCast _ (extractStridedSlice S1x64 ![1, 0] lam slices_S4x64_S1x64_1_0) shapeCasts_S1x64_S64)) (constant S_ .f32 0x00000000#32) reducesTo_S64_S_d0 h_S_)) (Host.exp (Host.reduceAdd (mulf (shapeCast _ (extractStridedSlice S1x64 ![2, 0] lam slices_S4x64_S1x64_2_0) shapeCasts_S1x64_S64) (shapeCast _ (extractStridedSlice S1x64 ![3, 0] lam slices_S4x64_S1x64_3_0) shapeCasts_S1x64_S64)) (constant S_ .f32 0x00000000#32) reducesTo_S64_S_d0 h_S_))) (constant S_ .f32 0x3EB60549#32))) (shapeCast _ (extractStridedSlice S4x4096x8x1x4096 ![0, 0, 0, 1, 0] p slices_S4x4096x8x2x4096_S4x4096x8x1x4096_0_0_0_1_0) shapeCasts_S4x4096x8x1x4096_S4x4096x8x4096)))) transposes_S4x8x128x4096_S4x4096x8x128_0_3_1_2 : FVec Ideal S4x4096x8x128 .f32) (ix4 b q h e)
      = ∑ k : Fin 4096, x (ix5 b k 1 h e) * (p (ix5 b q h 0 k) - Spec.lamOf (fun i x => lam (ix2 i x)) * p (ix5 b q h 1 k)) := by
  unfold Spec.lamOf
  pointwise

/-- The shares, at variables. -/
theorem shares_at (s : FVec Ideal S4x4096x8x2x4096 .f32) (b : Fin 4) (q k : Fin 4096) (h : Fin 8) (c : Fin 2) :
    (Host.divf s (broadcastInDim S4x4096x8x2x4096 ![0, 1, 2, 3, 4] bcast_S4x4096x8x2x1_S4x4096x8x2x4096_0_1_2_3_4 (maximumf (broadcastInDim S4x4096x8x2x1 ![0, 1, 2, 3] bcast_S4x4096x8x2_S4x4096x8x2x1_0_1_2_3 (Host.reduceAdd s (constant S_ .f32 0x00000000#32) reducesTo_S4x4096x8x2x4096_S4x4096x8x2_d4 h_S_)) (broadcastInDim S4x4096x8x2x1 ![] bcast_S_S4x4096x8x2x1 (constant S_ .f32 0x0DA24260#32)))) : FVec Ideal S4x4096x8x2x4096 .f32) (ix5 b q h c k)
      = Ideal.div (s (ix5 b q h c k)) (max (∑ k, s (ix5 b q h c k)) (Ideal.ofBits .f32 0x0DA24260#32)) := by
  pointwise

variable (V0 : Valuation τ sig (Elt Ideal))
variable (Q : Fin 4 → Fin 4096 → Fin 1024 → ℝ) (KV : Fin 4 → Fin 4096 → Fin 2048 → ℝ) (T : Fin 32 → Fin 16 → ℝ)
  (hQ : ∀ b q d, (V0 (Proc.devRef .tc main_arg0) (ix3 b q d) : EReal) = (Q b q d : EReal))
  (hKV : ∀ b k d, (V0 (Proc.devRef .tc main_arg1) (ix3 b k d) : EReal) = (KV b k d : EReal))
  (hT : ∀ r c, (V0 (Proc.devRef .tc main_arg2) (ix2 r c) : EReal) = (T r c : EReal))

include hQ hKV hT in
/-- The share of a key in the softmax of a query. -/
theorem share (b : Fin 4) (q k : Fin 4096) (h : Fin 8) (c : Fin 2) :
    (res_main_v80 (F := Ideal) V0 (ix5 b q h c k) : EReal)
      = ((Spec.weight Q KV T b h c q k / ∑ k, Spec.weight Q KV T b h c q k : ℝ) : EReal) := by
  let S : Fin 4096 → EReal := fun k => res_main_v68 (F := Ideal) V0 (ix5 b q h c k)
  let E : Fin 4096 → EReal := fun k => res_main_v74 (F := Ideal) V0 (ix5 b q h c k)
  have e : ∀ k, E k = if k.val ≤ q.val then Ideal.exp (S k - Finset.univ.fold max (Ideal.ofBits .f32 0xFF800000#32) S) else 0 :=
    fun k => (exps_at (res_main_v67 V0) (res_main_v68 V0) b q k h c).trans (mask_select V0 q k _ _)
  refine (shares_at (res_main_v74 V0) b q k h c).trans ?_
  exact Softmax.row S (Spec.score Q KV T b h c q)
    (fun k => k.val ≤ q.val) (T 31 (Spec.col h c)) (fun k => score V0 Q KV T hQ hKV hT b q k h c) ⟨q, le_refl _⟩ E e k

/-- The values. -/
theorem value_at (x : FVec Ideal S4x4096x2048 .f32) (hc : S4x4096x2048.ShapeCasts S4x4096x2x8x128) (b : Fin 4) (k : Fin 4096) (h : Fin 8) (e : Fin 128) :
    shapeCast S4x4096x2x8x128 x hc (ix5 b k 1 h e) = x (ix3 b k ⟨1024 + h.val * 128 + e.val, by omega⟩) := by
  pointwise

include hQ hKV hT in
/-- A head's output before its normalisation. -/
theorem output (l : ℝ) (hl : Spec.lamOf (fun i x => (V0 (Proc.devRef .tc main_arg3) (ix2 i x) : EReal)) = (l : EReal))
    (b : Fin 4) (q : Fin 4096) (h : Fin 8) (e : Fin 128) :
    (res_main_v89 (F := Ideal) V0 (ix4 b q h e) : EReal) = ((Spec.diff Q KV T l b h q e : ℝ) : EReal) := by
  refine (heads_at (res_main_v1 V0) (res_main_v80 V0) (V0 (Proc.devRef .tc main_arg3)) b q h e).trans ?_
  rw [show Spec.lamOf (fun i x => (V0 (Proc.devRef .tc main_arg3) : FVec Ideal S4x64 .f32) (ix2 i x)) = (l : EReal) from hl]
  exact Spec.diff_of_maps Q KV T l b h q e _ _ _
    (fun k => (value_at _ _ b k h e).trans (hKV _ _ _)) (fun k => share V0 Q KV T hQ hKV hT b q k h 0) (fun k => share V0 Q KV T hQ hKV hT b q k h 1)

end Cert.RefRow
-- ==== Proof.RefResult.lean ====
/- The reference's result from a head's output: the root-mean-square norm of every row. -/
module

public import proofs.«01_k».proof.Proof.Gen.ReferenceIdeal
public import proofs.«01_k».proof.Proof.Gen.ReferenceIdeal.Run
public import proofs.«01_k».proof.Proof.Spec
public import Idealize.ShloMosaic.Lib.Pipeline.ValueKit
public import Idealize.ShloMosaic.Lib.Pointwise
public import Idealize.ShloMosaic.Lib.Claim
public import proofs.«01_k».proof.Defs

@[expose] public section

set_option maxRecDepth 16384

noncomputable section

open Idealize.ShloMosaic Idealize.ShloMosaic.TcCoe Idealize.SL.Sem
open Idealize.ShloMosaic.Pipeline (Dat)
open scoped BigOperators

namespace Cert.RefRow
open Cert.ReferenceIdeal Cert.ReferenceIdeal.Gen Cert.ReferenceIdeal.Value

/-- The lane of head `h`'s entry `e`. -/
abbrev laneOf (h : Fin 8) (e : Fin 128) : Fin 1024 := ⟨h.val * 128 + e.val, by omega⟩

/-- The normalisation, at variables. -/
theorem normed_at (o : FVec Ideal S4x4096x8x128 .f32) (g : FVec Ideal S128 .f32) (b : Fin 4) (q : Fin 4096) (h : Fin 8) (e : Fin 128) :
    (truncf .bf16 (shapeCast S4x4096x1024 (mulf (mulf (mulf o (broadcastInDim S4x4096x8x128 ![0, 1, 2, 3] bcast_S4x4096x8x1_S4x4096x8x128_0_1_2_3 (Host.rsqrt (addf (Host.divf (broadcastInDim S4x4096x8x1 ![0, 1, 2] bcast_S4x4096x8_S4x4096x8x1_0_1_2 (Host.reduceAdd (mulf o o) (constant S_ .f32 0x00000000#32) reducesTo_S4x4096x8x128_S4x4096x8_d3 h_S_)) (broadcastInDim S4x4096x8x1 ![] bcast_S_S4x4096x8x1 (constant S_ .f32 0x43000000#32))) (broadcastInDim S4x4096x8x1 ![] bcast_S_S4x4096x8x1 (constant S_ .f32 0x3727C5AC#32)))))) (broadcastInDim S4x4096x8x128 ![0, 1, 2, 3] bcast_S1x1x1x128_S4x4096x8x128_0_1_2_3 (broadcastInDim S1x1x1x128 ![3] bcast_S128_S1x1x1x128_3 g))) (broadcastInDim S4x4096x8x128 ![] bcast_S_S4x4096x8x128 (constant S_ .f32 0x3F24FD5C#32))) shapeCasts_S4x4096x8x128_S4x4096x1024) bitsLt_bf16_f32 : FVec Ideal S4x4096x1024 .bf16) (ix3 b q (laneOf h e))
      = Spec.norm (fun x => o (ix4 b q h x)) (g (ix1 e)) e := by
  have e0 : (⟨(h.val * 128 + e.val) / 128, by omega⟩ : Fin 8) = h := Fin.ext (by show (h.val * 128 + e.val) / 128 = h.val; omega)
  have e1 : (⟨(h.val * 128 + e.val) % 128, by omega⟩ : Fin 128) = e := Fin.ext (by show (h.val * 128 + e.val) % 128 = e.val; omega)
  unfold Spec.norm
  pointwise
  simp only [e0, e1]

end Cert.RefRow
-- ==== Proof.Value1.lean ====
/- The attention kernel and its reference end with equal results. -/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.KernelResult
public import proofs.«01_k».proof.Proof.RefOut
public import proofs.«01_k».proof.Proof.RefResult
public import proofs.«01_k».proof.Proof.Gen.Pre_finite
public import proofs.«01_k».proof.Proof.BodyIdeal
public import Idealize.ShloMosaic.Lib.Pipeline.ValueKit
public import Idealize.ShloMosaic.Lib.Pointwise
public import Idealize.ShloMosaic.Lib.Claim
public import proofs.«01_k».proof.Defs

@[expose] public section

set_option maxRecDepth 16384

noncomputable section

open Idealize.ShloMosaic Idealize.ShloMosaic.TcCoe Idealize.SL.Sem
open Idealize.ShloMosaic.Pipeline (Dat)
open scoped BigOperators

namespace Cert.Value1
open Cert.KernelResult

section Reference
open Cert.ReferenceIdeal

/-- The lanes of a head and back. -/
theorem lane_eta (i : S4x4096x1024.Idx) :
    i = ix3 (i 0) (i 1) (Cert.RefRow.laneOf ⟨(i 2).val / 128, by have : (i 2).val < 1024 := (i 2).isLt; omega⟩ ⟨(i 2).val % 128, by omega⟩) := by
  have h2 : (i 2).val < 1024 := (i 2).isLt
  funext d
  match d with
  | ⟨0, _⟩ => rfl
  | ⟨1, _⟩ => rfl
  | ⟨2, _⟩ => exact Fin.ext (by show (i 2).val = (i 2).val / 128 * 128 + (i 2).val % 128; omega)

end Reference

set_option maxHeartbeats 1600000 in
/-- Kernel and reference end with equal results from equal finite arguments. -/
theorem algebraic : Cert.algebraic_KernelIdeal_ReferenceIdeal_pre_finite (hKernelIdeal := Cert.KernelIdeal.Gen.facts)
    (hReferenceIdeal := Cert.ReferenceIdeal.Gen.facts) (hPre_finite := Cert.Pre_finite.Gen.facts) := by
  pair_intro
  · run_from Cert.KernelIdeal.Body.run_main m g
    all_goals first
      | exact Cert.KernelIdeal.Gen.V_main_arg0 m c
      | exact Cert.KernelIdeal.Gen.V_main_arg1 m c
      | exact Cert.KernelIdeal.Gen.V_main_arg2 m c
      | exact Cert.KernelIdeal.Gen.V_main_arg4 m c
  · run_from Cert.ReferenceIdeal.Value.run m' g'
    have hr : Real m c := Cert.Finite.reals _ _ _ _ _ (hpre c)
    refine Eq.trans ?_ (final m c hr).symm
    obtain ⟨h0, h1, h2, h3, h4⟩ := hagree c
    funext i
    refine (congrArg _ (lane_eta i)).trans ((Cert.RefRow.normed_at _ _ _ _ _ _).trans ?_)
    unfold result entry
    refine congrArg₂ (fun o g => Spec.norm o g _) ?_ ?_
    · funext x
      refine Cert.RefRow.output (StableHlo.launchContents m' c) (Q m c) (KV m c) (T m c) ?_ ?_ ?_ (lam m c) ?_ _ _ _ x
      · intro b q d
        exact (congrFun h0 _).trans (hr.1 _).symm
      · intro b k d
        exact (congrFun h1 _).trans (hr.2.1 _).symm
      · intro r j
        exact (congrFun h2 _).trans (hr.2.2.1 _).symm
      · refine Eq.trans (congrArg Spec.lamOf ?_) (lam_eq m c hr)
        funext a x
        exact congrFun h3 _
    · first | rfl | exact congrFun h4 _

end Cert.Value1

end
-- ==== Proof.Norm.lean ====
/- The layer norm of one row of 1024 numbers, as a function of the row: what both the fused post-norm
   kernels and their references compute once the row itself is known. -/
module

public import Idealize.ShloMosaic.Lib.Pointwise

@[expose] public section

set_option maxRecDepth 16384

noncomputable section

open Idealize.ShloMosaic
open scoped BigOperators

namespace Cert.Norm

/-- The row's mean: its sum over the constant 1024. -/
def mean (v : Fin 1024 → EReal) : EReal := Ideal.div (∑ k, v k) (Ideal.ofBits .f32 0x44800000#32)

/-- The normalised row, scaled and shifted: `(v - mean) * rsqrt (variance + 1e-5) * g + b`. -/
def layerNorm (v g b : Fin 1024 → EReal) (j : Fin 1024) : EReal :=
  (v j - mean v) * Ideal.rsqrt (Ideal.div (∑ k, (v k - mean v) * (v k - mean v)) (Ideal.ofBits .f32 0x44800000#32)
    + Ideal.ofBits .f32 0x3727C5AC#32) * g j + b j

/-- The post-norm residual: `alpha * x + y` at one element. -/
def resid (x y : EReal) : EReal := Ideal.ofBits .f32 0x3FD744FD#32 * x + y

end Cert.Norm

end
-- ==== Proof.Value2.lean ====
/- The value of the MLP with its post-norm: the kernel adds the hidden layer's four blocks of 1024 into a carried
   array, one grid point each, and norms at the last; the reference contracts all 4096 hidden units at once. -/
module

public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Norm
public import proofs.«01_k».proof.Proof.Gen.Reference2Ideal
public import proofs.«01_k».proof.Proof.Gen.Reference2Ideal.Run
public import Idealize.ShloMosaic.Lib.Pipeline.ValueKit
public import Idealize.ShloMosaic.Lib.Pointwise
public import Idealize.ShloMosaic.Lib.Claim
public import proofs.«01_k».proof.Defs

@[expose] public section

set_option maxRecDepth 16384

noncomputable section

open Idealize.ShloMosaic Idealize.ShloMosaic.TcCoe Idealize.SL.Sem
open Idealize.ShloMosaic.Pipeline (Dat)
open scoped BigOperators

namespace Cert.Value2

open Cert.Norm
open Cert.Kernel2Ideal Cert.Kernel2Ideal.Gen

variable (m : (ℓ : Loc nD τ sig) → Buf (Elt Ideal) ℓ)

/-- One hidden unit: the squared rectified product. -/
def hidden (x : FVec Ideal S16384x1024 .f32) (w : FVec Ideal S1024x4096 .f32) (r : Fin 16384) (f : Fin 4096) : EReal :=
  max (∑ k : Fin 1024, x (ix2 r k) * w (ix2 k f)) 0 * max (∑ k : Fin 1024, x (ix2 r k) * w (ix2 k f)) 0

/-- The row under the norm: `alpha * x + relu(x @ w1)^2 @ w2`. -/
def row (x : FVec Ideal S16384x1024 .f32) (w1 : FVec Ideal S1024x4096 .f32) (w2 : FVec Ideal S4096x1024 .f32)
    (r : Fin 16384) (j : Fin 1024) : EReal :=
  resid (x (ix2 r j)) (∑ f : Fin 4096, hidden x w1 r f * w2 (ix2 f j))

/-- The result: the layer norm of every row. -/
def result (x : FVec Ideal S16384x1024 .f32) (w1 : FVec Ideal S1024x4096 .f32) (w2 : FVec Ideal S4096x1024 .f32)
    (g b : FVec Ideal S1024 .f32) : FVec Ideal S16384x1024 .f32 := fun i =>
  layerNorm (row x w1 w2 (i 0)) (fun k => g (ix1 k)) (fun k => b (ix1 k)) (i 1)

theorem idx : ∀ t : Fin cfg0.N, win0_0.index t = ![t.val / 4, 0]
    ∧ win0_1.index t = ![0, t.val % 4]
    ∧ win0_2.index t = ![t.val % 4, 0]
    ∧ win0_3.index t = ![0, 0]
    ∧ win0_4.index t = ![0, 0]
    ∧ win0_5.index t = ![t.val / 4, 0] :=
  (by decide +kernel : ∀ t : Fin grid0.N, _)

/-- The block's share of one output element: 1024 hidden units. -/
def share (x : Vec Ideal S1024x1024 .f32) (w1 w2 : Vec Ideal S1024x1024 .bf16) (r j : Fin 1024) : EReal :=
  ∑ f : Fin 1024, max (∑ k : Fin 1024, x (ix2 r k) * w1 (ix2 k f)) 0 * max (∑ k : Fin 1024, x (ix2 r k) * w1 (ix2 k f)) 0
    * w2 (ix2 f j)

theorem zero_fill (y) : k0_pay1 (F := Ideal) y = 0 := by pointwise [k0_pay1]

theorem step (x : Vec Ideal S1024x1024 .f32) (w1 : Vec Ideal S1024x1024 .bf16) (a : Vec Ideal S1024x1024 .f32)
    (w2 : Vec Ideal S1024x1024 .bf16) (y : S1024x1024.Idx) :
    k0_pay2 x w1 a w2 y = a y + share x w1 w2 (y 0) (y 1) := by
  pointwise [k0_pay2, share]

/-- What a run's first point leaves in the carried array. -/
theorem carry_A (c : Dev nD) (t : Fin cfg0.N) (h0 : t.val % 4 = 0) (h1 : ¬ t.val % 4 = 3) (y : S1024x1024.Idx) :
    (outsAt0 m c t.val t.isLt).2 y = 0 + share (iblk m c 0 t) (iblk m c 1 t) (iblk m c 2 t) (y 0) (y 1) := by
  rw [outsAt0_A m c t h0 h1]
  frame_out
  rw [step, zero_fill]

theorem carry_B (c : Dev nD) (t : Fin cfg0.N) (h0 : ¬ t.val % 4 = 0) (y : S1024x1024.Idx) :
    (outsAt0 m c t.val t.isLt).2 y
      = (outsAt0 m c (t.val - 1) (Nat.lt_of_le_of_lt (Nat.sub_le _ _) t.isLt)).2 y
        + share (iblk m c 0 t) (iblk m c 1 t) (iblk m c 2 t) (y 0) (y 1) := by
  by_cases h1 : t.val % 4 = 3
  · rw [outsAt0_C m c t h0 h1]
    frame_out
    rw [step]
    exact congrArg (· + _) (congrFun ((Memref.isWhole_whole _ : scM0_0.IsWhole).read_unread
      (outsAt0 m c (t.val - 1) (Nat.lt_of_le_of_lt (Nat.sub_le _ _) t.isLt)).2) y)
  · rw [outsAt0_B m c t h0 h1]
    frame_out
    rw [step]
    exact congrArg (· + _) (congrFun ((Memref.isWhole_whole _ : scM0_0.IsWhole).read_unread
      (outsAt0 m c (t.val - 1) (Nat.lt_of_le_of_lt (Nat.sub_le _ _) t.isLt)).2) y)

/-- What a run's last point leaves in the output block: the norm over the carried array it has just completed. -/
theorem out_C (c : Dev nD) (t : Fin cfg0.N) (h0 : ¬ t.val % 4 = 0) (h1 : t.val % 4 = 3) :
    (outsAt0 m c t.val t.isLt).1 = k0_pay3 (iblk m c 0 t) (outsAt0 m c t.val t.isLt).2 (iblk m c 3 t) (iblk m c 4 t) := by
  rw [outsAt0_C m c t h0 h1]
  frame_out

/-- The run's first point, from the run's last: it lies inside the grid. -/
theorem pt_lt (t : Fin cfg0.N) (h1 : t.val % 4 = 3) (s : Fin 4) : 4 * (t.val / 4) + s.val < cfg0.N := by
  have := t.isLt; omega

/-- The carried array at the run's last point: the four shares, added. -/
theorem carry (c : Dev nD) (t : Fin cfg0.N) (h1 : t.val % 4 = 3) (r j : Fin 1024) :
    (outsAt0 m c t.val t.isLt).2 (ix2 r j)
      = ∑ s : Fin 4, share (iblk m c 0 ⟨4 * (t.val / 4) + s.val, pt_lt t h1 s⟩)
          (iblk m c 1 ⟨4 * (t.val / 4) + s.val, pt_lt t h1 s⟩) (iblk m c 2 ⟨4 * (t.val / 4) + s.val, pt_lt t h1 s⟩) r j := by
  rw [Pipeline.eq_sum_fin_of_reset_step_apply_of_flush (fun n h => (outsAt0 m c n h).2) 4 (fun _ => 0)
    (fun p y => share (iblk m c 0 p) (iblk m c 1 p) (iblk m c 2 p) (y 0) (y 1))
    (fun t h y => carry_A m c t h (by omega) y) (fun t h y => carry_B m c t h y) t h1 (ix2 r j)]
  exact zero_add _

/-- The norm over the carried array, row by row. -/
theorem norm_at (x a : Vec Ideal S1024x1024 .f32) (g b : Vec Ideal S1x1024 .f32) (y : S1024x1024.Idx) :
    k0_pay3 x a g b y = layerNorm (fun j => resid (x (ix2 (y 0) j)) (a (ix2 (y 0) j)))
      (fun k => g (ix2 0 k)) (fun k => b (ix2 0 k)) (y 1) := by
  pointwise [k0_pay3, layerNorm, mean, resid]

/-- The reference's row out of the four shares. -/
theorem row_eq (c : Dev nD) (t : Fin cfg0.N) (h1 : t.val % 4 = 3) (r j : Fin 1024) (R : Fin 16384)
    (hR : R.val = t.val / 4 * 1024 + r.val) :
    resid (iblk m c 0 t (ix2 r j)) ((outsAt0 m c t.val t.isLt).2 (ix2 r j))
      = row (m ((c : Thread nD τ).loc main_arg0)) (m ((c : Thread nD τ).loc main_arg1))
          (m ((c : Thread nD τ).loc main_arg2)) R j := by
  rw [carry m c t h1 r j]
  unfold row
  refine congrArg₂ resid ?_ ?_
  · blk_point [iblk, V, idx t]
  unfold share hidden
  refine Fin.sum_mul_add_congr fun s f hl => ?_
  have e := idx ⟨4 * (t.val / 4) + s.val, pt_lt t h1 s⟩
  blk_point [iblk, V, e]

theorem point (c : Dev nD) (t : Fin cfg0.N) (h1 : t.val % 4 = 3) (y) :
    (outsAt0 m c t.val t.isLt).1 y
      = result (m ((c : Thread nD τ).loc main_arg0)) (m ((c : Thread nD τ).loc main_arg1))
          (m ((c : Thread nD τ).loc main_arg2)) (m ((c : Thread nD τ).loc main_arg3))
          (m ((c : Thread nD τ).loc main_arg4)) (((cfg0.win 5).blk t).view.emb y) := by
  rw [out_C m c t (by omega) h1, norm_at]
  unfold result
  have hrow : (fun j => resid (iblk m c 0 t (ix2 (y 0) j)) ((outsAt0 m c t.val t.isLt).2 (ix2 (y 0) j)))
      = row (m ((c : Thread nD τ).loc main_arg0)) (m ((c : Thread nD τ).loc main_arg1))
          (m ((c : Thread nD τ).loc main_arg2)) (((cfg0.win 5).blk t).view.emb y 0) := by
    funext j
    refine row_eq m c t h1 (y 0) j _ ?_
    blk_simp [idx t]
  have hg : (fun k => iblk m c 3 t (ix2 0 k)) = fun k => m ((c : Thread nD τ).loc main_arg3) (ix1 k) := by
    funext k; blk_point [iblk, V, idx t]
  have hb : (fun k => iblk m c 4 t (ix2 0 k)) = fun k => m ((c : Thread nD τ).loc main_arg4) (ix1 k) := by
    funext k; blk_point [iblk, V, idx t]
  have hj : ((cfg0.win 5).blk t).view.emb y 1 = y 1 := by
    refine Fin.ext ?_; blk_simp [idx t]
  rw [hrow, hg, hb, hj]

/-- The result array when the run ends. -/
theorem final (c : Dev nD) : (dats m 0 c).arrAt 5 (cfgs 0).N
    = result (m ((c : Thread nD τ).loc main_arg0)) (m ((c : Thread nD τ).loc main_arg1))
        (m ((c : Thread nD τ).loc main_arg2)) (m ((c : Thread nD τ).loc main_arg3))
        (m ((c : Thread nD τ).loc main_arg4)) := by
  refine (dats m 0 c).arrAt_eq_of_covers 5 _ (by decide +kernel) fun t hf y => ?_
  blk_simp; rw [after0_5]
  exact point m c t ((flush0_5 t).mp hf) y

set_option maxHeartbeats 1600000 in
/-- Kernel and reference end with equal results from equal arguments. -/
theorem algebraic : Cert.algebraic_Kernel2Ideal_Reference2Ideal := by
  pair_intro
  · run_from Cert.Kernel2Ideal.Gen.run_main m g
  · run_from Cert.Reference2Ideal.Value.run m' g'
    refine Eq.trans ?_ (final m c).symm
    obtain ⟨h0, h1, h2, h3, h4⟩ := hagree c
    unfold Cert.Reference2Ideal.Value.res_main_v30
    rw [h0, h1, h2, h3, h4]
    funext i
    pointwise [result, layerNorm, mean, row, resid, hidden]

end Cert.Value2

end
-- ==== Proof.Value3.lean ====
/- The value of the output projection with its post-norm: the kernel's result array and the reference's are the same
   function of the arguments, row by row. -/
module

public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Norm
public import proofs.«01_k».proof.Proof.Gen.Reference3Ideal
public import proofs.«01_k».proof.Proof.Gen.Reference3Ideal.Run
public import Idealize.ShloMosaic.Lib.Pipeline.ValueKit
public import Idealize.ShloMosaic.Lib.Pointwise
public import Idealize.ShloMosaic.Lib.Claim
public import proofs.«01_k».proof.Defs

@[expose] public section

set_option maxRecDepth 16384

noncomputable section

open Idealize.ShloMosaic Idealize.ShloMosaic.TcCoe Idealize.SL.Sem
open Idealize.ShloMosaic.Pipeline (Dat)
open scoped BigOperators

namespace Cert.Value3

open Cert.Norm

/-- The row under the norm: `alpha * x + o @ w`. -/
def row (o : FVec Ideal Cert.Kernel3Ideal.S16384x1024 .bf16) (w : FVec Ideal Cert.Kernel3Ideal.S1024x1024 .f32)
    (x : FVec Ideal Cert.Kernel3Ideal.S16384x1024 .f32) (r : Fin 16384) (j : Fin 1024) : EReal :=
  resid (x (ix2 r j)) (∑ k : Fin 1024, o (ix2 r k) * w (ix2 k j))

/-- The result: the layer norm of every row. -/
def result (o : FVec Ideal Cert.Kernel3Ideal.S16384x1024 .bf16) (w : FVec Ideal Cert.Kernel3Ideal.S1024x1024 .f32)
    (x : FVec Ideal Cert.Kernel3Ideal.S16384x1024 .f32) (g b : FVec Ideal Cert.Kernel3Ideal.S1024 .f32) :
    FVec Ideal Cert.Kernel3Ideal.S16384x1024 .f32 := fun i =>
  layerNorm (row o w x (i 0)) (fun k => g (ix1 k)) (fun k => b (ix1 k)) (i 1)

section Kernel
open Cert.Kernel3Ideal Cert.Kernel3Ideal.Gen

variable (m : (ℓ : Loc nD τ sig) → Buf (Elt Ideal) ℓ)

theorem idx : ∀ t : Fin cfg0.N, win0_0.index t = ![t.val, 0]
    ∧ win0_1.index t = ![0, 0]
    ∧ win0_2.index t = ![t.val, 0]
    ∧ win0_3.index t = ![0, 0]
    ∧ win0_4.index t = ![0, 0]
    ∧ win0_5.index t = ![t.val, 0] :=
  (by decide +kernel : ∀ t : Fin grid0.N, _)

/-- One element the body stores at a grid point is the result at the array index the element sits at. -/
theorem point (c : Dev nD) (t : Fin cfg0.N) (y) :
    k0_pay1 (iblk m c 0 t) (iblk m c 1 t) (iblk m c 2 t) (iblk m c 3 t) (iblk m c 4 t) y
      = result (m ((c : Thread nD τ).loc main_arg0)) (m ((c : Thread nD τ).loc main_arg1))
          (m ((c : Thread nD τ).loc main_arg2)) (m ((c : Thread nD τ).loc main_arg3))
          (m ((c : Thread nD τ).loc main_arg4)) (((cfg0.win 5).blk t).view.emb y) := by
  pointwise [k0_pay1, result, layerNorm, mean, row, resid]
  blk_point [iblk, V, idx t]

/-- The result array when the run ends. -/
theorem final (c : Dev nD) : (dats m 0 c).arrAt 5 (cfgs 0).N
    = result (m ((c : Thread nD τ).loc main_arg0)) (m ((c : Thread nD τ).loc main_arg1))
        (m ((c : Thread nD τ).loc main_arg2)) (m ((c : Thread nD τ).loc main_arg3))
        (m ((c : Thread nD τ).loc main_arg4)) := by
  refine (dats m 0 c).arrAt_eq_of_covers 5 _ (by decide +kernel) fun t hf y => ?_
  blk_simp; rw [after0_5]; frame_out
  exact point m c t y

end Kernel

section Claim

set_option maxHeartbeats 1600000 in
/-- Kernel and reference end with equal results from equal arguments. -/
theorem algebraic : Cert.algebraic_Kernel3Ideal_Reference3Ideal := by
  pair_intro
  · run_from Cert.Kernel3Ideal.Gen.run_main m g
  · run_from Cert.Reference3Ideal.Value.run m' g'
    refine Eq.trans ?_ (final m c).symm
    funext i
    pointwise [result, layerNorm, mean, row, resid]

end Claim

end Cert.Value3

end
-- ==== Proof.Value4.lean ====
/- The value of the keys-and-values projection: both results of the kernel, at full and at half width, are the
   reference's columns of the product with the joint weight. -/
module

public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Reference4Ideal
public import proofs.«01_k».proof.Proof.Gen.Reference4Ideal.Run
public import Idealize.ShloMosaic.Lib.Pipeline.ValueKit
public import Idealize.ShloMosaic.Lib.Pointwise
public import Idealize.ShloMosaic.Lib.Claim
public import proofs.«01_k».proof.Defs

@[expose] public section

set_option maxRecDepth 16384

noncomputable section

open Idealize.ShloMosaic Idealize.ShloMosaic.TcCoe Idealize.SL.Sem
open Idealize.ShloMosaic.Pipeline (Dat)
open scoped BigOperators

namespace Cert.Value4

open Cert.Kernel4Ideal Cert.Kernel4Ideal.Gen

variable (m : (ℓ : Loc nD τ sig) → Buf (Elt Ideal) ℓ)

/-- The product of the rows with the last 2048 columns of the weight, one row per (batch, position). -/
def prod (x : FVec Ideal S4x4096x1024 .f32) (w : FVec Ideal S1024x3072 .f32) (r : Fin 16384) (j : Fin 2048) : EReal :=
  ∑ k : Fin 1024, x (ix3 ⟨r.val / 4096, by omega⟩ ⟨r.val % 4096, by omega⟩ k) * w (ix2 k ⟨1024 + j.val, by omega⟩)

/-- The product as the array of the full-width result. -/
def wide (x : FVec Ideal S4x4096x1024 .f32) (w : FVec Ideal S1024x3072 .f32) : FVec Ideal S16384x2048 .f32 :=
  fun i => prod x w (i 0) (i 1)

/-- The product as the array of the half-width result. -/
def half (x : FVec Ideal S4x4096x1024 .f32) (w : FVec Ideal S1024x3072 .f32) : FVec Ideal S16384x2048 .bf16 :=
  fun i => prod x w (i 0) (i 1)

theorem idx : ∀ t : Fin cfg0.N, win0_0.index t = ![t.val, 0]
    ∧ win0_1.index t = ![0, 0]
    ∧ win0_2.index t = ![t.val, 0]
    ∧ win0_3.index t = ![t.val, 0] :=
  (by decide +kernel : ∀ t : Fin grid0.N, _)

/-- What the region finds in its first window's array: the rows, batches joined. -/
theorem V_v0 (c : Dev nD) : V m c main_v0
    = shapeCast S16384x1024 (m ((c : Thread nD τ).loc main_arg0)) shapeCasts_S4x4096x1024_S16384x1024 := by
  entry_read; try rfl

/-- What it finds in its second window's array: the weight's last 2048 columns. -/
theorem V_v2 (c : Dev nD) : V m c main_v2
    = truncf (F := Ideal) .bf16 (extractStridedSlice S1024x2048 ![0, 1024] (m ((c : Thread nD τ).loc main_arg1))
        slices_S1024x3072_S1024x2048_0_1024) bitsLt_bf16_f32 := by
  entry_read; try rfl

/-- Joining the batches: row `r` is position `r % 4096` of batch `r / 4096`. -/
theorem join_at (x : FVec Ideal S4x4096x1024 .f32) (r : Fin 16384) (k : Fin 1024) :
    shapeCast S16384x1024 x shapeCasts_S4x4096x1024_S16384x1024 (ix2 r k)
      = x (ix3 ⟨r.val / 4096, by omega⟩ ⟨r.val % 4096, by omega⟩ k) := by
  pointwise
  blk_ext

/-- The last 2048 columns, at half width. -/
theorem cols_at (w : FVec Ideal S1024x3072 .f32) (k : Fin 1024) (j : Fin 2048) :
    truncf (F := Ideal) .bf16 (extractStridedSlice S1024x2048 ![0, 1024] w
        slices_S1024x3072_S1024x2048_0_1024) bitsLt_bf16_f32 (ix2 k j)
      = w (ix2 k ⟨1024 + j.val, by omega⟩) := by
  pointwise
  blk_ext

theorem V_v0_at (c : Dev nD) (r : Fin 16384) (k : Fin 1024) : V m c main_v0 (ix2 r k)
    = m ((c : Thread nD τ).loc main_arg0) (ix3 ⟨r.val / 4096, by omega⟩ ⟨r.val % 4096, by omega⟩ k) := by
  rw [V_v0]; exact join_at _ r k

theorem V_v2_at (c : Dev nD) (k : Fin 1024) (j : Fin 2048) : V m c main_v2 (ix2 k j)
    = m ((c : Thread nD τ).loc main_arg1) (ix2 k ⟨1024 + j.val, by omega⟩) := by
  rw [V_v2]; exact cols_at _ k j

theorem point_2 (c : Dev nD) (t : Fin cfg0.N) (y) :
    k0_pay1 (iblk m c 0 t) (iblk m c 1 t) y
      = wide (m ((c : Thread nD τ).loc main_arg0)) (m ((c : Thread nD τ).loc main_arg1))
          (((cfg0.win 2).blk t).view.emb y) := by
  pointwise [k0_pay1, wide, prod]
  refine Fin.sum_fin_congr fun k => ?_
  unfold iblk
  blk_simp [idx t]
  have ht : t.val < 32 := lt_of_lt_of_eq t.isLt N_0
  have hy : (y 0).val < 512 := (y 0).isLt
  refine Ideal.mul_congr
    ((congrArg (V m c main_v0) (a₂ := ix2 ⟨t.val * 512 + (y 0).val, by omega⟩ k) ?_).trans (V_v0_at m c _ k))
    ((congrArg (V m c main_v2) (a₂ := ix2 k (y 1)) ?_).trans (V_v2_at m c k _))
  · blk_ext [idx t]
  · blk_ext [idx t]

theorem point_3 (c : Dev nD) (t : Fin cfg0.N) (y) :
    k0_pay2 (iblk m c 0 t) (iblk m c 1 t) y
      = half (m ((c : Thread nD τ).loc main_arg0)) (m ((c : Thread nD τ).loc main_arg1))
          (((cfg0.win 3).blk t).view.emb y) := by
  pointwise [k0_pay2, k0_pay1, half, prod]
  refine Fin.sum_fin_congr fun k => ?_
  unfold iblk
  blk_simp [idx t]
  have ht : t.val < 32 := lt_of_lt_of_eq t.isLt N_0
  have hy : (y 0).val < 512 := (y 0).isLt
  refine Ideal.mul_congr
    ((congrArg (V m c main_v0) (a₂ := ix2 ⟨t.val * 512 + (y 0).val, by omega⟩ k) ?_).trans (V_v0_at m c _ k))
    ((congrArg (V m c main_v2) (a₂ := ix2 k (y 1)) ?_).trans (V_v2_at m c k _))
  · blk_ext [idx t]
  · blk_ext [idx t]

/-- The full-width array when the region ends. -/
theorem final_2 (c : Dev nD) : (dats m 0 c).arrAt 2 (cfgs 0).N
    = wide (m ((c : Thread nD τ).loc main_arg0)) (m ((c : Thread nD τ).loc main_arg1)) := by
  refine (dats m 0 c).arrAt_eq_of_covers 2 _ (by decide +kernel) fun t hf y => ?_
  blk_simp; rw [after0_2]; frame_out
  exact point_2 m c t y

/-- The half-width array when the region ends. -/
theorem final_3 (c : Dev nD) : (dats m 0 c).arrAt 3 (cfgs 0).N
    = half (m ((c : Thread nD τ).loc main_arg0)) (m ((c : Thread nD τ).loc main_arg1)) := by
  refine (dats m 0 c).arrAt_eq_of_covers 3 _ (by decide +kernel) fun t hf y => ?_
  blk_simp; rw [after0_3]; frame_out
  exact point_3 m c t y

/-- The first result: the full-width array, reshaped. -/
theorem tail_v4 (c : Dev nD) : Pipeline.afterTail₀ cfgs (dats m) 0 (V0 m) [hostOps1] c main_v4
    = shapeCast S4x4096x2x8x128 (wide (m ((c : Thread nD τ).loc main_arg0)) (m ((c : Thread nD τ).loc main_arg1)))
        shapeCasts_S16384x2048_S4x4096x2x8x128 := by
  rw [← final_2 m c]
  unfold Pipeline.afterTail₀
  simp only [List.flatten_cons, List.flatten_nil, List.append_nil]
  unfold hostOps1
  after_results
  rw [show Pipeline.withArrays (cfgs 0).spec c (V0 m c) (fun w => (dats m 0 c).arrAt w (cfgs 0).N)
    (Proc.tc.devRef main_v3_0) = (dats m 0 c).arrAt 2 (cfgs 0).N from
      Pipeline.withArrays_arr (cfgs 0).spec launch0.win.arr_inj c (V0 m c) _ 2]
  rfl

/-- The second result: the half-width array, reshaped. -/
theorem tail_v5 (c : Dev nD) : Pipeline.afterTail₀ cfgs (dats m) 0 (V0 m) [hostOps1] c main_v5
    = shapeCast S4x4096x2048 (half (m ((c : Thread nD τ).loc main_arg0)) (m ((c : Thread nD τ).loc main_arg1)))
        shapeCasts_S16384x2048_S4x4096x2048 := by
  rw [← final_3 m c]
  unfold Pipeline.afterTail₀
  simp only [List.flatten_cons, List.flatten_nil, List.append_nil]
  unfold hostOps1
  after_results
  rw [show Pipeline.withArrays (cfgs 0).spec c (V0 m c) (fun w => (dats m 0 c).arrAt w (cfgs 0).N)
    (Proc.tc.devRef main_v3_1) = (dats m 0 c).arrAt 3 (cfgs 0).N from
      Pipeline.withArrays_arr (cfgs 0).spec launch0.win.arr_inj c (V0 m c) _ 3]
  rfl

/-- Kernel and reference end with equal results from equal arguments. -/
theorem algebraic : Cert.algebraic_Kernel4Ideal_Reference4Ideal := by
  pair_intro
  · run_from Cert.Kernel4Ideal.Gen.run_main m g
    · exact W_main_arg0 m (dats m) c
    · exact W_main_arg1 m (dats m) c
  · run_from Cert.Reference4Ideal.Value.run m' g'
    · refine Eq.trans ?_ (tail_v4 m c).symm
      funext i
      pointwise [wide, prod]
      refine Fin.sum_fin_congr fun k => ?_
      have h0 : (i 0).val < 4 := (i 0).isLt
      have h1 : (i 1).val < 4096 := (i 1).isLt
      refine Ideal.mul_congr (congrArg _ ?_) (congrArg _ ?_) <;> blk_ext
    · refine Eq.trans ?_ (tail_v5 m c).symm
      funext i
      pointwise [half, prod]
      refine Fin.sum_fin_congr fun k => ?_
      have h0 : (i 0).val < 4 := (i 0).isLt
      have h1 : (i 1).val < 4096 := (i 1).isLt
      refine Ideal.mul_congr (congrArg _ ?_) (congrArg _ ?_) <;> blk_ext

end Cert.Value4

end
-- ==== Proof.Value5.lean ====
/- The value of the keys-and-values projection of the sparse layer (prompt): the new cache rows and the window
   state are the reference's columns of the product with the joint weight. -/
module

public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Reference5Ideal
public import proofs.«01_k».proof.Proof.Gen.Reference5Ideal.Run
public import Idealize.ShloMosaic.Lib.Pipeline.ValueKit
public import Idealize.ShloMosaic.Lib.Pointwise
public import Idealize.ShloMosaic.Lib.Claim
public import proofs.«01_k».proof.Defs

@[expose] public section

set_option maxRecDepth 16384

noncomputable section

open Idealize.ShloMosaic Idealize.ShloMosaic.TcCoe Idealize.SL.Sem
open Idealize.ShloMosaic.Pipeline (Dat)
open scoped BigOperators

namespace Cert.Value5

open Cert.Kernel5Ideal Cert.Kernel5Ideal.Gen

variable (m : (ℓ : Loc nD τ sig) → Buf (Elt Ideal) ℓ)

/-- The product of the rows with columns 1024 to 2559 of the weight, one row per (batch, position). -/
def prod (x : FVec Ideal S4x4096x1024 .f32) (w : FVec Ideal S1024x2608 .f32) (r : Fin 16384) (j : Fin 1536) : EReal :=
  ∑ k : Fin 1024, x (ix3 ⟨r.val / 4096, by omega⟩ ⟨r.val % 4096, by omega⟩ k) * w (ix2 k ⟨1024 + j.val, by omega⟩)

/-- The product as an array. -/
def wide (x : FVec Ideal S4x4096x1024 .f32) (w : FVec Ideal S1024x2608 .f32) : FVec Ideal S16384x1536 .f32 :=
  fun i => prod x w (i 0) (i 1)

theorem idx : ∀ t : Fin cfg0.N, win0_0.index t = ![t.val, 0]
    ∧ win0_1.index t = ![0, 0]
    ∧ win0_2.index t = ![t.val, 0] :=
  (by decide +kernel : ∀ t : Fin grid0.N, _)

/-- What the region finds in its first window's array: the rows, batches joined. -/
theorem V_x (c : Dev nD) : V m c main_v2
    = shapeCast S16384x1024 (m ((c : Thread nD τ).loc main_arg0)) shapeCasts_S4x4096x1024_S16384x1024 := by
  entry_read; try rfl

/-- What it finds in its second window's array: the weight's columns, at half width. -/
theorem V_w (c : Dev nD) : V m c main_v1
    = truncf (F := Ideal) .bf16 (extractStridedSlice S1024x1536 ![0, 1024] (m ((c : Thread nD τ).loc main_arg1))
        slices_S1024x2608_S1024x1536_0_1024) bitsLt_bf16_f32 := by
  entry_read; try rfl

/-- Joining the batches. -/
theorem join_at (x : FVec Ideal S4x4096x1024 .f32) (r : Fin 16384) (k : Fin 1024) :
    shapeCast S16384x1024 x shapeCasts_S4x4096x1024_S16384x1024 (ix2 r k) = x (ix3 ⟨r.val / 4096, by omega⟩ ⟨r.val % 4096, by omega⟩ k) := by
  pointwise
  blk_ext

/-- The weight's columns, at half width. -/
theorem cols_at (w : FVec Ideal S1024x2608 .f32) (k : Fin 1024) (j : Fin 1536) :
    truncf (F := Ideal) .bf16 (extractStridedSlice S1024x1536 ![0, 1024] w
        slices_S1024x2608_S1024x1536_0_1024) bitsLt_bf16_f32 (ix2 k j)
      = w (ix2 k ⟨1024 + j.val, by omega⟩) := by
  pointwise
  blk_ext

theorem V_x_at (c : Dev nD) (r : Fin 16384) (k : Fin 1024) : V m c main_v2 (ix2 r k)
    = m ((c : Thread nD τ).loc main_arg0) (ix3 ⟨r.val / 4096, by omega⟩ ⟨r.val % 4096, by omega⟩ k) := by
  rw [V_x]; exact join_at _ r k

theorem V_w_at (c : Dev nD) (k : Fin 1024) (j : Fin 1536) : V m c main_v1 (ix2 k j)
    = m ((c : Thread nD τ).loc main_arg1) (ix2 k ⟨1024 + j.val, by omega⟩) := by
  rw [V_w]; exact cols_at _ k j

theorem point_2 (c : Dev nD) (t : Fin cfg0.N) (y) :
    k0_pay1 (iblk m c 0 t) (iblk m c 1 t) y
      = wide (m ((c : Thread nD τ).loc main_arg0)) (m ((c : Thread nD τ).loc main_arg1))
          (((cfg0.win 2).blk t).view.emb y) := by
  pointwise [k0_pay1, wide, prod]
  refine Fin.sum_fin_congr fun k => ?_
  unfold iblk
  blk_simp [idx t]
  have ht : t.val < 32 := lt_of_lt_of_eq t.isLt N_0
  have hy : (y 0).val < 512 := (y 0).isLt
  refine Ideal.mul_congr
    ((congrArg (V m c main_v2) (a₂ := ix2 ⟨t.val * 512 + (y 0).val, by omega⟩ k) ?_).trans (V_x_at m c _ k))
    ((congrArg (V m c main_v1) (a₂ := ix2 k (y 1)) ?_).trans (V_w_at m c k _))
  · blk_ext [idx t]
  · blk_ext [idx t]

/-- The product's array when the region ends. -/
theorem final_2 (c : Dev nD) : (dats m 0 c).arrAt 2 (cfgs 0).N
    = wide (m ((c : Thread nD τ).loc main_arg0)) (m ((c : Thread nD τ).loc main_arg1)) := by
  refine (dats m 0 c).arrAt_eq_of_covers 2 _ (by decide +kernel) fun t hf y => ?_
  blk_simp; rw [after0_2]; frame_out
  exact point_2 m c t y

/-- The first result: the first 1024 columns of the product, by kind, group and lane. -/
theorem tail_v6 (c : Dev nD) : Pipeline.afterTail₀ cfgs (dats m) 0 (V0 m) [hostOps1] c main_v6
    = shapeCast S4x4096x4x4x64 (extractStridedSlice S4x4096x1024 ![0, 0, 0]
        (shapeCast S4x4096x1536 (wide (m ((c : Thread nD τ).loc main_arg0)) (m ((c : Thread nD τ).loc main_arg1)))
          shapeCasts_S16384x1536_S4x4096x1536) slices_S4x4096x1536_S4x4096x1024_0_0_0) shapeCasts_S4x4096x1024_S4x4096x4x4x64 := by
  rw [← final_2 m c]
  unfold Pipeline.afterTail₀
  simp only [List.flatten_cons, List.flatten_nil, List.append_nil]
  unfold hostOps1
  after_results
  rw [show Pipeline.withArrays (cfgs 0).spec c (V0 m c) (fun w => (dats m 0 c).arrAt w (cfgs 0).N)
    (Proc.tc.devRef main_v3) = (dats m 0 c).arrAt 2 (cfgs 0).N from
      Pipeline.withArrays_arr (cfgs 0).spec launch0.win.arr_inj c (V0 m c) _ 2]
  rfl

/-- The second result: the other 512 columns, of the last 512 positions. -/
theorem tail_v9 (c : Dev nD) : Pipeline.afterTail₀ cfgs (dats m) 0 (V0 m) [hostOps1] c main_v9
    = extractStridedSlice S4x512x2x4x64 ![0, 3584, 0, 0, 0] (shapeCast S4x4096x2x4x64
        (extractStridedSlice S4x4096x512 ![0, 0, 1024] (shapeCast S4x4096x1536
          (wide (m ((c : Thread nD τ).loc main_arg0)) (m ((c : Thread nD τ).loc main_arg1)))
          shapeCasts_S16384x1536_S4x4096x1536) slices_S4x4096x1536_S4x4096x512_0_0_1024)
        shapeCasts_S4x4096x512_S4x4096x2x4x64) slices_S4x4096x2x4x64_S4x512x2x4x64_0_3584_0_0_0 := by
  rw [← final_2 m c]
  unfold Pipeline.afterTail₀
  simp only [List.flatten_cons, List.flatten_nil, List.append_nil]
  unfold hostOps1
  after_results
  rw [show Pipeline.withArrays (cfgs 0).spec c (V0 m c) (fun w => (dats m 0 c).arrAt w (cfgs 0).N)
    (Proc.tc.devRef main_v3) = (dats m 0 c).arrAt 2 (cfgs 0).N from
      Pipeline.withArrays_arr (cfgs 0).spec launch0.win.arr_inj c (V0 m c) _ 2]
  rfl

/-- Kernel and reference end with equal results from equal arguments. -/
theorem algebraic : Cert.algebraic_Kernel5Ideal_Reference5Ideal := by
  pair_intro
  · run_from Cert.Kernel5Ideal.Gen.run_main m g
    · exact W_main_arg0 m (dats m) c
    · exact W_main_arg1 m (dats m) c
  · run_from Cert.Reference5Ideal.Value.run m' g'
    · refine Eq.trans ?_ (tail_v6 m c).symm
      funext i
      pointwise [wide, prod]
      refine Fin.sum_fin_congr fun k => ?_
      have h0 : (i 0).val < 4 := (i 0).isLt
      have h1 : (i 1).val < 4096 := (i 1).isLt
      have h2 : (i 2).val < 4 := (i 2).isLt
      have h3 : (i 3).val < 4 := (i 3).isLt
      have h4 : (i 4).val < 64 := (i 4).isLt
      refine Ideal.mul_congr (congrArg _ ?_) (congrArg _ ?_) <;> blk_ext
    · refine Eq.trans ?_ (tail_v9 m c).symm
      funext i
      pointwise [wide, prod]
      refine Fin.sum_fin_congr fun k => ?_
      have h0 : (i 0).val < 4 := (i 0).isLt
      have h1 : (i 1).val < 512 := (i 1).isLt
      have h2 : (i 2).val < 2 := (i 2).isLt
      have h3 : (i 3).val < 4 := (i 3).isLt
      have h4 : (i 4).val < 64 := (i 4).isLt
      refine Ideal.mul_congr (congrArg _ ?_) (congrArg _ ?_) <;> blk_ext

end Cert.Value5

end
-- ==== Proof.Value6.lean ====
/- The value of the keys-and-values projection of the sparse layer (sample): the new cache row is the
   reference's columns of the product with the joint weight, and the window state is the old one with its first
   row dropped and the new row added. -/
module

public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Reference6Ideal
public import proofs.«01_k».proof.Proof.Gen.Reference6Ideal.Run
public import Idealize.ShloMosaic.Lib.Pipeline.ValueKit
public import Idealize.ShloMosaic.Lib.Pointwise
public import Idealize.ShloMosaic.Lib.Claim
public import proofs.«01_k».proof.Defs

@[expose] public section

set_option maxRecDepth 16384

noncomputable section

open Idealize.ShloMosaic Idealize.ShloMosaic.TcCoe Idealize.SL.Sem
open Idealize.ShloMosaic.Pipeline (Dat)
open scoped BigOperators

namespace Cert.Value6

open Cert.Kernel6Ideal Cert.Kernel6Ideal.Gen

variable (m : (ℓ : Loc nD τ sig) → Buf (Elt Ideal) ℓ)

/-- The product of the rows with columns 1024 to 2559 of the weight, one row per sequence. -/
def prod (x : FVec Ideal S32x1x1024 .f32) (w : FVec Ideal S1024x2608 .f32) (r : Fin 32) (j : Fin 1536) : EReal :=
  ∑ k : Fin 1024, x (ix3 r 0 k) * w (ix2 k ⟨1024 + j.val, by omega⟩)

/-- The product as an array. -/
def wide (x : FVec Ideal S32x1x1024 .f32) (w : FVec Ideal S1024x2608 .f32) : FVec Ideal S32x1536 .f32 :=
  fun i => prod x w (i 0) (i 1)

theorem idx : ∀ t : Fin cfg0.N, win0_0.index t = ![t.val, 0]
    ∧ win0_1.index t = ![0, 0]
    ∧ win0_2.index t = ![t.val, 0] :=
  (by decide +kernel : ∀ t : Fin grid0.N, _)

/-- What the region finds in its first window's array: the rows, batches joined. -/
theorem V_x (c : Dev nD) : V m c main_v2
    = shapeCast S32x1024 (m ((c : Thread nD τ).loc main_arg0)) shapeCasts_S32x1x1024_S32x1024 := by
  entry_read; try rfl

/-- What it finds in its second window's array: the weight's columns, at half width. -/
theorem V_w (c : Dev nD) : V m c main_v1
    = truncf (F := Ideal) .bf16 (extractStridedSlice S1024x1536 ![0, 1024] (m ((c : Thread nD τ).loc main_arg2))
        slices_S1024x2608_S1024x1536_0_1024) bitsLt_bf16_f32 := by
  entry_read; try rfl

/-- Joining the batches. -/
theorem join_at (x : FVec Ideal S32x1x1024 .f32) (r : Fin 32) (k : Fin 1024) :
    shapeCast S32x1024 x shapeCasts_S32x1x1024_S32x1024 (ix2 r k) = x (ix3 r 0 k) := by
  pointwise
  blk_ext

/-- The weight's columns, at half width. -/
theorem cols_at (w : FVec Ideal S1024x2608 .f32) (k : Fin 1024) (j : Fin 1536) :
    truncf (F := Ideal) .bf16 (extractStridedSlice S1024x1536 ![0, 1024] w
        slices_S1024x2608_S1024x1536_0_1024) bitsLt_bf16_f32 (ix2 k j)
      = w (ix2 k ⟨1024 + j.val, by omega⟩) := by
  pointwise
  blk_ext

theorem V_x_at (c : Dev nD) (r : Fin 32) (k : Fin 1024) : V m c main_v2 (ix2 r k)
    = m ((c : Thread nD τ).loc main_arg0) (ix3 r 0 k) := by
  rw [V_x]; exact join_at _ r k

theorem V_w_at (c : Dev nD) (k : Fin 1024) (j : Fin 1536) : V m c main_v1 (ix2 k j)
    = m ((c : Thread nD τ).loc main_arg2) (ix2 k ⟨1024 + j.val, by omega⟩) := by
  rw [V_w]; exact cols_at _ k j

theorem point_2 (c : Dev nD) (t : Fin cfg0.N) (y) :
    k0_pay1 (iblk m c 0 t) (iblk m c 1 t) y
      = wide (m ((c : Thread nD τ).loc main_arg0)) (m ((c : Thread nD τ).loc main_arg2))
          (((cfg0.win 2).blk t).view.emb y) := by
  pointwise [k0_pay1, wide, prod]
  refine Fin.sum_fin_congr fun k => ?_
  unfold iblk
  blk_simp [idx t]
  have ht : t.val < 1 := lt_of_lt_of_eq t.isLt N_0
  have hy : (y 0).val < 32 := (y 0).isLt
  refine Ideal.mul_congr
    ((congrArg (V m c main_v2) (a₂ := ix2 (((win0_2.blk t).view.emb y) 0) k) ?_).trans (V_x_at m c _ k))
    ((congrArg (V m c main_v1) (a₂ := ix2 k (y 1)) ?_).trans (V_w_at m c k _))
  · blk_ext [idx t]
  · blk_ext [idx t]

/-- The product's array when the region ends. -/
theorem final_2 (c : Dev nD) : (dats m 0 c).arrAt 2 (cfgs 0).N
    = wide (m ((c : Thread nD τ).loc main_arg0)) (m ((c : Thread nD τ).loc main_arg2)) := by
  refine (dats m 0 c).arrAt_eq_of_covers 2 _ (by decide +kernel) fun t hf y => ?_
  blk_simp; rw [after0_2]; frame_out
  exact point_2 m c t y

/-- The first result: the first 1024 columns of the product, by kind, group and lane. -/
theorem tail_v5 (c : Dev nD) : Pipeline.afterTail₀ cfgs (dats m) 0 (V0 m) [hostOps1] c main_v5
    = shapeCast S32x1x4x4x64 (extractStridedSlice S32x1024 ![0, 0]
        (wide (m ((c : Thread nD τ).loc main_arg0)) (m ((c : Thread nD τ).loc main_arg2)))
        slices_S32x1536_S32x1024_0_0) shapeCasts_S32x1024_S32x1x4x4x64 := by
  rw [← final_2 m c]
  unfold Pipeline.afterTail₀
  simp only [List.flatten_cons, List.flatten_nil, List.append_nil]
  unfold hostOps1
  after_results
  rw [show Pipeline.withArrays (cfgs 0).spec c (V0 m c) (fun w => (dats m 0 c).arrAt w (cfgs 0).N)
    (Proc.tc.devRef main_v3) = (dats m 0 c).arrAt 2 (cfgs 0).N from
      Pipeline.withArrays_arr (cfgs 0).spec launch0.win.arr_inj c (V0 m c) _ 2]
  rfl

/-- The second result: the window state moved on by one row. -/
theorem tail_v9 (c : Dev nD) : Pipeline.afterTail₀ cfgs (dats m) 0 (V0 m) [hostOps1] c main_v9
    = extractStridedSlice S32x512x2x4x64 ![0, 1, 0, 0, 0] (concatenate S32x513x2x4x64 1
        [⟨S32x512x2x4x64, m ((c : Thread nD τ).loc main_arg1)⟩, ⟨S32x1x2x4x64, shapeCast S32x1x2x4x64 (extractStridedSlice S32x512 ![0, 1024]
          (wide (m ((c : Thread nD τ).loc main_arg0)) (m ((c : Thread nD τ).loc main_arg2)))
          slices_S32x1536_S32x512_0_1024) shapeCasts_S32x512_S32x1x2x4x64⟩]
        concatenates_S32x512x2x4x64_S32x1x2x4x64_S32x513x2x4x64_d1) slices_S32x513x2x4x64_S32x512x2x4x64_0_1_0_0_0 := by
  rw [← final_2 m c]
  unfold Pipeline.afterTail₀
  simp only [List.flatten_cons, List.flatten_nil, List.append_nil]
  unfold hostOps1
  after_results
  rw [show Pipeline.withArrays (cfgs 0).spec c (V0 m c) (fun w => (dats m 0 c).arrAt w (cfgs 0).N)
    (Proc.tc.devRef main_v3) = (dats m 0 c).arrAt 2 (cfgs 0).N from
      Pipeline.withArrays_arr (cfgs 0).spec launch0.win.arr_inj c (V0 m c) _ 2]
  rfl

/-- The reference's new window rows are the kernel's: the last 512 columns of the product. -/
theorem new_rows (x : FVec Ideal S32x1x1024 .f32) (w : FVec Ideal S1024x2608 .f32) :
    extractStridedSlice Cert.Reference6Ideal.S32x1x2x4x64 ![0, 0, 4, 0, 0]
        (shapeCast Cert.Reference6Ideal.S32x1x6x4x64
          (extractStridedSlice Cert.Reference6Ideal.S32x1x1536 ![0, 0, 1024]
            (Host.dotGeneral (F := Ideal) Cert.Reference6Ideal.dot_S32x1x1024_S1024x2608_S32x1x2608_2_0_01_1_n_n none x w)
            Cert.Reference6Ideal.Gen.slices_S32x1x2608_S32x1x1536_0_0_1024)
          Cert.Reference6Ideal.Gen.shapeCasts_S32x1x1536_S32x1x6x4x64)
        Cert.Reference6Ideal.Gen.slices_S32x1x6x4x64_S32x1x2x4x64_0_0_4_0_0
      = shapeCast S32x1x2x4x64 (extractStridedSlice S32x512 ![0, 1024] (wide x w)
          slices_S32x1536_S32x512_0_1024) shapeCasts_S32x512_S32x1x2x4x64 := by
  funext i
  pointwise [wide, prod]
  refine Fin.sum_fin_congr fun k => congrArg (_ * w ·) ?_
  blk_ext

/-- Kernel and reference end with equal results from equal arguments. -/
theorem algebraic : Cert.algebraic_Kernel6Ideal_Reference6Ideal := by
  pair_intro
  · run_from Cert.Kernel6Ideal.Gen.run_main m g
    · exact W_main_arg0 m (dats m) c
    · exact W_main_arg1 m (dats m) c
    · exact W_main_arg2 m (dats m) c
  · run_from Cert.Reference6Ideal.Value.run m' g'
    · refine Eq.trans ?_ (tail_v5 m c).symm
      funext i
      pointwise [wide, prod]
    · rw [(hagree c).2.2]
      refine Eq.trans ?_ (tail_v9 m c).symm
      rw [← new_rows]

end Cert.Value6

end
-- ==== Proof.Value7.lean ====
/- The value of the sample's keys-and-values projection (differential layer): the kernel's result is the
   reference's columns of the product with the joint weight. -/
module

public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Reference7Ideal
public import proofs.«01_k».proof.Proof.Gen.Reference7Ideal.Run
public import Idealize.ShloMosaic.Lib.Pipeline.ValueKit
public import Idealize.ShloMosaic.Lib.Pointwise
public import Idealize.ShloMosaic.Lib.Claim
public import proofs.«01_k».proof.Defs

@[expose] public section

set_option maxRecDepth 16384

noncomputable section

open Idealize.ShloMosaic Idealize.ShloMosaic.TcCoe Idealize.SL.Sem
open Idealize.ShloMosaic.Pipeline (Dat)
open scoped BigOperators

namespace Cert.Value7

open Cert.Kernel7Ideal Cert.Kernel7Ideal.Gen

variable (m : (ℓ : Loc nD τ sig) → Buf (Elt Ideal) ℓ)

/-- The product of the rows with the last 2048 columns of the weight, one row per sequence. -/
def prod (x : FVec Ideal S32x1x1024 .f32) (w : FVec Ideal S1024x3072 .f32) (r : Fin 32) (j : Fin 2048) : EReal :=
  ∑ k : Fin 1024, x (ix3 r 0 k) * w (ix2 k ⟨1024 + j.val, by omega⟩)

/-- The product as an array. -/
def wide (x : FVec Ideal S32x1x1024 .f32) (w : FVec Ideal S1024x3072 .f32) : FVec Ideal S32x2048 .f32 :=
  fun i => prod x w (i 0) (i 1)

theorem idx : ∀ t : Fin cfg0.N, win0_0.index t = ![t.val, 0]
    ∧ win0_1.index t = ![0, 0]
    ∧ win0_2.index t = ![t.val, 0] :=
  (by decide +kernel : ∀ t : Fin grid0.N, _)

/-- What the region finds in its first window's array: the rows, batches joined. -/
theorem V_x (c : Dev nD) : V m c main_v0
    = shapeCast S32x1024 (m ((c : Thread nD τ).loc main_arg0)) shapeCasts_S32x1x1024_S32x1024 := by
  entry_read; try rfl

/-- What it finds in its second window's array: the weight's columns, at half width. -/
theorem V_w (c : Dev nD) : V m c main_v2
    = truncf (F := Ideal) .bf16 (extractStridedSlice S1024x2048 ![0, 1024] (m ((c : Thread nD τ).loc main_arg1))
        slices_S1024x3072_S1024x2048_0_1024) bitsLt_bf16_f32 := by
  entry_read; try rfl

/-- Joining the batches. -/
theorem join_at (x : FVec Ideal S32x1x1024 .f32) (r : Fin 32) (k : Fin 1024) :
    shapeCast S32x1024 x shapeCasts_S32x1x1024_S32x1024 (ix2 r k) = x (ix3 r 0 k) := by
  pointwise
  blk_ext

/-- The weight's columns, at half width. -/
theorem cols_at (w : FVec Ideal S1024x3072 .f32) (k : Fin 1024) (j : Fin 2048) :
    truncf (F := Ideal) .bf16 (extractStridedSlice S1024x2048 ![0, 1024] w
        slices_S1024x3072_S1024x2048_0_1024) bitsLt_bf16_f32 (ix2 k j)
      = w (ix2 k ⟨1024 + j.val, by omega⟩) := by
  pointwise
  blk_ext

theorem V_x_at (c : Dev nD) (r : Fin 32) (k : Fin 1024) : V m c main_v0 (ix2 r k)
    = m ((c : Thread nD τ).loc main_arg0) (ix3 r 0 k) := by
  rw [V_x]; exact join_at _ r k

theorem V_w_at (c : Dev nD) (k : Fin 1024) (j : Fin 2048) : V m c main_v2 (ix2 k j)
    = m ((c : Thread nD τ).loc main_arg1) (ix2 k ⟨1024 + j.val, by omega⟩) := by
  rw [V_w]; exact cols_at _ k j

theorem point_2 (c : Dev nD) (t : Fin cfg0.N) (y) :
    k0_pay1 (iblk m c 0 t) (iblk m c 1 t) y
      = wide (m ((c : Thread nD τ).loc main_arg0)) (m ((c : Thread nD τ).loc main_arg1))
          (((cfg0.win 2).blk t).view.emb y) := by
  pointwise [k0_pay1, wide, prod]
  refine Fin.sum_fin_congr fun k => ?_
  unfold iblk
  blk_simp [idx t]
  have ht : t.val < 1 := lt_of_lt_of_eq t.isLt N_0
  have hy : (y 0).val < 32 := (y 0).isLt
  refine Ideal.mul_congr
    ((congrArg (V m c main_v0) (a₂ := ix2 (((win0_2.blk t).view.emb y) 0) k) ?_).trans (V_x_at m c _ k))
    ((congrArg (V m c main_v2) (a₂ := ix2 k (y 1)) ?_).trans (V_w_at m c k _))
  · blk_ext [idx t]
  · blk_ext [idx t]

/-- The product's array when the region ends. -/
theorem final_2 (c : Dev nD) : (dats m 0 c).arrAt 2 (cfgs 0).N
    = wide (m ((c : Thread nD τ).loc main_arg0)) (m ((c : Thread nD τ).loc main_arg1)) := by
  refine (dats m 0 c).arrAt_eq_of_covers 2 _ (by decide +kernel) fun t hf y => ?_
  blk_simp; rw [after0_2]; frame_out
  exact point_2 m c t y

/-- The result: the product, reshaped. -/
theorem tail_v4 (c : Dev nD) : Pipeline.afterTail₀ cfgs (dats m) 0 (V0 m) [hostOps1] c main_v4
    = shapeCast S32x1x2x8x128 (wide (m ((c : Thread nD τ).loc main_arg0)) (m ((c : Thread nD τ).loc main_arg1)))
        shapeCasts_S32x2048_S32x1x2x8x128 := by
  rw [← final_2 m c]
  unfold Pipeline.afterTail₀
  simp only [List.flatten_cons, List.flatten_nil, List.append_nil]
  unfold hostOps1
  after_results
  rw [show Pipeline.withArrays (cfgs 0).spec c (V0 m c) (fun w => (dats m 0 c).arrAt w (cfgs 0).N)
    (Proc.tc.devRef main_v3) = (dats m 0 c).arrAt 2 (cfgs 0).N from
      Pipeline.withArrays_arr (cfgs 0).spec launch0.win.arr_inj c (V0 m c) _ 2]
  rfl

/-- Kernel and reference end with equal results from equal arguments. -/
theorem algebraic : Cert.algebraic_Kernel7Ideal_Reference7Ideal := by
  pair_intro
  · run_from Cert.Kernel7Ideal.Gen.run_main m g
    · exact W_main_arg0 m (dats m) c
    · exact W_main_arg1 m (dats m) c
  · run_from Cert.Reference7Ideal.Value.run m' g'
    · refine Eq.trans ?_ (tail_v4 m c).symm
      funext i
      pointwise [wide, prod]

end Cert.Value7

end
-- ==== Proof.Value8.lean ====
/- The value of the queries' projection (differential layer, prompt): the kernel's result is the reference's first
   1024 columns of the product with the joint weight. -/
module

public import proofs.«01_k».proof.Proof.Gen.Kernel8Ideal
public import proofs.«01_k».proof.Proof.Gen.Kernel8Ideal.Skeleton
public import proofs.«01_k».proof.Proof.Gen.Kernel8Ideal.Launch
public import proofs.«01_k».proof.Proof.Gen.Kernel8Ideal.Points
public import proofs.«01_k».proof.Proof.Gen.Kernel8Ideal.Frame
public import proofs.«01_k».proof.Proof.Gen.Reference8Ideal
public import proofs.«01_k».proof.Proof.Gen.Reference8Ideal.Run
public import Idealize.ShloMosaic.Lib.Pipeline.ValueKit
public import Idealize.ShloMosaic.Lib.Pointwise
public import Idealize.ShloMosaic.Lib.Claim
public import proofs.«01_k».proof.Defs

@[expose] public section

set_option maxRecDepth 16384

noncomputable section

open Idealize.ShloMosaic Idealize.ShloMosaic.TcCoe Idealize.SL.Sem
open Idealize.ShloMosaic.Pipeline (Dat)
open scoped BigOperators

namespace Cert.Value8

open Cert.Kernel8Ideal Cert.Kernel8Ideal.Gen

variable (m : (ℓ : Loc nD τ sig) → Buf (Elt Ideal) ℓ)

/-- The product of the rows with the first 1024 columns of the weight, one row per (batch, position). -/
def prod (x : FVec Ideal S4x4096x1024 .f32) (w : FVec Ideal S1024x3072 .f32) (r : Fin 16384) (j : Fin 1024) : EReal :=
  ∑ k : Fin 1024, x (ix3 ⟨r.val / 4096, by omega⟩ ⟨r.val % 4096, by omega⟩ k) * w (ix2 k ⟨j.val, by omega⟩)

/-- The product as an array. -/
def wide (x : FVec Ideal S4x4096x1024 .f32) (w : FVec Ideal S1024x3072 .f32) : FVec Ideal S16384x1024 .bf16 :=
  fun i => prod x w (i 0) (i 1)

theorem idx : ∀ t : Fin cfg0.N, win0_0.index t = ![t.val, 0]
    ∧ win0_1.index t = ![0, 0]
    ∧ win0_2.index t = ![t.val, 0] :=
  (by decide +kernel : ∀ t : Fin grid0.N, _)

/-- What the region finds in its first window's array: the rows, batches joined. -/
theorem V_x (c : Dev nD) : V m c main_v0
    = shapeCast S16384x1024 (m ((c : Thread nD τ).loc main_arg0)) shapeCasts_S4x4096x1024_S16384x1024 := by
  entry_read; try rfl

/-- What it finds in its second window's array: the weight's columns, at half width. -/
theorem V_w (c : Dev nD) : V m c main_v2
    = truncf (F := Ideal) .bf16 (extractStridedSlice S1024x1024 ![0, 0] (m ((c : Thread nD τ).loc main_arg1))
        slices_S1024x3072_S1024x1024_0_0) bitsLt_bf16_f32 := by
  entry_read; try rfl

/-- Joining the batches. -/
theorem join_at (x : FVec Ideal S4x4096x1024 .f32) (r : Fin 16384) (k : Fin 1024) :
    shapeCast S16384x1024 x shapeCasts_S4x4096x1024_S16384x1024 (ix2 r k) = x (ix3 ⟨r.val / 4096, by omega⟩ ⟨r.val % 4096, by omega⟩ k) := by
  pointwise
  blk_ext

/-- The weight's columns, at half width. -/
theorem cols_at (w : FVec Ideal S1024x3072 .f32) (k : Fin 1024) (j : Fin 1024) :
    truncf (F := Ideal) .bf16 (extractStridedSlice S1024x1024 ![0, 0] w
        slices_S1024x3072_S1024x1024_0_0) bitsLt_bf16_f32 (ix2 k j)
      = w (ix2 k ⟨j.val, by omega⟩) := by
  pointwise
  blk_ext

theorem V_x_at (c : Dev nD) (r : Fin 16384) (k : Fin 1024) : V m c main_v0 (ix2 r k)
    = m ((c : Thread nD τ).loc main_arg0) (ix3 ⟨r.val / 4096, by omega⟩ ⟨r.val % 4096, by omega⟩ k) := by
  rw [V_x]; exact join_at _ r k

theorem V_w_at (c : Dev nD) (k : Fin 1024) (j : Fin 1024) : V m c main_v2 (ix2 k j)
    = m ((c : Thread nD τ).loc main_arg1) (ix2 k ⟨j.val, by omega⟩) := by
  rw [V_w]; exact cols_at _ k j

theorem point_2 (c : Dev nD) (t : Fin cfg0.N) (y) :
    k0_pay1 (iblk m c 0 t) (iblk m c 1 t) y
      = wide (m ((c : Thread nD τ).loc main_arg0)) (m ((c : Thread nD τ).loc main_arg1))
          (((cfg0.win 2).blk t).view.emb y) := by
  pointwise [k0_pay1, wide, prod]
  refine Fin.sum_fin_congr fun k => ?_
  unfold iblk
  blk_simp [idx t]
  have ht : t.val < 32 := lt_of_lt_of_eq t.isLt N_0
  have hy : (y 0).val < 512 := (y 0).isLt
  refine Ideal.mul_congr
    ((congrArg (V m c main_v0) (a₂ := ix2 ⟨t.val * 512 + (y 0).val, by omega⟩ k) ?_).trans (V_x_at m c _ k))
    ((congrArg (V m c main_v2) (a₂ := ix2 k (y 1)) ?_).trans (V_w_at m c k _))
  · blk_ext [idx t]
  · blk_ext [idx t]

/-- The product's array when the region ends. -/
theorem final_2 (c : Dev nD) : (dats m 0 c).arrAt 2 (cfgs 0).N
    = wide (m ((c : Thread nD τ).loc main_arg0)) (m ((c : Thread nD τ).loc main_arg1)) := by
  refine (dats m 0 c).arrAt_eq_of_covers 2 _ (by decide +kernel) fun t hf y => ?_
  blk_simp; rw [after0_2]; frame_out
  exact point_2 m c t y

/-- The result: the product, batches apart again. -/
theorem tail_v4 (c : Dev nD) : Pipeline.afterTail₀ cfgs (dats m) 0 (V0 m) [hostOps1] c main_v4
    = shapeCast S4x4096x1024 (wide (m ((c : Thread nD τ).loc main_arg0)) (m ((c : Thread nD τ).loc main_arg1)))
        shapeCasts_S16384x1024_S4x4096x1024 := by
  rw [← final_2 m c]
  unfold Pipeline.afterTail₀
  simp only [List.flatten_cons, List.flatten_nil, List.append_nil]
  unfold hostOps1
  after_results
  rw [show Pipeline.withArrays (cfgs 0).spec c (V0 m c) (fun w => (dats m 0 c).arrAt w (cfgs 0).N)
    (Proc.tc.devRef main_v3) = (dats m 0 c).arrAt 2 (cfgs 0).N from
      Pipeline.withArrays_arr (cfgs 0).spec launch0.win.arr_inj c (V0 m c) _ 2]
  rfl

/-- Kernel and reference end with equal results from equal arguments. -/
theorem algebraic : Cert.algebraic_Kernel8Ideal_Reference8Ideal := by
  pair_intro
  · run_from Cert.Kernel8Ideal.Gen.run_main m g
    · exact W_main_arg0 m (dats m) c
    · exact W_main_arg1 m (dats m) c
  · run_from Cert.Reference8Ideal.Value.run m' g'
    · refine Eq.trans ?_ (tail_v4 m c).symm
      funext i
      pointwise [wide, prod]
      refine Fin.sum_fin_congr fun k => ?_
      have h0 : (i 0).val < 4 := (i 0).isLt
      have h1 : (i 1).val < 4096 := (i 1).isLt
      refine Ideal.mul_congr (congrArg _ ?_) (congrArg _ ?_) <;> blk_ext

end Cert.Value8

end
-- ==== Proof.Value9.lean ====
/- The value of the queries' projection of the sparse layer (prompt): each head of the product has a slot of 128
   lanes, the first 64 its own and the others zero. The kernel has the zeros in its weight, the reference in its result. -/
module

public import proofs.«01_k».proof.Proof.Gen.Kernel9Ideal
public import proofs.«01_k».proof.Proof.Gen.Kernel9Ideal.Skeleton
public import proofs.«01_k».proof.Proof.Gen.Kernel9Ideal.Launch
public import proofs.«01_k».proof.Proof.Gen.Kernel9Ideal.Points
public import proofs.«01_k».proof.Proof.Gen.Kernel9Ideal.Frame
public import proofs.«01_k».proof.Proof.Gen.Reference9Ideal
public import proofs.«01_k».proof.Proof.Gen.Reference9Ideal.Run
public import Idealize.ShloMosaic.Lib.Pipeline.ValueKit
public import Idealize.ShloMosaic.Lib.Pointwise
public import Idealize.ShloMosaic.Lib.Claim
public import proofs.«01_k».proof.Defs

@[expose] public section

set_option maxRecDepth 16384

noncomputable section

open Idealize.ShloMosaic Idealize.ShloMosaic.TcCoe Idealize.SL.Sem
open Idealize.ShloMosaic.Pipeline (Dat)
open scoped BigOperators

namespace Cert.Value9

open Cert.Kernel9Ideal Cert.Kernel9Ideal.Gen

variable (m : (ℓ : Loc nD τ sig) → Buf (Elt Ideal) ℓ)

/-- The weight of a lane of the slots: a head has 128 lanes, of which the first 64 are its columns and the others zero. -/
def slot (w : FVec Ideal S1024x2608 .f32) (k : Fin 1024) (j : Fin 2048) : EReal :=
  if h : j.val % 128 < 64 then w (ix2 k ⟨j.val / 128 * 64 + j.val % 128, by omega⟩) else 0

/-- The product of the rows with the slots, one row per (batch, position). -/
def prod (x : FVec Ideal S4x4096x1024 .f32) (w : FVec Ideal S1024x2608 .f32) (r : Fin 16384) (j : Fin 2048) : EReal :=
  ∑ k : Fin 1024, x (ix3 ⟨r.val / 4096, by omega⟩ ⟨r.val % 4096, by omega⟩ k) * slot w k j

/-- The product as an array. -/
def wide (x : FVec Ideal S4x4096x1024 .f32) (w : FVec Ideal S1024x2608 .f32) : FVec Ideal S16384x2048 .bf16 :=
  fun i => prod x w (i 0) (i 1)

theorem idx : ∀ t : Fin cfg0.N, win0_0.index t = ![t.val, 0]
    ∧ win0_1.index t = ![0, 0]
    ∧ win0_2.index t = ![t.val, 0] :=
  (by decide +kernel : ∀ t : Fin grid0.N, _)

/-- What the region finds in its first window's array: the rows, batches joined. -/
theorem V_x (c : Dev nD) : V m c main_v0
    = shapeCast S16384x1024 (m ((c : Thread nD τ).loc main_arg0)) shapeCasts_S4x4096x1024_S16384x1024 := by
  entry_read; try rfl

/-- What it finds in its second window's array: the weight's columns, at half width. -/
theorem V_w (c : Dev nD) : V m c main_v5
    = shapeCast S1024x2048 (pad S1024x16x128 ![0, 0, 0] ![0, 0, 64] ![0, 0, 0]
        (shapeCast S1024x16x64 (truncf (F := Ideal) .bf16 (extractStridedSlice S1024x1024 ![0, 0] (m ((c : Thread nD τ).loc main_arg1))
          slices_S1024x2608_S1024x1024_0_0) bitsLt_bf16_f32) shapeCasts_S1024x1024_S1024x16x64)
        (sitofp (F := Ideal) .bf16 (constantI S_ 32 0#32)) pads_S1024x16x64_S1024x16x128_000_000_0640 h_S_)
      shapeCasts_S1024x16x128_S1024x2048 := by
  entry_read; try rfl

/-- Joining the batches. -/
theorem join_at (x : FVec Ideal S4x4096x1024 .f32) (r : Fin 16384) (k : Fin 1024) :
    shapeCast S16384x1024 x shapeCasts_S4x4096x1024_S16384x1024 (ix2 r k) = x (ix3 ⟨r.val / 4096, by omega⟩ ⟨r.val % 4096, by omega⟩ k) := by
  pointwise
  blk_ext

/-- The weight's columns, at half width. -/
theorem cols_at (w : FVec Ideal S1024x2608 .f32) (k : Fin 1024) (j : Fin 2048) :
    (shapeCast S1024x2048 (pad S1024x16x128 ![0, 0, 0] ![0, 0, 64] ![0, 0, 0]
        (shapeCast S1024x16x64 (truncf (F := Ideal) .bf16 (extractStridedSlice S1024x1024 ![0, 0] w
          slices_S1024x2608_S1024x1024_0_0) bitsLt_bf16_f32) shapeCasts_S1024x1024_S1024x16x64)
        (sitofp (F := Ideal) .bf16 (constantI S_ 32 0#32)) pads_S1024x16x64_S1024x16x128_000_000_0640 h_S_)
      shapeCasts_S1024x16x128_S1024x2048) (ix2 k j)
      = slot w k j := by
  pointwise [slot]
  have hj : j.val / 128 < 16 := by omega
  have hz : (FloatOps.sitofp (F := Ideal) .bf16 (0#32) : EReal) = 0 := by
    show (((0#32).toInt : ℝ) : EReal) = 0
    simp
  by_cases h : j.val % 128 < 64
  · rw [dif_pos ⟨hj, h⟩, dif_pos h]
  · rw [dif_neg (fun e => h e.2), dif_neg h]
    exact hz

theorem V_x_at (c : Dev nD) (r : Fin 16384) (k : Fin 1024) : V m c main_v0 (ix2 r k)
    = m ((c : Thread nD τ).loc main_arg0) (ix3 ⟨r.val / 4096, by omega⟩ ⟨r.val % 4096, by omega⟩ k) := by
  rw [V_x]; exact join_at _ r k

theorem V_w_at (c : Dev nD) (k : Fin 1024) (j : Fin 2048) : V m c main_v5 (ix2 k j)
    = slot (m ((c : Thread nD τ).loc main_arg1)) k j := by
  rw [V_w]; exact cols_at _ k j

theorem point_2 (c : Dev nD) (t : Fin cfg0.N) (y) :
    k0_pay1 (iblk m c 0 t) (iblk m c 1 t) y
      = wide (m ((c : Thread nD τ).loc main_arg0)) (m ((c : Thread nD τ).loc main_arg1))
          (((cfg0.win 2).blk t).view.emb y) := by
  pointwise [k0_pay1, wide, prod]
  refine Fin.sum_fin_congr fun k => ?_
  unfold iblk
  blk_simp [idx t]
  have ht : t.val < 32 := lt_of_lt_of_eq t.isLt N_0
  have hy : (y 0).val < 512 := (y 0).isLt
  refine Ideal.mul_congr
    ((congrArg (V m c main_v0) (a₂ := ix2 ⟨t.val * 512 + (y 0).val, by omega⟩ k) ?_).trans (V_x_at m c _ k))
    ((congrArg (V m c main_v5) (a₂ := ix2 k (((win0_2.blk t).view.emb y) 1)) ?_).trans (V_w_at m c k _))
  · blk_ext [idx t]
  · blk_ext [idx t]

/-- The product's array when the region ends. -/
theorem final_2 (c : Dev nD) : (dats m 0 c).arrAt 2 (cfgs 0).N
    = wide (m ((c : Thread nD τ).loc main_arg0)) (m ((c : Thread nD τ).loc main_arg1)) := by
  refine (dats m 0 c).arrAt_eq_of_covers 2 _ (by decide +kernel) fun t hf y => ?_
  blk_simp; rw [after0_2]; frame_out
  exact point_2 m c t y

/-- The result: the product, batches apart again. -/
theorem tail_v7 (c : Dev nD) : Pipeline.afterTail₀ cfgs (dats m) 0 (V0 m) [hostOps1] c main_v7
    = shapeCast S4x4096x2048 (wide (m ((c : Thread nD τ).loc main_arg0)) (m ((c : Thread nD τ).loc main_arg1)))
        shapeCasts_S16384x2048_S4x4096x2048 := by
  rw [← final_2 m c]
  unfold Pipeline.afterTail₀
  simp only [List.flatten_cons, List.flatten_nil, List.append_nil]
  unfold hostOps1
  after_results
  rw [show Pipeline.withArrays (cfgs 0).spec c (V0 m c) (fun w => (dats m 0 c).arrAt w (cfgs 0).N)
    (Proc.tc.devRef main_v6) = (dats m 0 c).arrAt 2 (cfgs 0).N from
      Pipeline.withArrays_arr (cfgs 0).spec launch0.win.arr_inj c (V0 m c) _ 2]
  rfl

/-- Joining heads and lanes: column `j` of the joined array is lane `j % 128` of head `j / 128`. -/
theorem apart (A : FVec Ideal Cert.Reference9Ideal.S4x4096x16x128 .f32) (i : Cert.Reference9Ideal.S4x4096x2048.Idx) :
    truncf (F := Ideal) .bf16 (shapeCast Cert.Reference9Ideal.S4x4096x2048 A
      Cert.Reference9Ideal.Gen.shapeCasts_S4x4096x16x128_S4x4096x2048) Cert.Reference9Ideal.Gen.bitsLt_bf16_f32 i
     = A (ix4 (i 0) (i 1) ⟨(i 2).val / 128, by have h2 : (i 2).val < 2048 := (i 2).isLt; omega⟩
        ⟨(i 2).val % 128, by omega⟩) := by
  pointwise

/-- Two arrays of 64 lanes side by side. -/
theorem lanes (A Z : FVec Ideal Cert.Reference9Ideal.S4x4096x16x64 .f32) (a : Fin 4) (b : Fin 4096) (h : Fin 16)
    (l : Fin 128) :
      concatenate Cert.Reference9Ideal.S4x4096x16x128 3
        [⟨Cert.Reference9Ideal.S4x4096x16x64, A⟩, ⟨Cert.Reference9Ideal.S4x4096x16x64, Z⟩]
        Cert.Reference9Ideal.Gen.concatenates_S4x4096x16x64_S4x4096x16x64_S4x4096x16x128_d3 (ix4 a b h l)
     = if hl : l.val < 64 then A (ix4 a b h ⟨l.val, hl⟩) else Z (ix4 a b h ⟨l.val - 64, by omega⟩) := by
  pointwise

/-- The heads of the plain product. -/
theorem heads (x : FVec Ideal S4x4096x1024 .f32) (w : FVec Ideal S1024x2608 .f32) (a : Fin 4) (b : Fin 4096)
    (h : Fin 16) (l : Fin 64) :
    shapeCast Cert.Reference9Ideal.S4x4096x16x64
          (extractStridedSlice Cert.Reference9Ideal.S4x4096x1024 ![0, 0, 0]
            (Host.dotGeneral (F := Ideal) Cert.Reference9Ideal.dot_S4x4096x1024_S1024x2608_S4x4096x2608_2_0_01_1_n_n none x w)
            Cert.Reference9Ideal.Gen.slices_S4x4096x2608_S4x4096x1024_0_0_0)
          Cert.Reference9Ideal.Gen.shapeCasts_S4x4096x1024_S4x4096x16x64 (ix4 a b h l)
     = ∑ k : Fin 1024, x (ix3 a b k) * w (ix2 k ⟨h.val * 64 + l.val, by omega⟩) := by
  pointwise

/-- The zeros beside them. -/
theorem zeros (i : Cert.Reference9Ideal.S4x4096x16x64.Idx) : broadcastInDim Cert.Reference9Ideal.S4x4096x16x64 ![]
    Cert.Reference9Ideal.Gen.bcast_S_S4x4096x16x64 (constant (F := Ideal) Cert.Reference9Ideal.S_ .f32 0x00000000#32) i
      = 0 := by
  pointwise

/-- The kernel's result at an index. -/
theorem kernel_at (x : FVec Ideal S4x4096x1024 .f32) (w : FVec Ideal S1024x2608 .f32) (i : S4x4096x2048.Idx) :
    shapeCast S4x4096x2048 (wide x w) shapeCasts_S16384x2048_S4x4096x2048 i
      = ∑ k : Fin 1024, x (ix3 (i 0) (i 1) k) * slot w k (i 2) := by
  pointwise [wide, prod]
  have h0 : (i 0).val < 4 := (i 0).isLt
  have h1 : (i 1).val < 4096 := (i 1).isLt
  refine Fin.sum_fin_congr fun k => Ideal.mul_congr (congrArg _ ?_) rfl
  blk_ext

/-- The reference's result: the heads of the plain product, each followed by 64 zeros. -/
theorem padded (x : FVec Ideal S4x4096x1024 .f32) (w : FVec Ideal S1024x2608 .f32) :
    truncf (F := Ideal) .bf16 (shapeCast Cert.Reference9Ideal.S4x4096x2048
      (concatenate Cert.Reference9Ideal.S4x4096x16x128 3
        [⟨Cert.Reference9Ideal.S4x4096x16x64, shapeCast Cert.Reference9Ideal.S4x4096x16x64
          (extractStridedSlice Cert.Reference9Ideal.S4x4096x1024 ![0, 0, 0]
            (Host.dotGeneral (F := Ideal) Cert.Reference9Ideal.dot_S4x4096x1024_S1024x2608_S4x4096x2608_2_0_01_1_n_n none x w)
            Cert.Reference9Ideal.Gen.slices_S4x4096x2608_S4x4096x1024_0_0_0)
          Cert.Reference9Ideal.Gen.shapeCasts_S4x4096x1024_S4x4096x16x64⟩,
         ⟨Cert.Reference9Ideal.S4x4096x16x64, broadcastInDim Cert.Reference9Ideal.S4x4096x16x64 ![]
          Cert.Reference9Ideal.Gen.bcast_S_S4x4096x16x64 (constant (F := Ideal) Cert.Reference9Ideal.S_ .f32 0x00000000#32)⟩]
        Cert.Reference9Ideal.Gen.concatenates_S4x4096x16x64_S4x4096x16x64_S4x4096x16x128_d3)
      Cert.Reference9Ideal.Gen.shapeCasts_S4x4096x16x128_S4x4096x2048) Cert.Reference9Ideal.Gen.bitsLt_bf16_f32
      = shapeCast S4x4096x2048 (wide x w) shapeCasts_S16384x2048_S4x4096x2048 := by
  funext i
  refine (apart _ i).trans ((lanes _ _ _ _ _ _).trans (Eq.trans ?_ (kernel_at x w i).symm))
  by_cases h : (i 2).val % 128 < 64
  · rw [dif_pos h]
    refine (heads x w _ _ _ _).trans ?_
    refine Fin.sum_fin_congr fun k => ?_
    unfold slot
    rw [dif_pos h]
  · rw [dif_neg h]
    refine (zeros _).trans ?_
    symm
    refine Finset.sum_eq_zero fun k _ => ?_
    unfold slot
    rw [dif_neg h, mul_zero]

/-- Kernel and reference end with equal results from equal arguments. -/
theorem algebraic : Cert.algebraic_Kernel9Ideal_Reference9Ideal := by
  pair_intro
  · run_from Cert.Kernel9Ideal.Gen.run_main m g
    · exact W_main_arg0 m (dats m) c
    · exact W_main_arg1 m (dats m) c
  · run_from Cert.Reference9Ideal.Value.run m' g'
    · refine Eq.trans ?_ (tail_v7 m c).symm
      rw [← padded]

end Cert.Value9

end
-- ==== Proof.Value10.lean ====
/- The value of the gates of the sparse layer (prompt): the logistic function of the reference's last 48 columns of the
   product. The kernel pads them to 128 lanes and cuts the lanes off again. -/
module

public import proofs.«01_k».proof.Proof.Gen.Kernel10Ideal
public import proofs.«01_k».proof.Proof.Gen.Kernel10Ideal.Skeleton
public import proofs.«01_k».proof.Proof.Gen.Kernel10Ideal.Launch
public import proofs.«01_k».proof.Proof.Gen.Kernel10Ideal.Points
public import proofs.«01_k».proof.Proof.Gen.Kernel10Ideal.Frame
public import proofs.«01_k».proof.Proof.Gen.Reference10Ideal
public import proofs.«01_k».proof.Proof.Gen.Reference10Ideal.Run
public import Idealize.ShloMosaic.Lib.Pipeline.ValueKit
public import Idealize.ShloMosaic.Lib.Pointwise
public import Idealize.ShloMosaic.Lib.Claim
public import proofs.«01_k».proof.Defs

@[expose] public section

set_option maxRecDepth 16384

noncomputable section

open Idealize.ShloMosaic Idealize.ShloMosaic.TcCoe Idealize.SL.Sem
open Idealize.ShloMosaic.Pipeline (Dat)
open scoped BigOperators

namespace Cert.Value10

open Cert.Kernel10Ideal Cert.Kernel10Ideal.Gen

variable (m : (ℓ : Loc nD τ sig) → Buf (Elt Ideal) ℓ)

/-- The weight of a lane: the first 48 are the last columns of the joint weight, the others zero. -/
def lane (w : FVec Ideal S1024x2608 .f32) (k : Fin 1024) (j : Fin 128) : EReal :=
  if h : j.val < 48 then w (ix2 k ⟨2560 + j.val, by omega⟩) else 0

/-- The product of the rows with the padded columns, one row per (batch, position). -/
def prod (x : FVec Ideal S4x4096x1024 .f32) (w : FVec Ideal S1024x2608 .f32) (r : Fin 16384) (j : Fin 128) : EReal :=
  ∑ k : Fin 1024, x (ix3 ⟨r.val / 4096, by omega⟩ ⟨r.val % 4096, by omega⟩ k) * lane w k j

/-- The logistic function of the product, as an array. -/
def wide (x : FVec Ideal S4x4096x1024 .f32) (w : FVec Ideal S1024x2608 .f32) : FVec Ideal S16384x128 .f32 :=
  fun i => Ideal.logistic (prod x w (i 0) (i 1))

theorem idx : ∀ t : Fin cfg0.N, win0_0.index t = ![t.val, 0]
    ∧ win0_1.index t = ![0, 0]
    ∧ win0_2.index t = ![t.val, 0] :=
  (by decide +kernel : ∀ t : Fin grid0.N, _)

/-- What the region finds in its first window's array: the rows, batches joined. -/
theorem V_x (c : Dev nD) : V m c main_v3
    = shapeCast S16384x1024 (m ((c : Thread nD τ).loc main_arg0)) shapeCasts_S4x4096x1024_S16384x1024 := by
  entry_read; try rfl

/-- What it finds in its second window's array: the weight's columns, at half width. -/
theorem V_w (c : Dev nD) : V m c main_v2
    = truncf (F := Ideal) .bf16 (pad S1024x128 ![0, 0] ![0, 80] ![0, 0] (extractStridedSlice S1024x48 ![0, 2560] (m ((c : Thread nD τ).loc main_arg1))
        slices_S1024x2608_S1024x48_0_2560) (sitofp (F := Ideal) .f32 (constantI S_ 32 0#32))
        pads_S1024x48_S1024x128_000_0800 h_S_) bitsLt_bf16_f32 := by
  entry_read; try rfl

/-- Joining the batches. -/
theorem join_at (x : FVec Ideal S4x4096x1024 .f32) (r : Fin 16384) (k : Fin 1024) :
    shapeCast S16384x1024 x shapeCasts_S4x4096x1024_S16384x1024 (ix2 r k) = x (ix3 ⟨r.val / 4096, by omega⟩ ⟨r.val % 4096, by omega⟩ k) := by
  pointwise
  blk_ext

/-- The weight's columns, at half width. -/
theorem cols_at (w : FVec Ideal S1024x2608 .f32) (k : Fin 1024) (j : Fin 128) :
    (truncf (F := Ideal) .bf16 (pad S1024x128 ![0, 0] ![0, 80] ![0, 0] (extractStridedSlice S1024x48 ![0, 2560] w
        slices_S1024x2608_S1024x48_0_2560) (sitofp (F := Ideal) .f32 (constantI S_ 32 0#32))
        pads_S1024x48_S1024x128_000_0800 h_S_) bitsLt_bf16_f32) (ix2 k j)
      = lane w k j := by
  pointwise [lane]
  by_cases h : j.val < 48
  · rw [dif_pos h, dif_pos h]
  · rw [dif_neg h, dif_neg h]
    show (((0#32).toInt : ℝ) : EReal) = 0
    simp

theorem V_x_at (c : Dev nD) (r : Fin 16384) (k : Fin 1024) : V m c main_v3 (ix2 r k)
    = m ((c : Thread nD τ).loc main_arg0) (ix3 ⟨r.val / 4096, by omega⟩ ⟨r.val % 4096, by omega⟩ k) := by
  rw [V_x]; exact join_at _ r k

theorem V_w_at (c : Dev nD) (k : Fin 1024) (j : Fin 128) : V m c main_v2 (ix2 k j)
    = lane (m ((c : Thread nD τ).loc main_arg1)) k j := by
  rw [V_w]; exact cols_at _ k j

theorem point_2 (c : Dev nD) (t : Fin cfg0.N) (y) :
    k0_pay1 (iblk m c 0 t) (iblk m c 1 t) y
      = wide (m ((c : Thread nD τ).loc main_arg0)) (m ((c : Thread nD τ).loc main_arg1))
          (((cfg0.win 2).blk t).view.emb y) := by
  pointwise [k0_pay1, wide, prod]
  refine congrArg Ideal.logistic (Fin.sum_fin_congr fun k => ?_)
  unfold iblk
  blk_simp [idx t]
  have ht : t.val < 32 := lt_of_lt_of_eq t.isLt N_0
  have hy : (y 0).val < 512 := (y 0).isLt
  refine Ideal.mul_congr
    ((congrArg (V m c main_v3) (a₂ := ix2 ⟨t.val * 512 + (y 0).val, by omega⟩ k) ?_).trans (V_x_at m c _ k))
    ((congrArg (V m c main_v2) (a₂ := ix2 k (((win0_2.blk t).view.emb y) 1)) ?_).trans (V_w_at m c k _))
  · blk_ext [idx t]
  · blk_ext [idx t]

/-- The product's array when the region ends. -/
theorem final_2 (c : Dev nD) : (dats m 0 c).arrAt 2 (cfgs 0).N
    = wide (m ((c : Thread nD τ).loc main_arg0)) (m ((c : Thread nD τ).loc main_arg1)) := by
  refine (dats m 0 c).arrAt_eq_of_covers 2 _ (by decide +kernel) fun t hf y => ?_
  blk_simp; rw [after0_2]; frame_out
  exact point_2 m c t y

/-- The result: the first 48 lanes, by branch, group and head. -/
theorem tail_v6 (c : Dev nD) : Pipeline.afterTail₀ cfgs (dats m) 0 (V0 m) [hostOps1] c main_v6
    = shapeCast S4x4096x3x4x4 (extractStridedSlice S16384x48 ![0, 0]
        (wide (m ((c : Thread nD τ).loc main_arg0)) (m ((c : Thread nD τ).loc main_arg1)))
        slices_S16384x128_S16384x48_0_0) shapeCasts_S16384x48_S4x4096x3x4x4 := by
  rw [← final_2 m c]
  unfold Pipeline.afterTail₀
  simp only [List.flatten_cons, List.flatten_nil, List.append_nil]
  unfold hostOps1
  after_results
  rw [show Pipeline.withArrays (cfgs 0).spec c (V0 m c) (fun w => (dats m 0 c).arrAt w (cfgs 0).N)
    (Proc.tc.devRef main_v4) = (dats m 0 c).arrAt 2 (cfgs 0).N from
      Pipeline.withArrays_arr (cfgs 0).spec launch0.win.arr_inj c (V0 m c) _ 2]
  rfl

/-- Kernel and reference end with equal results from equal arguments. -/
theorem algebraic : Cert.algebraic_Kernel10Ideal_Reference10Ideal := by
  pair_intro
  · run_from Cert.Kernel10Ideal.Gen.run_main m g
    · exact W_main_arg0 m (dats m) c
    · exact W_main_arg1 m (dats m) c
  · run_from Cert.Reference10Ideal.Value.run m' g'
    · refine Eq.trans ?_ (tail_v6 m c).symm
      funext i
      pointwise [wide, prod]
      refine congrArg Ideal.logistic (Fin.sum_fin_congr fun k => ?_)
      have h0 : (i 0).val < 4 := (i 0).isLt
      have h1 : (i 1).val < 4096 := (i 1).isLt
      have h2 : (i 2).val < 3 := (i 2).isLt
      have h3 : (i 3).val < 4 := (i 3).isLt
      have h4 : (i 4).val < 4 := (i 4).isLt
      refine Ideal.mul_congr (congrArg _ ?_) ?_
      · blk_ext
      · unfold lane
        rw [dif_pos (show (i 2).val * 16 + (i 3).val * 4 + (i 4).val < 48 by omega)]

end Cert.Value10

end
-- ==== Proof.Value11Ref.lean ====
/- The reference of the compression of the sparse layer's rows (prompt), one array at a time, and what each array is at
   an index. -/
module

public import proofs.«01_k».proof.Proof.Gen.Kernel11Ideal
public import proofs.«01_k».proof.Proof.Gen.Kernel11Ideal.Skeleton
public import proofs.«01_k».proof.Proof.Gen.Kernel11Ideal.Launch
public import proofs.«01_k».proof.Proof.Gen.Kernel11Ideal.Points
public import proofs.«01_k».proof.Proof.Gen.Kernel11Ideal.Frame
public import proofs.«01_k».proof.Proof.Gen.Reference11Ideal
public import proofs.«01_k».proof.Proof.Gen.Reference11Ideal.Run
public import Idealize.ShloMosaic.Lib.Pipeline.ValueKit
public import Idealize.ShloMosaic.Lib.Pointwise
public import Idealize.ShloMosaic.Lib.Claim
public import proofs.«01_k».proof.Defs

@[expose] public section

set_option maxRecDepth 16384

noncomputable section

open Idealize.ShloMosaic Idealize.ShloMosaic.TcCoe Idealize.SL.Sem
open Idealize.ShloMosaic.Pipeline (Dat)
open scoped BigOperators

namespace Cert.Value11

/-- The tanh form of the activation, in the two programs' common association. -/
def gel (h : EReal) : EReal :=
  h * (Ideal.ofBits .f32 0x3F000000#32 * (Ideal.ofBits .f32 0x3F800000#32
    + Ideal.tanh (Ideal.ofBits .f32 0x3F4C422A#32 * (h + Ideal.ofBits .f32 0x3D372713#32 * (h * h * h)))))

open Cert.Reference11Ideal Cert.Reference11Ideal.Gen in
/-- The products of every chunk with the two halves of the first weight. -/
def refZ (a : FVec Ideal S4x4096x4x64 .f32) (w : FVec Ideal S2048x128 .f32) : FVec Ideal S4x256x2x4x128 .f32 :=
  transpose S4x256x2x4x128 [2, 3, 0, 4, 1] (Host.dotGeneral dot_S2x16x64x128_S4x256x16x4x64_S2x128x4x256x4_21_42_03_013_n_n none
    (shapeCast S2x16x64x128 w shapeCasts_S2048x128_S2x16x64x128) (shapeCast S4x256x16x4x64 a shapeCasts_S4x4096x4x64_S4x256x16x4x64))
    transposes_S2x128x4x256x4_S4x256x2x4x128_2_3_0_4_1

open Cert.Reference11Ideal Cert.Reference11Ideal.Gen in
/-- The position's term, one row. -/
def refP (p : FVec Ideal S32x64 .f32) (w : FVec Ideal S2048x128 .f32) : FVec Ideal S128 .f32 :=
  Host.dotGeneral dot_S2048_S2048x128_S128_0_0_n_1_n_n none (shapeCast S2048 p shapeCasts_S32x64_S2048) w

open Cert.Reference11Ideal Cert.Reference11Ideal.Gen in
/-- The hidden row of every block. -/
def refHid (p : FVec Ideal S128 .f32) (z : FVec Ideal S4x256x2x4x128 .f32) : FVec Ideal S4x255x4x128 .f32 :=
  addf (addf (broadcastInDim S4x255x4x128 ![0, 1, 2, 3] bcast_S1x1x1x128_S4x255x4x128_0_1_2_3
      (broadcastInDim S1x1x1x128 ![3] bcast_S128_S1x1x1x128_3 p))
    (shapeCast S4x255x4x128 (extractStridedSlice S4x255x1x4x128 ![0, 0, 0, 0, 0] z slices_S4x256x2x4x128_S4x255x1x4x128_0_0_0_0_0)
      shapeCasts_S4x255x1x4x128_S4x255x4x128))
    (shapeCast S4x255x4x128 (extractStridedSlice S4x255x1x4x128 ![0, 1, 1, 0, 0] z slices_S4x256x2x4x128_S4x255x1x4x128_0_1_1_0_0)
      shapeCasts_S4x255x1x4x128_S4x255x4x128)

open Cert.Reference11Ideal Cert.Reference11Ideal.Gen in
/-- The activated rows times the second weight, as one half of the result. -/
def refHalf (h : FVec Ideal S4x255x4x128 .f32) (u : FVec Ideal S128x64 .f32) : FVec Ideal S1x4x4x255x64 .f32 :=
  broadcastInDim S1x4x4x255x64 ![1, 2, 3, 4] bcast_S4x4x255x64_S1x4x4x255x64_1_2_3_4 (transpose S4x4x255x64 [0, 2, 1, 3]
    (Host.dotGeneral dot_S4x255x4x128_S128x64_S4x255x4x64_3_0_012_1_n_n none
      (mulf h (mulf (broadcastInDim S4x255x4x128 ![] bcast_S_S4x255x4x128 (constant S_ .f32 0x3F000000#32))
        (addf (broadcastInDim S4x255x4x128 ![] bcast_S_S4x255x4x128 (constant S_ .f32 0x3F800000#32))
          (Host.tanh (mulf (broadcastInDim S4x255x4x128 ![] bcast_S_S4x255x4x128 (constant S_ .f32 0x3F4C422A#32))
            (addf h (mulf (broadcastInDim S4x255x4x128 ![] bcast_S_S4x255x4x128 (constant S_ .f32 0x3D372713#32))
              (mulf (mulf h h) h)))))))) u) transposes_S4x255x4x64_S4x4x255x64_0_2_1_3)

open Cert.Reference11Ideal Cert.Reference11Ideal.Gen in
/-- The two halves, joined. -/
def refOut (a b : FVec Ideal S1x4x4x255x64 .f32) : FVec Ideal S2x4x4x255x64 .bf16 :=
  truncf .bf16 (concatenate S2x4x4x255x64 0 [⟨S1x4x4x255x64, a⟩, ⟨S1x4x4x255x64, b⟩]
    concatenates_S1x4x4x255x64_S1x4x4x255x64_S2x4x4x255x64_d0) bitsLt_bf16_f32

open Cert.Reference11Ideal Cert.Reference11Ideal.Gen in
/-- The reference's result, in these words. -/
theorem ref_eq (m' : (ℓ : Loc nD τ sig) → Buf (Elt Ideal) ℓ) (c : Dev nD) :
    Cert.Reference11Ideal.Value.res_main_v78 m' c = refOut
      (refHalf (refHid
        (refP (shapeCast S32x64 (extractStridedSlice S1x32x64 ![0, 0, 0] (m' ((c.tc : Thread nD τ).loc main_arg1)) slices_S2x32x64_S1x32x64_0_0_0) shapeCasts_S1x32x64_S32x64)
          (shapeCast S2048x128 (extractStridedSlice S1x2048x128 ![0, 0, 0] (m' ((c.tc : Thread nD τ).loc main_arg2)) slices_S2x2048x128_S1x2048x128_0_0_0) shapeCasts_S1x2048x128_S2048x128))
        (refZ (shapeCast S4x4096x4x64 (extractStridedSlice S4x4096x1x4x64 ![0, 0, 0, 0, 0] (shapeCast S4x4096x6x4x64 (m' ((c.tc : Thread nD τ).loc main_arg0)) shapeCasts_S4x4096x1536_S4x4096x6x4x64) slices_S4x4096x6x4x64_S4x4096x1x4x64_0_0_0_0_0) shapeCasts_S4x4096x1x4x64_S4x4096x4x64)
          (shapeCast S2048x128 (extractStridedSlice S1x2048x128 ![0, 0, 0] (m' ((c.tc : Thread nD τ).loc main_arg2)) slices_S2x2048x128_S1x2048x128_0_0_0) shapeCasts_S1x2048x128_S2048x128)))
        (shapeCast S128x64 (extractStridedSlice S1x128x64 ![0, 0, 0] (m' ((c.tc : Thread nD τ).loc main_arg3)) slices_S2x128x64_S1x128x64_0_0_0) shapeCasts_S1x128x64_S128x64))
      (refHalf (refHid
        (refP (shapeCast S32x64 (extractStridedSlice S1x32x64 ![1, 0, 0] (m' ((c.tc : Thread nD τ).loc main_arg1)) slices_S2x32x64_S1x32x64_1_0_0) shapeCasts_S1x32x64_S32x64)
          (shapeCast S2048x128 (extractStridedSlice S1x2048x128 ![1, 0, 0] (m' ((c.tc : Thread nD τ).loc main_arg2)) slices_S2x2048x128_S1x2048x128_1_0_0) shapeCasts_S1x2048x128_S2048x128))
        (refZ (shapeCast S4x4096x4x64 (extractStridedSlice S4x4096x1x4x64 ![0, 0, 1, 0, 0] (shapeCast S4x4096x6x4x64 (m' ((c.tc : Thread nD τ).loc main_arg0)) shapeCasts_S4x4096x1536_S4x4096x6x4x64) slices_S4x4096x6x4x64_S4x4096x1x4x64_0_0_1_0_0) shapeCasts_S4x4096x1x4x64_S4x4096x4x64)
          (shapeCast S2048x128 (extractStridedSlice S1x2048x128 ![1, 0, 0] (m' ((c.tc : Thread nD τ).loc main_arg2)) slices_S2x2048x128_S1x2048x128_1_0_0) shapeCasts_S1x2048x128_S2048x128)))
        (shapeCast S128x64 (extractStridedSlice S1x128x64 ![1, 0, 0] (m' ((c.tc : Thread nD τ).loc main_arg3)) slices_S2x128x64_S1x128x64_1_0_0) shapeCasts_S1x128x64_S128x64)) := rfl

open Cert.Reference11Ideal Cert.Reference11Ideal.Gen in
/-- The products of a chunk, at an index. -/
theorem refZ_at (a : FVec Ideal S4x4096x4x64 .f32) (w : FVec Ideal S2048x128 .f32) (b : Fin 4) (n : Fin 256) (j : Fin 2) (g : Fin 4)
    (k : Fin 128) : refZ a w (ix5 b n j g k) = ∑ d : Fin 64, ∑ s : Fin 16,
      w (ix2 ⟨j.val * 1024 + s.val * 64 + d.val, by omega⟩ k) * a (ix4 b ⟨n.val * 16 + s.val, by omega⟩ g d) := by
  pointwise [refZ]

open Cert.Reference11Ideal Cert.Reference11Ideal.Gen in
/-- The positions' term, at an index. -/
theorem refP_at (p : FVec Ideal S32x64 .f32) (w : FVec Ideal S2048x128 .f32) (k : Fin 128) :
    refP p w (ix1 k) = ∑ x : Fin 2048, p (ix2 ⟨x.val / 64, by omega⟩ ⟨x.val % 64, by omega⟩) * w (ix2 x k) := by
  pointwise [refP]
  try blk_ext

open Cert.Reference11Ideal Cert.Reference11Ideal.Gen in
/-- The hidden layer, at an index. -/
theorem refHid_at (p : FVec Ideal S128 .f32) (z : FVec Ideal S4x256x2x4x128 .f32) (b : Fin 4) (n : Fin 255) (g : Fin 4) (k : Fin 128) :
    refHid p z (ix4 b n g k) = p (ix1 k) + z (ix5 b ⟨n.val, by omega⟩ 0 g k) + z (ix5 b ⟨n.val + 1, by omega⟩ 1 g k) := by
  pointwise [refHid]
  refine congrArg (fun q => p (ix1 k) + z (ix5 b ⟨n.val, by omega⟩ 0 g k) + z q) ?_
  blk_ext

open Cert.Reference11Ideal Cert.Reference11Ideal.Gen in
/-- One half of the result, at an index. -/
theorem refHalf_at (h : FVec Ideal S4x255x4x128 .f32) (u : FVec Ideal S128x64 .f32) (b g : Fin 4) (n : Fin 255) (d : Fin 64) :
    refHalf h u (ix5 0 b g n d) = ∑ k : Fin 128, gel (h (ix4 b n g k)) * u (ix2 k d) := by
  pointwise [refHalf, gel]

open Cert.Reference11Ideal Cert.Reference11Ideal.Gen in
/-- The result, at an index. -/
theorem refOut_at (x y : FVec Ideal S1x4x4x255x64 .f32) (e : Fin 2) (b g : Fin 4) (n : Fin 255) (d : Fin 64) :
    refOut x y (ix5 e b g n d) = if e.val = 0 then x (ix5 0 b g n d) else y (ix5 0 b g n d) := by
  pointwise [refOut]
  by_cases h : e.val = 0
  · rw [dif_pos (show e.val < 1 by omega), if_pos h]
    refine congrArg x ?_
    blk_ext
  · rw [dif_neg (show ¬ e.val < 1 by omega), if_neg h]
    refine congrArg y ?_
    blk_ext

open Cert.Reference11Ideal Cert.Reference11Ideal.Gen in
/-- The reference's keys at an index. -/
theorem value_0 (x : FVec Ideal Cert.Kernel11Ideal.S4x4096x1536 .f32) (b : Fin 4) (t : Fin 4096) (g : Fin 4) (d : Fin 64) :
    shapeCast S4x4096x4x64 (extractStridedSlice S4x4096x1x4x64 ![0, 0, 0, 0, 0] (shapeCast S4x4096x6x4x64 x shapeCasts_S4x4096x1536_S4x4096x6x4x64) slices_S4x4096x6x4x64_S4x4096x1x4x64_0_0_0_0_0) shapeCasts_S4x4096x1x4x64_S4x4096x4x64
      (ix4 b t g d) = x (ix3 b t ⟨(0 : Fin 2).val * 256 + g.val * 64 + d.val, by omega⟩) := by
  pointwise
  try blk_ext

open Cert.Reference11Ideal Cert.Reference11Ideal.Gen in
/-- The embedding for the keys at an index. -/
theorem pos_0 (p : FVec Ideal Cert.Kernel11Ideal.S2x32x64 .f32) (s : Fin 32) (d : Fin 64) :
    shapeCast S32x64 (extractStridedSlice S1x32x64 ![0, 0, 0] p slices_S2x32x64_S1x32x64_0_0_0) shapeCasts_S1x32x64_S32x64 (ix2 s d)
      = p (ix3 0 s d) := by
  pointwise
  try blk_ext

open Cert.Reference11Ideal Cert.Reference11Ideal.Gen in
/-- The first weight for the keys at an index. -/
theorem first_0 (w : FVec Ideal Cert.Kernel11Ideal.S2x2048x128 .f32) (y : Fin 2048) (k : Fin 128) :
    shapeCast S2048x128 (extractStridedSlice S1x2048x128 ![0, 0, 0] w slices_S2x2048x128_S1x2048x128_0_0_0) shapeCasts_S1x2048x128_S2048x128 (ix2 y k)
      = w (ix3 0 y k) := by
  pointwise
  try blk_ext

open Cert.Reference11Ideal Cert.Reference11Ideal.Gen in
/-- The second weight for the keys at an index. -/
theorem second_0 (u : FVec Ideal Cert.Kernel11Ideal.S2x128x64 .f32) (k : Fin 128) (d : Fin 64) :
    shapeCast S128x64 (extractStridedSlice S1x128x64 ![0, 0, 0] u slices_S2x128x64_S1x128x64_0_0_0) shapeCasts_S1x128x64_S128x64 (ix2 k d)
      = u (ix3 0 k d) := by
  pointwise
  try blk_ext

open Cert.Reference11Ideal Cert.Reference11Ideal.Gen in
/-- The reference's values at an index. -/
theorem value_1 (x : FVec Ideal Cert.Kernel11Ideal.S4x4096x1536 .f32) (b : Fin 4) (t : Fin 4096) (g : Fin 4) (d : Fin 64) :
    shapeCast S4x4096x4x64 (extractStridedSlice S4x4096x1x4x64 ![0, 0, 1, 0, 0] (shapeCast S4x4096x6x4x64 x shapeCasts_S4x4096x1536_S4x4096x6x4x64) slices_S4x4096x6x4x64_S4x4096x1x4x64_0_0_1_0_0) shapeCasts_S4x4096x1x4x64_S4x4096x4x64
      (ix4 b t g d) = x (ix3 b t ⟨(1 : Fin 2).val * 256 + g.val * 64 + d.val, by omega⟩) := by
  pointwise
  try blk_ext

open Cert.Reference11Ideal Cert.Reference11Ideal.Gen in
/-- The embedding for the values at an index. -/
theorem pos_1 (p : FVec Ideal Cert.Kernel11Ideal.S2x32x64 .f32) (s : Fin 32) (d : Fin 64) :
    shapeCast S32x64 (extractStridedSlice S1x32x64 ![1, 0, 0] p slices_S2x32x64_S1x32x64_1_0_0) shapeCasts_S1x32x64_S32x64 (ix2 s d)
      = p (ix3 1 s d) := by
  pointwise
  try blk_ext

open Cert.Reference11Ideal Cert.Reference11Ideal.Gen in
/-- The first weight for the values at an index. -/
theorem first_1 (w : FVec Ideal Cert.Kernel11Ideal.S2x2048x128 .f32) (y : Fin 2048) (k : Fin 128) :
    shapeCast S2048x128 (extractStridedSlice S1x2048x128 ![1, 0, 0] w slices_S2x2048x128_S1x2048x128_1_0_0) shapeCasts_S1x2048x128_S2048x128 (ix2 y k)
      = w (ix3 1 y k) := by
  pointwise
  try blk_ext

open Cert.Reference11Ideal Cert.Reference11Ideal.Gen in
/-- The second weight for the values at an index. -/
theorem second_1 (u : FVec Ideal Cert.Kernel11Ideal.S2x128x64 .f32) (k : Fin 128) (d : Fin 64) :
    shapeCast S128x64 (extractStridedSlice S1x128x64 ![1, 0, 0] u slices_S2x128x64_S1x128x64_1_0_0) shapeCasts_S1x128x64_S128x64 (ix2 k d)
      = u (ix3 1 k d) := by
  pointwise
  try blk_ext

end Cert.Value11
end
-- ==== Proof.Value11Body.lean ====
/- The body of the compression: what it loads (every sixteenth row from a start, one step of the weight) and what each
   step leaves, at an index. -/
module

public import proofs.«01_k».proof.Proof.Gen.Kernel11Ideal
public import proofs.«01_k».proof.Proof.Gen.Kernel11Ideal.Skeleton
public import proofs.«01_k».proof.Proof.Gen.Kernel11Ideal.Launch
public import proofs.«01_k».proof.Proof.Gen.Kernel11Ideal.Points
public import proofs.«01_k».proof.Proof.Gen.Kernel11Ideal.Frame
public import proofs.«01_k».proof.Proof.Gen.Reference11Ideal
public import proofs.«01_k».proof.Proof.Gen.Reference11Ideal.Run
public import Idealize.ShloMosaic.Lib.Pipeline.ValueKit
public import Idealize.ShloMosaic.Lib.Pointwise
public import Idealize.ShloMosaic.Lib.Claim
public import proofs.«01_k».proof.Proof.Value11Ref
public import proofs.«01_k».proof.Defs
public import Idealize.ShloMosaic.Lib.WholeRead

@[expose] public section

set_option maxRecDepth 16384

noncomputable section

open Idealize.ShloMosaic Idealize.ShloMosaic.TcCoe Idealize.SL.Sem
open Idealize.ShloMosaic.Pipeline (Dat)
open scoped BigOperators

namespace Cert.Value11

open Cert.Kernel11Ideal Cert.Kernel11Ideal.Gen

/-- Every sixteenth row of a block of rows, from row `o` on. -/
def rowsFrom (X : Vec Ideal S1x4096x128 .f32) (o : Fin 16) : Vec Ideal S256x128 .f32 :=
  fun i => X (ix3 0 ⟨16 * (i 0).val + o.val, by have := (i 0).isLt; have h : S256x128.size 0 = 256 := rfl; omega⟩ (i 1))

/-- One step's slice of the joint weight. -/
def stepOf (W : Vec Ideal S1x8x256x512 .bf16) (s : Fin 8) : Vec Ideal S1x256x512 .bf16 :=
  fun i => W (ix4 0 s (i 1) (i 2))

/-- Leaving out the unit axis of the rows. -/
theorem dropRows : S1x4096x128.ShapeCasts S4096x128 := by decide

/-- Leaving out the unit axis of the weight. -/
theorem dropSteps : S1x8x256x512.ShapeCasts S8x256x512 := by decide

/-- A load through the squeezed block of rows, at an index. -/
theorem load_rows (M : Memref sig .tc .vmem S1x4096x128 .f32) (h : M.IsWhole) (X : Vec Ideal S1x4096x128 .f32)
    (hn : S4096x128.numel = (Rect.unit (s := S1x4096x128) ![0, 0, 0] ![1, 4096, 128] inb_S1x4096x128_S1x4096x128_0_0_0).shape.numel)
    (B : LoadRect S4096x128) (i : B.shape.Idx) :
    View.readAt (Elt Ideal) ((M.view.slice (Rect.unit (s := S1x4096x128) ![0, 0, 0] ![1, 4096, 128] inb_S1x4096x128_S1x4096x128_0_0_0)).reshape S4096x128 hn)
      B (h.unread X) i = X (ix3 0 (B.idx i 0) (B.idx i 1)) := by
  refine (h.readAt_slice_reshape_unread X _ _ B i).trans ?_
  have e : View.ld X (Rect.unit (s := S1x4096x128) ![0, 0, 0] ![1, 4096, 128] inb_S1x4096x128_S1x4096x128_0_0_0) = X :=
    View.ld_unit_lit _ X (by decide)
  refine (congrFun e _).trans ?_
  generalize B.idx i = z
  show shapeCast S4096x128 X dropRows z = _
  pointwise
  try blk_ext

/-- A load through the squeezed weight, at an index. -/
theorem load_step (M : Memref sig .tc .vmem S1x8x256x512 .bf16) (h : M.IsWhole) (X : Vec Ideal S1x8x256x512 .bf16)
    (hn : S8x256x512.numel = (Rect.unit (s := S1x8x256x512) ![0, 0, 0, 0] ![1, 8, 256, 512] inb_S1x8x256x512_S1x8x256x512_0_0_0_0).shape.numel)
    (B : LoadRect S8x256x512) (i : B.shape.Idx) :
    View.readAt (Elt Ideal) ((M.view.slice (Rect.unit (s := S1x8x256x512) ![0, 0, 0, 0] ![1, 8, 256, 512] inb_S1x8x256x512_S1x8x256x512_0_0_0_0)).reshape S8x256x512 hn)
      B (h.unread X) i = X (ix4 0 (B.idx i 0) (B.idx i 1) (B.idx i 2)) := by
  refine (h.readAt_slice_reshape_unread X _ _ B i).trans ?_
  have e : View.ld X (Rect.unit (s := S1x8x256x512) ![0, 0, 0, 0] ![1, 8, 256, 512] inb_S1x8x256x512_S1x8x256x512_0_0_0_0) = X :=
    View.ld_unit_lit _ X (by decide)
  refine (congrFun e _).trans ?_
  generalize B.idx i = z
  show shapeCast S8x256x512 X dropSteps z = _
  pointwise
  try blk_ext

/-- Two indices of three coordinates are equal when their coordinates are. -/
theorem idx_eq3 {a b c : ℕ} {i i' : Fin a} {j j' : Fin b} {k k' : Fin c} (h : i.val = i'.val) (h' : j.val = j'.val) (h'' : k.val = k'.val) :
    (ix3 i j k : (⟨3, ![a, b, c]⟩ : Shape).Idx) = ix3 i' j' k' := by
  obtain rfl := Fin.ext h; obtain rfl := Fin.ext h'; obtain rfl := Fin.ext h''; rfl

/-- Two indices of four coordinates are equal when their coordinates are. -/
theorem idx_eq4 {a b c d : ℕ} {i i' : Fin a} {j j' : Fin b} {k k' : Fin c} {l l' : Fin d} (h : i.val = i'.val) (h' : j.val = j'.val)
    (h'' : k.val = k'.val) (h₃ : l.val = l'.val) :
    (ix4 i j k l : (⟨4, ![a, b, c, d]⟩ : Shape).Idx) = ix4 i' j' k' l' := by
  obtain rfl := Fin.ext h; obtain rfl := Fin.ext h'; obtain rfl := Fin.ext h''; obtain rfl := Fin.ext h₃; rfl

/-! The loads of one point: every sixteenth row from each of the first sixteen on, and the eight slices of the weight. -/

/-- A load of the rows from row 0 on. -/
theorem rows0 (M : Memref sig .tc .vmem S1x4096x128 .f32) (h : M.IsWhole) (X : Vec Ideal S1x4096x128 .f32) (hn) :
    View.readAt (Elt Ideal) ((M.view.slice (Rect.unit (s := S1x4096x128) ![0, 0, 0] ![1, 4096, 128] inb_S1x4096x128_S1x4096x128_0_0_0)).reshape S4096x128 hn)
      { off := ![0, 0], size := ![256, 128], stride := ![16, 1], inb := inb_S4096x128_S256x128_0_0_s_16_1 } (h.unread X) = rowsFrom X 0 := by
  funext i
  refine (load_rows M h X hn _ i).trans (congrArg X (idx_eq3 rfl ?_ ?_))
  · show 0 + 16 * (i 0).val = 16 * (i 0).val + 0
    omega
  · show 0 + 1 * (i 1).val = (i 1).val
    omega

/-- A load of the rows from row 1 on. -/
theorem rows1 (M : Memref sig .tc .vmem S1x4096x128 .f32) (h : M.IsWhole) (X : Vec Ideal S1x4096x128 .f32) (hn) :
    View.readAt (Elt Ideal) ((M.view.slice (Rect.unit (s := S1x4096x128) ![0, 0, 0] ![1, 4096, 128] inb_S1x4096x128_S1x4096x128_0_0_0)).reshape S4096x128 hn)
      { off := ![1, 0], size := ![256, 128], stride := ![16, 1], inb := inb_S4096x128_S256x128_1_0_s_16_1 } (h.unread X) = rowsFrom X 1 := by
  funext i
  refine (load_rows M h X hn _ i).trans (congrArg X (idx_eq3 rfl ?_ ?_))
  · show 1 + 16 * (i 0).val = 16 * (i 0).val + 1
    omega
  · show 0 + 1 * (i 1).val = (i 1).val
    omega

/-- A load of the rows from row 2 on. -/
theorem rows2 (M : Memref sig .tc .vmem S1x4096x128 .f32) (h : M.IsWhole) (X : Vec Ideal S1x4096x128 .f32) (hn) :
    View.readAt (Elt Ideal) ((M.view.slice (Rect.unit (s := S1x4096x128) ![0, 0, 0] ![1, 4096, 128] inb_S1x4096x128_S1x4096x128_0_0_0)).reshape S4096x128 hn)
      { off := ![2, 0], size := ![256, 128], stride := ![16, 1], inb := inb_S4096x128_S256x128_2_0_s_16_1 } (h.unread X) = rowsFrom X 2 := by
  funext i
  refine (load_rows M h X hn _ i).trans (congrArg X (idx_eq3 rfl ?_ ?_))
  · show 2 + 16 * (i 0).val = 16 * (i 0).val + 2
    omega
  · show 0 + 1 * (i 1).val = (i 1).val
    omega

/-- A load of the rows from row 3 on. -/
theorem rows3 (M : Memref sig .tc .vmem S1x4096x128 .f32) (h : M.IsWhole) (X : Vec Ideal S1x4096x128 .f32) (hn) :
    View.readAt (Elt Ideal) ((M.view.slice (Rect.unit (s := S1x4096x128) ![0, 0, 0] ![1, 4096, 128] inb_S1x4096x128_S1x4096x128_0_0_0)).reshape S4096x128 hn)
      { off := ![3, 0], size := ![256, 128], stride := ![16, 1], inb := inb_S4096x128_S256x128_3_0_s_16_1 } (h.unread X) = rowsFrom X 3 := by
  funext i
  refine (load_rows M h X hn _ i).trans (congrArg X (idx_eq3 rfl ?_ ?_))
  · show 3 + 16 * (i 0).val = 16 * (i 0).val + 3
    omega
  · show 0 + 1 * (i 1).val = (i 1).val
    omega

/-- A load of the rows from row 4 on. -/
theorem rows4 (M : Memref sig .tc .vmem S1x4096x128 .f32) (h : M.IsWhole) (X : Vec Ideal S1x4096x128 .f32) (hn) :
    View.readAt (Elt Ideal) ((M.view.slice (Rect.unit (s := S1x4096x128) ![0, 0, 0] ![1, 4096, 128] inb_S1x4096x128_S1x4096x128_0_0_0)).reshape S4096x128 hn)
      { off := ![4, 0], size := ![256, 128], stride := ![16, 1], inb := inb_S4096x128_S256x128_4_0_s_16_1 } (h.unread X) = rowsFrom X 4 := by
  funext i
  refine (load_rows M h X hn _ i).trans (congrArg X (idx_eq3 rfl ?_ ?_))
  · show 4 + 16 * (i 0).val = 16 * (i 0).val + 4
    omega
  · show 0 + 1 * (i 1).val = (i 1).val
    omega

/-- A load of the rows from row 5 on. -/
theorem rows5 (M : Memref sig .tc .vmem S1x4096x128 .f32) (h : M.IsWhole) (X : Vec Ideal S1x4096x128 .f32) (hn) :
    View.readAt (Elt Ideal) ((M.view.slice (Rect.unit (s := S1x4096x128) ![0, 0, 0] ![1, 4096, 128] inb_S1x4096x128_S1x4096x128_0_0_0)).reshape S4096x128 hn)
      { off := ![5, 0], size := ![256, 128], stride := ![16, 1], inb := inb_S4096x128_S256x128_5_0_s_16_1 } (h.unread X) = rowsFrom X 5 := by
  funext i
  refine (load_rows M h X hn _ i).trans (congrArg X (idx_eq3 rfl ?_ ?_))
  · show 5 + 16 * (i 0).val = 16 * (i 0).val + 5
    omega
  · show 0 + 1 * (i 1).val = (i 1).val
    omega

/-- A load of the rows from row 6 on. -/
theorem rows6 (M : Memref sig .tc .vmem S1x4096x128 .f32) (h : M.IsWhole) (X : Vec Ideal S1x4096x128 .f32) (hn) :
    View.readAt (Elt Ideal) ((M.view.slice (Rect.unit (s := S1x4096x128) ![0, 0, 0] ![1, 4096, 128] inb_S1x4096x128_S1x4096x128_0_0_0)).reshape S4096x128 hn)
      { off := ![6, 0], size := ![256, 128], stride := ![16, 1], inb := inb_S4096x128_S256x128_6_0_s_16_1 } (h.unread X) = rowsFrom X 6 := by
  funext i
  refine (load_rows M h X hn _ i).trans (congrArg X (idx_eq3 rfl ?_ ?_))
  · show 6 + 16 * (i 0).val = 16 * (i 0).val + 6
    omega
  · show 0 + 1 * (i 1).val = (i 1).val
    omega

/-- A load of the rows from row 7 on. -/
theorem rows7 (M : Memref sig .tc .vmem S1x4096x128 .f32) (h : M.IsWhole) (X : Vec Ideal S1x4096x128 .f32) (hn) :
    View.readAt (Elt Ideal) ((M.view.slice (Rect.unit (s := S1x4096x128) ![0, 0, 0] ![1, 4096, 128] inb_S1x4096x128_S1x4096x128_0_0_0)).reshape S4096x128 hn)
      { off := ![7, 0], size := ![256, 128], stride := ![16, 1], inb := inb_S4096x128_S256x128_7_0_s_16_1 } (h.unread X) = rowsFrom X 7 := by
  funext i
  refine (load_rows M h X hn _ i).trans (congrArg X (idx_eq3 rfl ?_ ?_))
  · show 7 + 16 * (i 0).val = 16 * (i 0).val + 7
    omega
  · show 0 + 1 * (i 1).val = (i 1).val
    omega

/-- A load of the rows from row 8 on. -/
theorem rows8 (M : Memref sig .tc .vmem S1x4096x128 .f32) (h : M.IsWhole) (X : Vec Ideal S1x4096x128 .f32) (hn) :
    View.readAt (Elt Ideal) ((M.view.slice (Rect.unit (s := S1x4096x128) ![0, 0, 0] ![1, 4096, 128] inb_S1x4096x128_S1x4096x128_0_0_0)).reshape S4096x128 hn)
      { off := ![8, 0], size := ![256, 128], stride := ![16, 1], inb := inb_S4096x128_S256x128_8_0_s_16_1 } (h.unread X) = rowsFrom X 8 := by
  funext i
  refine (load_rows M h X hn _ i).trans (congrArg X (idx_eq3 rfl ?_ ?_))
  · show 8 + 16 * (i 0).val = 16 * (i 0).val + 8
    omega
  · show 0 + 1 * (i 1).val = (i 1).val
    omega

/-- A load of the rows from row 9 on. -/
theorem rows9 (M : Memref sig .tc .vmem S1x4096x128 .f32) (h : M.IsWhole) (X : Vec Ideal S1x4096x128 .f32) (hn) :
    View.readAt (Elt Ideal) ((M.view.slice (Rect.unit (s := S1x4096x128) ![0, 0, 0] ![1, 4096, 128] inb_S1x4096x128_S1x4096x128_0_0_0)).reshape S4096x128 hn)
      { off := ![9, 0], size := ![256, 128], stride := ![16, 1], inb := inb_S4096x128_S256x128_9_0_s_16_1 } (h.unread X) = rowsFrom X 9 := by
  funext i
  refine (load_rows M h X hn _ i).trans (congrArg X (idx_eq3 rfl ?_ ?_))
  · show 9 + 16 * (i 0).val = 16 * (i 0).val + 9
    omega
  · show 0 + 1 * (i 1).val = (i 1).val
    omega

/-- A load of the rows from row 10 on. -/
theorem rows10 (M : Memref sig .tc .vmem S1x4096x128 .f32) (h : M.IsWhole) (X : Vec Ideal S1x4096x128 .f32) (hn) :
    View.readAt (Elt Ideal) ((M.view.slice (Rect.unit (s := S1x4096x128) ![0, 0, 0] ![1, 4096, 128] inb_S1x4096x128_S1x4096x128_0_0_0)).reshape S4096x128 hn)
      { off := ![10, 0], size := ![256, 128], stride := ![16, 1], inb := inb_S4096x128_S256x128_10_0_s_16_1 } (h.unread X) = rowsFrom X 10 := by
  funext i
  refine (load_rows M h X hn _ i).trans (congrArg X (idx_eq3 rfl ?_ ?_))
  · show 10 + 16 * (i 0).val = 16 * (i 0).val + 10
    omega
  · show 0 + 1 * (i 1).val = (i 1).val
    omega

/-- A load of the rows from row 11 on. -/
theorem rows11 (M : Memref sig .tc .vmem S1x4096x128 .f32) (h : M.IsWhole) (X : Vec Ideal S1x4096x128 .f32) (hn) :
    View.readAt (Elt Ideal) ((M.view.slice (Rect.unit (s := S1x4096x128) ![0, 0, 0] ![1, 4096, 128] inb_S1x4096x128_S1x4096x128_0_0_0)).reshape S4096x128 hn)
      { off := ![11, 0], size := ![256, 128], stride := ![16, 1], inb := inb_S4096x128_S256x128_11_0_s_16_1 } (h.unread X) = rowsFrom X 11 := by
  funext i
  refine (load_rows M h X hn _ i).trans (congrArg X (idx_eq3 rfl ?_ ?_))
  · show 11 + 16 * (i 0).val = 16 * (i 0).val + 11
    omega
  · show 0 + 1 * (i 1).val = (i 1).val
    omega

/-- A load of the rows from row 12 on. -/
theorem rows12 (M : Memref sig .tc .vmem S1x4096x128 .f32) (h : M.IsWhole) (X : Vec Ideal S1x4096x128 .f32) (hn) :
    View.readAt (Elt Ideal) ((M.view.slice (Rect.unit (s := S1x4096x128) ![0, 0, 0] ![1, 4096, 128] inb_S1x4096x128_S1x4096x128_0_0_0)).reshape S4096x128 hn)
      { off := ![12, 0], size := ![256, 128], stride := ![16, 1], inb := inb_S4096x128_S256x128_12_0_s_16_1 } (h.unread X) = rowsFrom X 12 := by
  funext i
  refine (load_rows M h X hn _ i).trans (congrArg X (idx_eq3 rfl ?_ ?_))
  · show 12 + 16 * (i 0).val = 16 * (i 0).val + 12
    omega
  · show 0 + 1 * (i 1).val = (i 1).val
    omega

/-- A load of the rows from row 13 on. -/
theorem rows13 (M : Memref sig .tc .vmem S1x4096x128 .f32) (h : M.IsWhole) (X : Vec Ideal S1x4096x128 .f32) (hn) :
    View.readAt (Elt Ideal) ((M.view.slice (Rect.unit (s := S1x4096x128) ![0, 0, 0] ![1, 4096, 128] inb_S1x4096x128_S1x4096x128_0_0_0)).reshape S4096x128 hn)
      { off := ![13, 0], size := ![256, 128], stride := ![16, 1], inb := inb_S4096x128_S256x128_13_0_s_16_1 } (h.unread X) = rowsFrom X 13 := by
  funext i
  refine (load_rows M h X hn _ i).trans (congrArg X (idx_eq3 rfl ?_ ?_))
  · show 13 + 16 * (i 0).val = 16 * (i 0).val + 13
    omega
  · show 0 + 1 * (i 1).val = (i 1).val
    omega

/-- A load of the rows from row 14 on. -/
theorem rows14 (M : Memref sig .tc .vmem S1x4096x128 .f32) (h : M.IsWhole) (X : Vec Ideal S1x4096x128 .f32) (hn) :
    View.readAt (Elt Ideal) ((M.view.slice (Rect.unit (s := S1x4096x128) ![0, 0, 0] ![1, 4096, 128] inb_S1x4096x128_S1x4096x128_0_0_0)).reshape S4096x128 hn)
      { off := ![14, 0], size := ![256, 128], stride := ![16, 1], inb := inb_S4096x128_S256x128_14_0_s_16_1 } (h.unread X) = rowsFrom X 14 := by
  funext i
  refine (load_rows M h X hn _ i).trans (congrArg X (idx_eq3 rfl ?_ ?_))
  · show 14 + 16 * (i 0).val = 16 * (i 0).val + 14
    omega
  · show 0 + 1 * (i 1).val = (i 1).val
    omega

/-- A load of the rows from row 15 on. -/
theorem rows15 (M : Memref sig .tc .vmem S1x4096x128 .f32) (h : M.IsWhole) (X : Vec Ideal S1x4096x128 .f32) (hn) :
    View.readAt (Elt Ideal) ((M.view.slice (Rect.unit (s := S1x4096x128) ![0, 0, 0] ![1, 4096, 128] inb_S1x4096x128_S1x4096x128_0_0_0)).reshape S4096x128 hn)
      { off := ![15, 0], size := ![256, 128], stride := ![16, 1], inb := inb_S4096x128_S256x128_15_0_s_16_1 } (h.unread X) = rowsFrom X 15 := by
  funext i
  refine (load_rows M h X hn _ i).trans (congrArg X (idx_eq3 rfl ?_ ?_))
  · show 15 + 16 * (i 0).val = 16 * (i 0).val + 15
    omega
  · show 0 + 1 * (i 1).val = (i 1).val
    omega

/-- A load of step 0 of the weight. -/
theorem step0 (M : Memref sig .tc .vmem S1x8x256x512 .bf16) (h : M.IsWhole) (X : Vec Ideal S1x8x256x512 .bf16) (hn) :
    View.ld (View.read (Elt Ideal) ((M.view.slice (Rect.unit (s := S1x8x256x512) ![0, 0, 0, 0] ![1, 8, 256, 512] inb_S1x8x256x512_S1x8x256x512_0_0_0_0)).reshape S8x256x512 hn)
      (h.unread X)) (Rect.unit ![0, 0, 0] ![1, 256, 512] inb_S8x256x512_S1x256x512_0_0_0) = stepOf X 0 := by
  funext i
  have h0 : (i 0).val < 1 := (i 0).isLt
  refine (load_step M h X hn _ i).trans (congrArg X (idx_eq4 rfl ?_ ?_ ?_))
  · show 0 + 1 * (i 0).val = 0
    omega
  · show 0 + 1 * (i 1).val = (i 1).val
    omega
  · show 0 + 1 * (i 2).val = (i 2).val
    omega

/-- A load of step 1 of the weight. -/
theorem step1 (M : Memref sig .tc .vmem S1x8x256x512 .bf16) (h : M.IsWhole) (X : Vec Ideal S1x8x256x512 .bf16) (hn) :
    View.ld (View.read (Elt Ideal) ((M.view.slice (Rect.unit (s := S1x8x256x512) ![0, 0, 0, 0] ![1, 8, 256, 512] inb_S1x8x256x512_S1x8x256x512_0_0_0_0)).reshape S8x256x512 hn)
      (h.unread X)) (Rect.unit ![1, 0, 0] ![1, 256, 512] inb_S8x256x512_S1x256x512_1_0_0) = stepOf X 1 := by
  funext i
  have h0 : (i 0).val < 1 := (i 0).isLt
  refine (load_step M h X hn _ i).trans (congrArg X (idx_eq4 rfl ?_ ?_ ?_))
  · show 1 + 1 * (i 0).val = 1
    omega
  · show 0 + 1 * (i 1).val = (i 1).val
    omega
  · show 0 + 1 * (i 2).val = (i 2).val
    omega

/-- A load of step 2 of the weight. -/
theorem step2 (M : Memref sig .tc .vmem S1x8x256x512 .bf16) (h : M.IsWhole) (X : Vec Ideal S1x8x256x512 .bf16) (hn) :
    View.ld (View.read (Elt Ideal) ((M.view.slice (Rect.unit (s := S1x8x256x512) ![0, 0, 0, 0] ![1, 8, 256, 512] inb_S1x8x256x512_S1x8x256x512_0_0_0_0)).reshape S8x256x512 hn)
      (h.unread X)) (Rect.unit ![2, 0, 0] ![1, 256, 512] inb_S8x256x512_S1x256x512_2_0_0) = stepOf X 2 := by
  funext i
  have h0 : (i 0).val < 1 := (i 0).isLt
  refine (load_step M h X hn _ i).trans (congrArg X (idx_eq4 rfl ?_ ?_ ?_))
  · show 2 + 1 * (i 0).val = 2
    omega
  · show 0 + 1 * (i 1).val = (i 1).val
    omega
  · show 0 + 1 * (i 2).val = (i 2).val
    omega

/-- A load of step 3 of the weight. -/
theorem step3 (M : Memref sig .tc .vmem S1x8x256x512 .bf16) (h : M.IsWhole) (X : Vec Ideal S1x8x256x512 .bf16) (hn) :
    View.ld (View.read (Elt Ideal) ((M.view.slice (Rect.unit (s := S1x8x256x512) ![0, 0, 0, 0] ![1, 8, 256, 512] inb_S1x8x256x512_S1x8x256x512_0_0_0_0)).reshape S8x256x512 hn)
      (h.unread X)) (Rect.unit ![3, 0, 0] ![1, 256, 512] inb_S8x256x512_S1x256x512_3_0_0) = stepOf X 3 := by
  funext i
  have h0 : (i 0).val < 1 := (i 0).isLt
  refine (load_step M h X hn _ i).trans (congrArg X (idx_eq4 rfl ?_ ?_ ?_))
  · show 3 + 1 * (i 0).val = 3
    omega
  · show 0 + 1 * (i 1).val = (i 1).val
    omega
  · show 0 + 1 * (i 2).val = (i 2).val
    omega

/-- A load of step 4 of the weight. -/
theorem step4 (M : Memref sig .tc .vmem S1x8x256x512 .bf16) (h : M.IsWhole) (X : Vec Ideal S1x8x256x512 .bf16) (hn) :
    View.ld (View.read (Elt Ideal) ((M.view.slice (Rect.unit (s := S1x8x256x512) ![0, 0, 0, 0] ![1, 8, 256, 512] inb_S1x8x256x512_S1x8x256x512_0_0_0_0)).reshape S8x256x512 hn)
      (h.unread X)) (Rect.unit ![4, 0, 0] ![1, 256, 512] inb_S8x256x512_S1x256x512_4_0_0) = stepOf X 4 := by
  funext i
  have h0 : (i 0).val < 1 := (i 0).isLt
  refine (load_step M h X hn _ i).trans (congrArg X (idx_eq4 rfl ?_ ?_ ?_))
  · show 4 + 1 * (i 0).val = 4
    omega
  · show 0 + 1 * (i 1).val = (i 1).val
    omega
  · show 0 + 1 * (i 2).val = (i 2).val
    omega

/-- A load of step 5 of the weight. -/
theorem step5 (M : Memref sig .tc .vmem S1x8x256x512 .bf16) (h : M.IsWhole) (X : Vec Ideal S1x8x256x512 .bf16) (hn) :
    View.ld (View.read (Elt Ideal) ((M.view.slice (Rect.unit (s := S1x8x256x512) ![0, 0, 0, 0] ![1, 8, 256, 512] inb_S1x8x256x512_S1x8x256x512_0_0_0_0)).reshape S8x256x512 hn)
      (h.unread X)) (Rect.unit ![5, 0, 0] ![1, 256, 512] inb_S8x256x512_S1x256x512_5_0_0) = stepOf X 5 := by
  funext i
  have h0 : (i 0).val < 1 := (i 0).isLt
  refine (load_step M h X hn _ i).trans (congrArg X (idx_eq4 rfl ?_ ?_ ?_))
  · show 5 + 1 * (i 0).val = 5
    omega
  · show 0 + 1 * (i 1).val = (i 1).val
    omega
  · show 0 + 1 * (i 2).val = (i 2).val
    omega

/-- A load of step 6 of the weight. -/
theorem step6 (M : Memref sig .tc .vmem S1x8x256x512 .bf16) (h : M.IsWhole) (X : Vec Ideal S1x8x256x512 .bf16) (hn) :
    View.ld (View.read (Elt Ideal) ((M.view.slice (Rect.unit (s := S1x8x256x512) ![0, 0, 0, 0] ![1, 8, 256, 512] inb_S1x8x256x512_S1x8x256x512_0_0_0_0)).reshape S8x256x512 hn)
      (h.unread X)) (Rect.unit ![6, 0, 0] ![1, 256, 512] inb_S8x256x512_S1x256x512_6_0_0) = stepOf X 6 := by
  funext i
  have h0 : (i 0).val < 1 := (i 0).isLt
  refine (load_step M h X hn _ i).trans (congrArg X (idx_eq4 rfl ?_ ?_ ?_))
  · show 6 + 1 * (i 0).val = 6
    omega
  · show 0 + 1 * (i 1).val = (i 1).val
    omega
  · show 0 + 1 * (i 2).val = (i 2).val
    omega

/-- A load of step 7 of the weight. -/
theorem step7 (M : Memref sig .tc .vmem S1x8x256x512 .bf16) (h : M.IsWhole) (X : Vec Ideal S1x8x256x512 .bf16) (hn) :
    View.ld (View.read (Elt Ideal) ((M.view.slice (Rect.unit (s := S1x8x256x512) ![0, 0, 0, 0] ![1, 8, 256, 512] inb_S1x8x256x512_S1x8x256x512_0_0_0_0)).reshape S8x256x512 hn)
      (h.unread X)) (Rect.unit ![7, 0, 0] ![1, 256, 512] inb_S8x256x512_S1x256x512_7_0_0) = stepOf X 7 := by
  funext i
  have h0 : (i 0).val < 1 := (i 0).isLt
  refine (load_step M h X hn _ i).trans (congrArg X (idx_eq4 rfl ?_ ?_ ?_))
  · show 7 + 1 * (i 0).val = 7
    omega
  · show 0 + 1 * (i 1).val = (i 1).val
    omega
  · show 0 + 1 * (i 2).val = (i 2).val
    omega

/-- One step's product: two rows side by side times the step's weight. -/
def stepDot (x x' : Vec Ideal S256x128 .f32) (w : Vec Ideal S1x256x512 .bf16) (r : Fin 256) (c : Fin 512) : EReal :=
  ∑ l : Fin 256, (if h : l.val < 128 then x (ix2 r ⟨l.val, h⟩) else x' (ix2 r ⟨l.val - 128, by omega⟩)) * w (ix3 0 l c)

/-- The first step, at an index. -/
theorem pay3_at (x x' : Vec Ideal S256x128 .f32) (w : Vec Ideal S1x256x512 .bf16) (r : Fin 256) (c : Fin 512) :
    k0_pay3 x x' w (ix2 r c) = stepDot x x' w r c := by
  pointwise [k0_pay3, stepDot]

/-- The second and third steps, at an index. -/
theorem pay4_at (v : FVec Ideal S256x512 .f32) (x x' : Vec Ideal S256x128 .f32) (w : Vec Ideal S1x256x512 .bf16) (y y' : Vec Ideal S256x128 .f32)
    (u : Vec Ideal S1x256x512 .bf16) (r : Fin 256) (c : Fin 512) :
    k0_pay4 v x x' w y y' u (ix2 r c) = v (ix2 r c) + stepDot x x' w r c + stepDot y y' u r c := by
  pointwise [k0_pay4, stepDot]

/-- The fourth step, at an index. -/
theorem pay5_at (v : FVec Ideal S256x512 .f32) (x x' : Vec Ideal S256x128 .f32) (w : Vec Ideal S1x256x512 .bf16) (r : Fin 256) (c : Fin 512) :
    k0_pay5 v x x' w (ix2 r c) = v (ix2 r c) + stepDot x x' w r c := by
  pointwise [k0_pay5, stepDot]

/-- The fifth and sixth steps, at an index. -/
theorem pay8_at (v : FVec Ideal S256x512 .f32) (x x' : Vec Ideal S256x128 .f32) (w : Vec Ideal S1x256x512 .bf16) (y y' : Vec Ideal S256x128 .f32)
    (u : Vec Ideal S1x256x512 .bf16) (r : Fin 256) (c : Fin 512) :
    k0_pay8 v (k0_pay6 x x') (k0_pay7 w) y y' u (ix2 r c) = v (ix2 r c) + stepDot x x' w r c + stepDot y y' u r c := by
  pointwise [k0_pay8, k0_pay6, k0_pay7, stepDot]

/-- The last two steps, at an index. -/
theorem pay10_at (v : FVec Ideal S256x512 .f32) (x x' : Vec Ideal S256x128 .f32) (w : Vec Ideal S1x256x512 .bf16) (y y' : Vec Ideal S256x128 .f32)
    (u : Vec Ideal S1x256x512 .bf16) (r : Fin 256) (c : Fin 512) :
    k0_pay10 v (k0_pay9 x x') w y y' u (ix2 r c) = v (ix2 r c) + stepDot x x' w r c + stepDot y y' u r c := by
  pointwise [k0_pay10, k0_pay9, stepDot]

/-- The positions' term, at an index. -/
theorem pay1_at (p : Vec Ideal S1x8x2048 .bf16) (w : Vec Ideal S1x2048x128 .bf16) (k : Fin 128) :
    k0_pay1 p w (ix2 0 k) = ∑ x : Fin 2048, p (ix3 0 0 x) * w (ix3 0 x k) := by
  pointwise [k0_pay1]

/-- The next chunk, the last one's being the first. -/
def next (r : Fin 256) : Fin 256 := if h : r.val < 255 then ⟨r.val + 1, by omega⟩ else 0

/-- The hidden layer of the first group, at an index. -/
theorem pay11_at (q : FVec Ideal S1x128 .f32) (v : FVec Ideal S256x512 .f32) (z : FVec Ideal S256x256 .bf16) (w : Vec Ideal S1x256x512 .bf16)
    (y y' : Vec Ideal S256x128 .f32) (u : Vec Ideal S1x256x512 .bf16) (r : Fin 256) (k : Fin 128) :
    k0_pay11 q v z w y y' u (ix2 r k) = k0_pay10 v z w y y' u (ix2 r ⟨k.val, by omega⟩)
      + k0_pay10 v z w y y' u (ix2 (next r) ⟨128 + k.val, by omega⟩) + q (ix2 0 k) := by
  pointwise [k0_pay11]
  unfold next
  by_cases h : r.val < 255
  · rw [dif_pos h, dif_pos h]
    refine congrArg (fun j => k0_pay10 v z w y y' u (ix2 r ⟨k.val, by omega⟩) + k0_pay10 v z w y y' u j + q (ix2 0 k)) ?_
    blk_ext
  · rw [dif_neg h, dif_neg h]
    refine congrArg (fun j => k0_pay10 v z w y y' u (ix2 r ⟨k.val, by omega⟩) + k0_pay10 v z w y y' u j + q (ix2 0 k)) ?_
    blk_ext

/-- The choice the rotation makes, as the next chunk's entry. -/
theorem next_eq (a : FVec Ideal S256x512 .f32) (r : Fin 256) (c : Fin 512) :
    (if h : r.val < 255 then a (ix2 ⟨1 + r.val, by omega⟩ c) else a (ix2 ⟨r.val - 255, by omega⟩ c)) = a (ix2 (next r) c) := by
  unfold next
  by_cases h : r.val < 255
  · rw [dif_pos h, dif_pos h]
    refine congrArg a ?_
    blk_ext
  · rw [dif_neg h, dif_neg h]
    refine congrArg a ?_
    blk_ext

/-- The kernel's association of the cube. -/
theorem gel_eq (h : EReal) : h * (Ideal.ofBits .f32 0x3F000000#32 * (1
    + Ideal.tanh (Ideal.ofBits .f32 0x3F4C422A#32 * (h + Ideal.ofBits .f32 0x3D372713#32 * (h * (h * h)))))) = gel h := by
  pointwise [gel]
  rw [mul_comm h (h * h)]

/-- The first group's result at an index. -/
theorem pay13_at (U : Vec Ideal S1x128x64 .bf16) (q : FVec Ideal S1x128 .f32) (v : FVec Ideal S256x512 .f32) (z : FVec Ideal S256x256 .bf16)
    (w : Vec Ideal S1x256x512 .bf16) (y y' : Vec Ideal S256x128 .f32) (u : Vec Ideal S1x256x512 .bf16) (r : Fin 256) (d : Fin 64) :
    k0_pay13 (k0_pay2 U) (k0_pay11 q v z w y y' u) (k0_pay12 q v z w y y' u) (ix5 0 0 0 r d)
      = ∑ k : Fin 128, gel (k0_pay11 q v z w y y' u (ix2 r k)) * U (ix3 0 k d) := by
  pointwise [k0_pay13, k0_pay12, k0_pay2]
  refine Fin.sum_fin_congr fun k => ?_
  exact congrArg (· * U (ix3 0 k d)) (gel_eq _)

/-- The second group's result at an index. -/
theorem pay14_at (U : Vec Ideal S1x128x64 .bf16) (q : FVec Ideal S1x128 .f32) (a : FVec Ideal S256x512 .f32) (r : Fin 256) (d : Fin 64) :
    k0_pay14 q (k0_pay2 U) a (ix5 0 0 0 r d)
      = ∑ k : Fin 128, gel (a (ix2 r ⟨256 + k.val, by omega⟩) + a (ix2 (next r) ⟨384 + k.val, by omega⟩) + q (ix2 0 k)) * U (ix3 0 k d) := by
  pointwise [k0_pay14, k0_pay2]
  refine Fin.sum_fin_congr fun k => ?_
  refine (congrArg (· * U (ix3 0 k d)) (gel_eq _)).trans ?_
  exact congrArg (fun j => gel (a (ix2 r ⟨256 + k.val, by omega⟩) + j + q (ix2 0 k)) * U (ix3 0 k d)) (next_eq a r ⟨384 + k.val, by omega⟩)

/-- The two stores, read back. -/
theorem two_stores (A B : FVec Ideal S1x1x1x256x64 .bf16) (g : Fin 2) (r : Fin 256) (d : Fin 64) :
    View.canon (Val := Elt Ideal) (s := S1x1x2x256x64) (e := .bf16)
      [⟨Rect.unit ![0, 0, 1, 0, 0] ![1, 1, 1, 256, 64] inb_S1x1x2x256x64_S1x1x1x256x64_0_0_1_0_0, A⟩,
       ⟨Rect.unit ![0, 0, 0, 0, 0] ![1, 1, 1, 256, 64] inb_S1x1x2x256x64_S1x1x1x256x64_0_0_0_0_0, B⟩] (ix5 0 0 g r d)
      = if g.val = 0 then B (ix5 0 0 0 r d) else A (ix5 0 0 0 r d) := by
  by_cases h : g.val = 0
  · rw [if_pos h]
    refine (View.canon_cons_of_not_mem _ _ ?_).trans ?_
    · intro hm
      have h1 : (ix5 0 0 g r d : S1x1x2x256x64.Idx)
        ∈ (Rect.unit (s := S1x1x2x256x64) ![0, 0, 1, 0, 0] ![1, 1, 1, 256, 64] inb_S1x1x2x256x64_S1x1x1x256x64_0_0_1_0_0).set := hm
      rw [Rect.mem_set_unit] at h1
      have h2 := (h1 (2 : Fin 5)).1
      have h3 : 1 ≤ g.val := h2
      omega
    · have e : (ix5 0 0 g r d : S1x1x2x256x64.Idx)
          = (Rect.unit (s := S1x1x2x256x64) ![0, 0, 0, 0, 0] ![1, 1, 1, 256, 64] inb_S1x1x2x256x64_S1x1x1x256x64_0_0_0_0_0).emb (ix5 0 0 0 r d) := by
        funext a
        apply Fin.ext
        match a with
        | ⟨0, _⟩ => rfl
        | ⟨1, _⟩ => rfl
        | ⟨2, _⟩ => show g.val = 0 + 1 * 0; omega
        | ⟨3, _⟩ => show r.val = 0 + 1 * r.val; omega
        | ⟨4, _⟩ => show d.val = 0 + 1 * d.val; omega
      rw [e]
      exact View.canon_cons_emb _ _ _ _
  · rw [if_neg h]
    have e : (ix5 0 0 g r d : S1x1x2x256x64.Idx)
        = (Rect.unit (s := S1x1x2x256x64) ![0, 0, 1, 0, 0] ![1, 1, 1, 256, 64] inb_S1x1x2x256x64_S1x1x1x256x64_0_0_1_0_0).emb (ix5 0 0 0 r d) := by
      funext a
      apply Fin.ext
      match a with
      | ⟨0, _⟩ => rfl
      | ⟨1, _⟩ => rfl
      | ⟨2, _⟩ => show g.val = 1 + 1 * 0; omega
      | ⟨3, _⟩ => show r.val = 0 + 1 * r.val; omega
      | ⟨4, _⟩ => show d.val = 0 + 1 * d.val; omega
    rw [e]
    exact View.canon_cons_emb _ _ _ _

end Cert.Value11

end
-- ==== Proof.Value11W.lean ====
/- The weights that the host prepares for the compression: the first weight with the two groups of a pair side by side
   and zeros between them, the embedding repeated on eight rows, and the casts, each at an index. -/
module

public import proofs.«01_k».proof.Proof.Gen.Kernel11Ideal
public import proofs.«01_k».proof.Proof.Gen.Kernel11Ideal.Skeleton
public import proofs.«01_k».proof.Proof.Gen.Kernel11Ideal.Launch
public import proofs.«01_k».proof.Proof.Gen.Kernel11Ideal.Points
public import proofs.«01_k».proof.Proof.Gen.Kernel11Ideal.Frame
public import proofs.«01_k».proof.Proof.Gen.Reference11Ideal
public import proofs.«01_k».proof.Proof.Gen.Reference11Ideal.Run
public import Idealize.ShloMosaic.Lib.Pipeline.ValueKit
public import Idealize.ShloMosaic.Lib.Pointwise
public import Idealize.ShloMosaic.Lib.Claim
public import proofs.«01_k».proof.Defs

@[expose] public section

set_option maxRecDepth 16384

noncomputable section

open Idealize.ShloMosaic Idealize.ShloMosaic.TcCoe Idealize.SL.Sem
open Idealize.ShloMosaic.Pipeline (Dat)
open scoped BigOperators

namespace Cert.Value11

open Cert.Kernel11Ideal Cert.Kernel11Ideal.Gen

/-- The first weight with its two halves side by side: for every position of a chunk and every feature, 256 lanes. -/
def sideBySide (w : FVec Ideal S2x2048x128 .f32) : FVec Ideal S2x16x64x256 .f32 :=
  shapeCast S2x16x64x256 (transpose S2x16x64x2x128 [0, 2, 3, 1, 4] (shapeCast S2x2x16x64x128 w shapeCasts_S2x2048x128_S2x2x16x64x128)
    transposes_S2x2x16x64x128_S2x16x64x2x128_0_2_3_1_4) shapeCasts_S2x16x64x2x128_S2x16x64x256

/-- Two lane blocks side by side. -/
def lanes (a b : FVec Ideal S2x16x64x256 .f32) : FVec Ideal S2x16x64x512 .f32 :=
  concatenate S2x16x64x512 3 [⟨S2x16x64x256, a⟩, ⟨S2x16x64x256, b⟩] concatenates_S2x16x64x256_S2x16x64x256_S2x16x64x512_d3

/-- Two row blocks, one under the other. -/
def under (a b : FVec Ideal S2x16x64x512 .f32) : FVec Ideal S2x16x128x512 .f32 :=
  concatenate S2x16x128x512 2 [⟨S2x16x64x512, a⟩, ⟨S2x16x64x512, b⟩] concatenates_S2x16x64x512_S2x16x64x512_S2x16x128x512_d2

/-- Two positions to a row block, at half width. -/
def paired (a : FVec Ideal S2x16x128x512 .f32) : FVec Ideal S2x8x256x512 .bf16 :=
  truncf .bf16 (shapeCast S2x8x256x512 a shapeCasts_S2x16x128x512_S2x8x256x512) bitsLt_bf16_f32

/-- The array of zeros. -/
def zeros : FVec Ideal S2x16x64x256 .f32 := broadcastInDim S2x16x64x256 ![] bcast_S_S2x16x64x256 (constant S_ .f32 0x00000000#32)

/-- The weight the kernel works with: two groups at a time, zero where a group meets the other group's lanes. -/
def joint (w : FVec Ideal S2x2048x128 .f32) : FVec Ideal S2x8x256x512 .bf16 :=
  paired (under (lanes (sideBySide w) zeros) (lanes zeros (sideBySide w)))

/-- The two halves of the weight side by side, at an index. -/
theorem sideBySide_at (w : FVec Ideal S2x2048x128 .f32) (e : Fin 2) (q : Fin 16) (d : Fin 64) (c : Fin 256) :
    sideBySide w (ix4 e q d c) = w (ix3 e ⟨c.val / 128 * 1024 + q.val * 64 + d.val, by omega⟩ ⟨c.val % 128, by omega⟩) := by
  pointwise [sideBySide]
  try blk_ext

/-- The zeros, at an index. -/
theorem zeros_at (i : S2x16x64x256.Idx) : zeros i = (0 : EReal) := by
  pointwise [zeros]

/-- Two arrays along the lanes, at an index. -/
theorem lanes_at (a b : FVec Ideal S2x16x64x256 .f32) (e : Fin 2) (q : Fin 16) (d : Fin 64) (c : Fin 512) :
    lanes a b (ix4 e q d c) = if h : c.val < 256 then a (ix4 e q d ⟨c.val, h⟩) else b (ix4 e q d ⟨c.val - 256, by omega⟩) := by
  pointwise [lanes]

/-- Two arrays along the features, at an index. -/
theorem under_at (a b : FVec Ideal S2x16x64x512 .f32) (e : Fin 2) (q : Fin 16) (l : Fin 128) (c : Fin 512) :
    under a b (ix4 e q l c) = if h : l.val < 64 then a (ix4 e q ⟨l.val, h⟩ c) else b (ix4 e q ⟨l.val - 64, by omega⟩ c) := by
  pointwise [under]

/-- The positions in pairs, at an index. -/
theorem paired_at (a : FVec Ideal S2x16x128x512 .f32) (e : Fin 2) (s : Fin 8) (l : Fin 256) (c : Fin 512) :
    paired a (ix4 e s l c) = a (ix4 e ⟨2 * s.val + l.val / 128, by omega⟩ ⟨l.val % 128, by omega⟩ c) := by
  pointwise [paired]
  try blk_ext

/-- The kernel's weight at an index: zero off the group's own lanes. -/
theorem joint_at (w : FVec Ideal S2x2048x128 .f32) (e : Fin 2) (s : Fin 8) (l : Fin 256) (c : Fin 512) :
    joint w (ix4 e s l c) = if l.val % 128 / 64 = c.val / 256 then
      w (ix3 e ⟨c.val % 256 / 128 * 1024 + (2 * s.val + l.val / 128) * 64 + l.val % 64, by omega⟩ ⟨c.val % 128, by omega⟩) else 0 := by
  unfold joint
  rw [paired_at, under_at]
  by_cases h : l.val % 128 < 64 <;> by_cases h' : c.val < 256
  · rw [dif_pos h, lanes_at, dif_pos h', sideBySide_at, if_pos (by omega)]
    blk_ext
  · rw [dif_pos h, lanes_at, dif_neg h', zeros_at, if_neg (by omega)]
  · rw [dif_neg h, lanes_at, dif_pos h', zeros_at, if_neg (by omega)]
  · rw [dif_neg h, lanes_at, dif_neg h', sideBySide_at, if_pos (by omega)]
    blk_ext

/-- The positions' embedding as the kernel reads it: eight equal rows. -/
def posRows (p : FVec Ideal S2x32x64 .f32) : FVec Ideal S2x8x2048 .bf16 :=
  truncf .bf16 (broadcastInDim S2x8x2048 ![0, 1, 2] bcast_S2x1x2048_S2x8x2048_0_1_2
    (shapeCast S2x1x2048 p shapeCasts_S2x32x64_S2x1x2048)) bitsLt_bf16_f32

/-- The repeated embedding, at an index. -/
theorem posRows_at (p : FVec Ideal S2x32x64 .f32) (e : Fin 2) (r : Fin 8) (x : Fin 2048) :
    posRows p (ix3 e r x) = p (ix3 e ⟨x.val / 64, by omega⟩ ⟨x.val % 64, by omega⟩) := by
  pointwise [posRows]
  try blk_ext

variable (m : (ℓ : Loc nD τ sig) → Buf (Elt Ideal) ℓ)

/-- The region's second argument. -/
theorem V_joint (c : Dev nD) : V m c main_v10 = joint (m ((c : Thread nD τ).loc main_arg2)) := by
  entry_read; try rfl

/-- The region's third argument. -/
theorem V_pos (c : Dev nD) : V m c main_v11 = posRows (m ((c : Thread nD τ).loc main_arg1)) := by
  entry_read; try rfl

/-- The region's fourth argument. -/
theorem V_first (c : Dev nD) : V m c main_v12 = (truncf .bf16 (m ((c : Thread nD τ).loc main_arg2)) bitsLt_bf16_f32 : FVec Ideal S2x2048x128 .bf16) := by
  entry_read; try rfl

/-- The region's fifth argument. -/
theorem V_second (c : Dev nD) : V m c main_v13 = (truncf .bf16 (m ((c : Thread nD τ).loc main_arg3)) bitsLt_bf16_f32 : FVec Ideal S2x128x64 .bf16) := by
  entry_read; try rfl

end Cert.Value11

end
-- ==== Proof.Value11Sum.lean ====
/- The eight steps of the compression together: a group's columns of the sum are the products of its own features over
   the sixteen positions of a chunk, since the other group's features meet zeros. -/
module

public import proofs.«01_k».proof.Proof.Gen.Kernel11Ideal
public import proofs.«01_k».proof.Proof.Gen.Kernel11Ideal.Skeleton
public import proofs.«01_k».proof.Proof.Gen.Kernel11Ideal.Launch
public import proofs.«01_k».proof.Proof.Gen.Kernel11Ideal.Points
public import proofs.«01_k».proof.Proof.Gen.Kernel11Ideal.Frame
public import proofs.«01_k».proof.Proof.Gen.Reference11Ideal
public import proofs.«01_k».proof.Proof.Gen.Reference11Ideal.Run
public import Idealize.ShloMosaic.Lib.Pipeline.ValueKit
public import Idealize.ShloMosaic.Lib.Pointwise
public import Idealize.ShloMosaic.Lib.Claim
public import proofs.«01_k».proof.Proof.Value11Body
public import proofs.«01_k».proof.Proof.Value11W
public import proofs.«01_k».proof.Defs

@[expose] public section

set_option maxRecDepth 16384

noncomputable section

open Idealize.ShloMosaic Idealize.ShloMosaic.TcCoe Idealize.SL.Sem
open Idealize.ShloMosaic.Pipeline (Dat)
open scoped BigOperators

namespace Cert.Value11

open Cert.Kernel11Ideal Cert.Kernel11Ideal.Gen

/-- A sum over 256 lanes, by position of the pair, group of the pair and feature. -/
theorem sum_lanes (f : Fin 256 → EReal) : ∑ l, f l = ∑ p : Fin 2, ∑ g : Fin 2, ∑ d : Fin 64, f ⟨p.val * 128 + g.val * 64 + d.val, by omega⟩ := by
  have h := (Equiv.sum_comp (finProdFinEquiv (m := 4) (n := 64)) f).symm
  rw [Fintype.sum_prod_type, Fin.sum_univ_four] at h
  refine h.trans ?_
  rw [Fin.sum_univ_two, Fin.sum_univ_two, Fin.sum_univ_two, ← add_assoc]
  refine congrArg₂ (· + ·) (congrArg₂ (· + ·) (congrArg₂ (· + ·) ?_ ?_) ?_) ?_ <;>
    refine Fin.sum_fin_congr fun d => congrArg f (Fin.ext ?_)
  · show d.val + 64 * 0 = 0 * 128 + 0 * 64 + d.val
    omega
  · show d.val + 64 * 1 = 0 * 128 + 1 * 64 + d.val
    omega
  · show d.val + 64 * 2 = 1 * 128 + 0 * 64 + d.val
    omega
  · show d.val + 64 * 3 = 1 * 128 + 1 * 64 + d.val
    omega

/-- A sum over sixteen positions, two at a time. -/
theorem sum_pairs (f : Fin 16 → EReal) : ∑ s, f s = f 0 + f 1 + (f 2 + f 3) + (f 4 + f 5) + (f 6 + f 7) + (f 8 + f 9) + (f 10 + f 11)
    + (f 12 + f 13) + (f 14 + f 15) := by
  have h := (Equiv.sum_comp (finProdFinEquiv (m := 8) (n := 2)) f).symm
  rw [Fintype.sum_prod_type, Fin.sum_univ_eight] at h
  refine h.trans ?_
  simp only [Fin.sum_univ_two]
  rfl

/-- One position's share of a chunk's product with one half of the first weight: the features of one group. -/
def share (X : Vec Ideal S1x4096x128 .f32) (w : FVec Ideal S2x2048x128 .f32) (e g j : Fin 2) (r : Fin 256) (k : Fin 128) (s : Fin 16) : EReal :=
  ∑ d : Fin 64, w (ix3 e ⟨j.val * 1024 + s.val * 64 + d.val, by omega⟩ k) * X (ix3 0 ⟨16 * r.val + s.val, by omega⟩ ⟨g.val * 64 + d.val, by omega⟩)

/-- One step's product is the shares of its two positions: the other group meets zeros. -/
theorem stepDot_eq (X : Vec Ideal S1x4096x128 .f32) (W : Vec Ideal S1x8x256x512 .bf16) (w : FVec Ideal S2x2048x128 .f32) (e : Fin 2)
    (hW : ∀ s l c, W (ix4 0 s l c) = joint w (ix4 e s l c)) (s : Fin 8) (o o' : Fin 16) (ho : o.val = 2 * s.val) (ho' : o'.val = 2 * s.val + 1)
    (g j : Fin 2) (r : Fin 256) (k : Fin 128) :
    stepDot (rowsFrom X o) (rowsFrom X o') (stepOf W s) r ⟨g.val * 256 + j.val * 128 + k.val, by omega⟩
      = share X w e g j r k o + share X w e g j r k o' := by
  unfold stepDot
  rw [sum_lanes]
  have key : ∀ (p q : Fin 2), (∑ d : Fin 64, (if h : p.val * 128 + q.val * 64 + d.val < 128 then rowsFrom X o (ix2 r ⟨p.val * 128 + q.val * 64 + d.val, h⟩)
      else rowsFrom X o' (ix2 r ⟨p.val * 128 + q.val * 64 + d.val - 128, by omega⟩))
      * stepOf W s (ix3 0 ⟨p.val * 128 + q.val * 64 + d.val, by omega⟩ ⟨g.val * 256 + j.val * 128 + k.val, by omega⟩))
      = if q = g then share X w e g j r k (if p.val = 0 then o else o') else 0 := by
    intro p q
    by_cases hq : q = g
    · subst hq
      rw [if_pos rfl]
      unfold share
      refine Fin.sum_fin_congr fun d => ?_
      have hw : stepOf W s (ix3 0 ⟨p.val * 128 + q.val * 64 + d.val, by omega⟩ ⟨q.val * 256 + j.val * 128 + k.val, by omega⟩)
          = joint w (ix4 e s ⟨p.val * 128 + q.val * 64 + d.val, by omega⟩ ⟨q.val * 256 + j.val * 128 + k.val, by omega⟩) := hW _ _ _
      rw [hw, joint_at, if_pos (by show (p.val * 128 + q.val * 64 + d.val) % 128 / 64 = (q.val * 256 + j.val * 128 + k.val) / 256; omega), mul_comm]
      by_cases hp : p.val = 0
      · rw [dif_pos (by omega), if_pos hp]
        refine Ideal.mul_congr (congrArg w (idx_eq3 rfl ?_ ?_)) (congrArg X (idx_eq3 rfl ?_ ?_))
        · show (q.val * 256 + j.val * 128 + k.val) % 256 / 128 * 1024 + (2 * s.val + (p.val * 128 + q.val * 64 + d.val) / 128) * 64
            + (p.val * 128 + q.val * 64 + d.val) % 64 = j.val * 1024 + o.val * 64 + d.val
          omega
        · show (q.val * 256 + j.val * 128 + k.val) % 128 = k.val
          omega
        · rfl
        · show p.val * 128 + q.val * 64 + d.val = q.val * 64 + d.val
          omega
      · rw [dif_neg (by omega), if_neg hp]
        refine Ideal.mul_congr (congrArg w (idx_eq3 rfl ?_ ?_)) (congrArg X (idx_eq3 rfl ?_ ?_))
        · show (q.val * 256 + j.val * 128 + k.val) % 256 / 128 * 1024 + (2 * s.val + (p.val * 128 + q.val * 64 + d.val) / 128) * 64
            + (p.val * 128 + q.val * 64 + d.val) % 64 = j.val * 1024 + o'.val * 64 + d.val
          omega
        · show (q.val * 256 + j.val * 128 + k.val) % 128 = k.val
          omega
        · rfl
        · show p.val * 128 + q.val * 64 + d.val - 128 = q.val * 64 + d.val
          omega
    · rw [if_neg hq]
      refine Finset.sum_eq_zero fun d _ => ?_
      have hw : stepOf W s (ix3 0 ⟨p.val * 128 + q.val * 64 + d.val, by omega⟩ ⟨g.val * 256 + j.val * 128 + k.val, by omega⟩)
          = joint w (ix4 e s ⟨p.val * 128 + q.val * 64 + d.val, by omega⟩ ⟨g.val * 256 + j.val * 128 + k.val, by omega⟩) := hW _ _ _
      have hq' : q.val ≠ g.val := fun h => hq (Fin.ext h)
      rw [hw, joint_at, if_neg (by show ¬ (p.val * 128 + q.val * 64 + d.val) % 128 / 64 = (g.val * 256 + j.val * 128 + k.val) / 256; omega), mul_zero]
  simp only [key]
  simp only [Finset.sum_ite_eq', Finset.sum_ite_eq, Finset.mem_univ, if_true, Fin.sum_univ_two]
  rfl

/-- What the eight steps leave. -/
def accum (X : Vec Ideal S1x4096x128 .f32) (W : Vec Ideal S1x8x256x512 .bf16) : FVec Ideal S256x512 .f32 :=
  k0_pay10 (k0_pay8 (k0_pay5 (k0_pay4 (k0_pay3 (rowsFrom X 0) (rowsFrom X 1) (stepOf W 0)) (rowsFrom X 2) (rowsFrom X 3) (stepOf W 1)
    (rowsFrom X 4) (rowsFrom X 5) (stepOf W 2)) (rowsFrom X 6) (rowsFrom X 7) (stepOf W 3)) (k0_pay6 (rowsFrom X 8) (rowsFrom X 9))
    (k0_pay7 (stepOf W 4)) (rowsFrom X 10) (rowsFrom X 11) (stepOf W 5)) (k0_pay9 (rowsFrom X 12) (rowsFrom X 13)) (stepOf W 6)
    (rowsFrom X 14) (rowsFrom X 15) (stepOf W 7)

/-- What the eight steps leave, at an index. -/
theorem accum_at (X : Vec Ideal S1x4096x128 .f32) (W : Vec Ideal S1x8x256x512 .bf16) (w : FVec Ideal S2x2048x128 .f32) (e : Fin 2)
    (hW : ∀ s l c, W (ix4 0 s l c) = joint w (ix4 e s l c)) (g j : Fin 2) (r : Fin 256) (k : Fin 128) :
    accum X W (ix2 r ⟨g.val * 256 + j.val * 128 + k.val, by omega⟩) = ∑ s : Fin 16, share X w e g j r k s := by
  unfold accum
  rw [pay10_at, pay8_at, pay5_at, pay4_at, pay3_at, sum_pairs,
    stepDot_eq X W w e hW 0 0 1 rfl rfl, stepDot_eq X W w e hW 1 2 3 rfl rfl, stepDot_eq X W w e hW 2 4 5 rfl rfl,
    stepDot_eq X W w e hW 3 6 7 rfl rfl, stepDot_eq X W w e hW 4 8 9 rfl rfl, stepDot_eq X W w e hW 5 10 11 rfl rfl,
    stepDot_eq X W w e hW 6 12 13 rfl rfl, stepDot_eq X W w e hW 7 14 15 rfl rfl]

end Cert.Value11

end
-- ==== Proof.Value11Point.lean ====
/- One grid point of the compression: the blocks it reads and the two stores it leaves, as entries of one function of the
   arguments. -/
module

public import proofs.«01_k».proof.Proof.Gen.Kernel11Ideal
public import proofs.«01_k».proof.Proof.Gen.Kernel11Ideal.Skeleton
public import proofs.«01_k».proof.Proof.Gen.Kernel11Ideal.Launch
public import proofs.«01_k».proof.Proof.Gen.Kernel11Ideal.Points
public import proofs.«01_k».proof.Proof.Gen.Kernel11Ideal.Frame
public import proofs.«01_k».proof.Proof.Gen.Reference11Ideal
public import proofs.«01_k».proof.Proof.Gen.Reference11Ideal.Run
public import Idealize.ShloMosaic.Lib.Pipeline.ValueKit
public import Idealize.ShloMosaic.Lib.Pointwise
public import Idealize.ShloMosaic.Lib.Claim
public import proofs.«01_k».proof.Proof.Value11Sum
public import proofs.«01_k».proof.Defs

@[expose] public section

set_option maxRecDepth 16384

noncomputable section

open Idealize.ShloMosaic Idealize.ShloMosaic.TcCoe Idealize.SL.Sem
open Idealize.ShloMosaic.Pipeline (Dat)
open scoped BigOperators

namespace Cert.Value11

open Cert.Kernel11Ideal Cert.Kernel11Ideal.Gen

/-- A chunk's product with one half of the first weight, in the result's words. -/
def chunk (x : FVec Ideal S4x4096x1536 .f32) (w : FVec Ideal S2x2048x128 .f32) (e : Fin 2) (b g : Fin 4) (j : Fin 2) (r : Fin 256) (k : Fin 128) : EReal :=
  ∑ s : Fin 16, ∑ d : Fin 64, w (ix3 e ⟨j.val * 1024 + s.val * 64 + d.val, by omega⟩ k)
    * x (ix3 b ⟨16 * r.val + s.val, by omega⟩ ⟨e.val * 256 + g.val * 64 + d.val, by omega⟩)

/-- The positions' term. -/
def place (p : FVec Ideal S2x32x64 .f32) (w : FVec Ideal S2x2048x128 .f32) (e : Fin 2) (k : Fin 128) : EReal :=
  ∑ y : Fin 2048, p (ix3 e ⟨y.val / 64, by omega⟩ ⟨y.val % 64, by omega⟩) * w (ix3 e y k)

/-- One entry of the result; the last chunk's successor is the first. -/
def entry (x : FVec Ideal S4x4096x1536 .f32) (p : FVec Ideal S2x32x64 .f32) (w : FVec Ideal S2x2048x128 .f32) (u : FVec Ideal S2x128x64 .f32)
    (e : Fin 2) (b g : Fin 4) (r : Fin 256) (d : Fin 64) : EReal :=
  ∑ k : Fin 128, gel (chunk x w e b g 0 r k + chunk x w e b g 1 (next r) k + place p w e k) * u (ix3 e k d)

/-- The region's result, as an array. -/
def wide (x : FVec Ideal S4x4096x1536 .f32) (p : FVec Ideal S2x32x64 .f32) (w : FVec Ideal S2x2048x128 .f32) (u : FVec Ideal S2x128x64 .f32) :
    FVec Ideal S2x4x4x256x64 .bf16 := fun i => entry x p w u (i 0) (i 1) (i 2) (i 3) (i 4)

variable (m : (ℓ : Loc nD τ sig) → Buf (Elt Ideal) ℓ)

/-- The block of each window at each grid point. -/
theorem idx : ∀ t : Fin cfg0.N, win0_0.index t = ![(t.val / 2) % 4, 0, 2 * (t.val / 8) + t.val % 2]
    ∧ win0_1.index t = ![t.val / 8, 0, 0, 0]
    ∧ win0_2.index t = ![t.val / 8, 0, 0]
    ∧ win0_3.index t = ![t.val / 8, 0, 0]
    ∧ win0_4.index t = ![t.val / 8, 0, 0]
    ∧ win0_5.index t = ![t.val / 8, (t.val / 2) % 4, t.val % 2, 0, 0] :=
  (by decide +kernel : ∀ t : Fin grid0.N, _)

/-- The grid has sixteen points. -/
theorem t_lt (t : Fin cfg0.N) : t.val < 16 := lt_of_lt_of_eq t.isLt N_0

/-- The block of rows at an index. -/
theorem rows_at (c : Dev nD) (t : Fin cfg0.N) (r : Fin 4096) (l : Fin 128) : iblk m c 0 t (ix3 0 r l)
    = m ((c : Thread nD τ).loc main_arg0) (ix3 ⟨t.val / 2 % 4, by omega⟩ r ⟨(2 * (t.val / 8) + t.val % 2) * 128 + l.val, by have := t_lt t; omega⟩) := by
  refine Eq.trans ?_ (congrFun (V_main_arg0 m c) _)
  unfold iblk
  blk_simp [idx t]
  refine congrArg (V m c main_arg0) ?_
  blk_ext [idx t]

/-- The block of the joint weight at an index. -/
theorem joint_blk (c : Dev nD) (t : Fin cfg0.N) (s : Fin 8) (l : Fin 256) (k : Fin 512) : iblk m c 1 t (ix4 0 s l k)
    = joint (m ((c : Thread nD τ).loc main_arg2)) (ix4 ⟨t.val / 8, by have := t_lt t; omega⟩ s l k) := by
  refine Eq.trans ?_ (congrFun (V_joint m c) _)
  unfold iblk
  blk_simp [idx t]
  refine congrArg (V m c main_v10) ?_
  blk_ext [idx t]

/-- The block of the positions' embedding at an index. -/
theorem pos_blk (c : Dev nD) (t : Fin cfg0.N) (y : Fin 2048) : iblk m c 2 t (ix3 0 0 y)
    = m ((c : Thread nD τ).loc main_arg1) (ix3 ⟨t.val / 8, by have := t_lt t; omega⟩ ⟨y.val / 64, by omega⟩ ⟨y.val % 64, by omega⟩) := by
  refine Eq.trans ?_ ((congrFun (V_pos m c) _).trans (posRows_at _ ⟨t.val / 8, by have := t_lt t; omega⟩ 0 y))
  unfold iblk
  blk_simp [idx t]
  refine congrArg (V m c main_v11) ?_
  blk_ext [idx t]

/-- The block of the first weight at an index. -/
theorem first_blk (c : Dev nD) (t : Fin cfg0.N) (y : Fin 2048) (k : Fin 128) : iblk m c 3 t (ix3 0 y k)
    = m ((c : Thread nD τ).loc main_arg2) (ix3 ⟨t.val / 8, by have := t_lt t; omega⟩ y k) := by
  refine Eq.trans ?_ (congrFun (V_first m c) _)
  unfold iblk
  blk_simp [idx t]
  refine congrArg (V m c main_v12) ?_
  blk_ext [idx t]

/-- The block of the second weight at an index. -/
theorem second_blk (c : Dev nD) (t : Fin cfg0.N) (k : Fin 128) (d : Fin 64) : iblk m c 4 t (ix3 0 k d)
    = m ((c : Thread nD τ).loc main_arg3) (ix3 ⟨t.val / 8, by have := t_lt t; omega⟩ k d) := by
  refine Eq.trans ?_ (congrFun (V_second m c) _)
  unfold iblk
  blk_simp [idx t]
  refine congrArg (V m c main_v13) ?_
  blk_ext [idx t]

/-- A point's sum of shares is the chunk's product. -/
theorem shares (c : Dev nD) (t : Fin cfg0.N) (g j : Fin 2) (r : Fin 256) (k : Fin 128) (l : Fin 512)
    (hl : l.val = g.val * 256 + j.val * 128 + k.val) :
    accum (iblk m c 0 t) (iblk m c 1 t) (ix2 r l)
      = chunk (m ((c : Thread nD τ).loc main_arg0)) (m ((c : Thread nD τ).loc main_arg2)) ⟨t.val / 8, by have := t_lt t; omega⟩
          ⟨t.val / 2 % 4, by omega⟩ ⟨2 * (t.val % 2) + g.val, by omega⟩ j r k := by
  have el : l = ⟨g.val * 256 + j.val * 128 + k.val, by omega⟩ := Fin.ext hl
  refine (congrArg (fun q => accum (iblk m c 0 t) (iblk m c 1 t) (ix2 r q)) el).trans ?_
  refine (accum_at _ _ _ ⟨t.val / 8, by have := t_lt t; omega⟩ (joint_blk m c t) g j r k).trans ?_
  unfold chunk share
  refine Fin.sum_fin_congr fun s => Fin.sum_fin_congr fun d => ?_
  refine Ideal.mul_congr rfl ((rows_at m c t _ _).trans (congrArg _ (idx_eq3 rfl rfl ?_)))
  show (2 * (t.val / 8) + t.val % 2) * 128 + (g.val * 64 + d.val) = t.val / 8 * 256 + (2 * (t.val % 2) + g.val) * 64 + d.val
  omega

/-- A point's row of the positions' term. -/
theorem place_at (c : Dev nD) (t : Fin cfg0.N) (k : Fin 128) : k0_pay1 (iblk m c 2 t) (iblk m c 3 t) (ix2 0 k)
    = place (m ((c : Thread nD τ).loc main_arg1)) (m ((c : Thread nD τ).loc main_arg2)) ⟨t.val / 8, by have := t_lt t; omega⟩ k := by
  refine (pay1_at _ _ k).trans ?_
  unfold place
  refine Fin.sum_fin_congr fun y => ?_
  exact Ideal.mul_congr (pos_blk m c t y) (first_blk m c t y k)

/-- What a point leaves in the result's block. -/
theorem after_at (c : Dev nD) (t : Fin cfg0.N) (g : Fin 2) (r : Fin 256) (d : Fin 64) : (dats m 0 c).after 5 t (ix5 0 0 g r d)
    = entry (m ((c : Thread nD τ).loc main_arg0)) (m ((c : Thread nD τ).loc main_arg1)) (m ((c : Thread nD τ).loc main_arg2))
        (m ((c : Thread nD τ).loc main_arg3)) ⟨t.val / 8, by have := t_lt t; omega⟩ ⟨t.val / 2 % 4, by omega⟩
        ⟨2 * (t.val % 2) + g.val, by omega⟩ r d := by
  rw [after0_5]
  unfold outsAt0 out0_A_5
  frame_out
  simp only [rows0, rows1, rows2, rows3, rows4, rows5, rows6, rows7, rows8, rows9, rows10, rows11, rows12, rows13, rows14, rows15,
    step0, step1, step2, step3, step4, step5, step6, step7]
  refine (two_stores _ _ g r d).trans ?_
  unfold entry
  by_cases h : g.val = 0
  · rw [if_pos h, pay13_at]
    refine Fin.sum_fin_congr fun k => ?_
    refine Ideal.mul_congr (congrArg gel ?_) (second_blk m c t k d)
    rw [pay11_at]
    refine congrArg₂ (· + ·) (congrArg₂ (· + ·) ?_ ?_) (place_at m c t k)
    · refine shares m c t g 0 r k _ ?_
      show k.val = g.val * 256 + 0 * 128 + k.val
      omega
    · refine shares m c t g 1 (next r) k _ ?_
      show 128 + k.val = g.val * 256 + 1 * 128 + k.val
      omega
  · rw [if_neg h, pay14_at]
    refine Fin.sum_fin_congr fun k => ?_
    refine Ideal.mul_congr (congrArg gel ?_) (second_blk m c t k d)
    refine congrArg₂ (· + ·) (congrArg₂ (· + ·) ?_ ?_) (place_at m c t k)
    · refine shares m c t g 0 r k _ ?_
      show 256 + k.val = g.val * 256 + 0 * 128 + k.val
      omega
    · refine shares m c t g 1 (next r) k _ ?_
      show 384 + k.val = g.val * 256 + 1 * 128 + k.val
      omega

end Cert.Value11

end
-- ==== Proof.Value11.lean ====
/- The value of the compression of the sparse layer's rows (prompt): keys and values of every block of 32 rows. The
   kernel also makes a row for the last chunk, which wraps around to the first; the result leaves it out. -/
module

public import proofs.«01_k».proof.Proof.Gen.Kernel11Ideal
public import proofs.«01_k».proof.Proof.Gen.Kernel11Ideal.Skeleton
public import proofs.«01_k».proof.Proof.Gen.Kernel11Ideal.Launch
public import proofs.«01_k».proof.Proof.Gen.Kernel11Ideal.Points
public import proofs.«01_k».proof.Proof.Gen.Kernel11Ideal.Frame
public import proofs.«01_k».proof.Proof.Gen.Reference11Ideal
public import proofs.«01_k».proof.Proof.Gen.Reference11Ideal.Run
public import Idealize.ShloMosaic.Lib.Pipeline.ValueKit
public import Idealize.ShloMosaic.Lib.Pointwise
public import Idealize.ShloMosaic.Lib.Claim
public import proofs.«01_k».proof.Proof.Value11Point
public import proofs.«01_k».proof.Defs

@[expose] public section

set_option maxRecDepth 16384

noncomputable section

open Idealize.ShloMosaic Idealize.ShloMosaic.TcCoe Idealize.SL.Sem
open Idealize.ShloMosaic.Pipeline (Dat)
open scoped BigOperators

namespace Cert.Value11

open Cert.Kernel11Ideal Cert.Kernel11Ideal.Gen

variable (m : (ℓ : Loc nD τ sig) → Buf (Elt Ideal) ℓ)

/-- The region's result after the whole grid. -/
theorem final_5 (c : Dev nD) : (dats m 0 c).arrAt 5 (cfgs 0).N
    = wide (m ((c : Thread nD τ).loc main_arg0)) (m ((c : Thread nD τ).loc main_arg1)) (m ((c : Thread nD τ).loc main_arg2))
        (m ((c : Thread nD τ).loc main_arg3)) := by
  refine (dats m 0 c).arrAt_eq_of_covers 5 _ (by decide +kernel) fun t hf y => ?_
  have hy : y = ix5 (0 : Fin 1) (0 : Fin 1) (y 2) (y 3) (y 4) := by
    funext a
    match a with
    | 0 => exact Subsingleton.elim (α := Fin 1) _ _
    | 1 => exact Subsingleton.elim (α := Fin 1) _ _
    | 2 => rfl
    | 3 => rfl
    | 4 => rfl
  blk_simp
  refine (congrArg ((dats m 0 c).after 5 t) hy).trans ((after_at m c t (y 2) (y 3) (y 4)).trans ?_)
  refine congrArg (wide _ _ _ _) (a₁ := ix5 ⟨t.val / 8, by have := t_lt t; omega⟩ ⟨t.val / 2 % 4, by omega⟩
    ⟨2 * (t.val % 2) + (y 2).val, by have h : (y 2).val < 2 := (y 2).isLt; omega⟩ (y 3) (y 4)) ?_
  blk_ext [idx t]

/-- The program's result: the rows but the last of each group. -/
theorem tail_v15 (c : Dev nD) : Pipeline.afterTail₀ cfgs (dats m) 0 (V0 m) [hostOps1] c main_v15
    = extractStridedSlice S2x4x4x255x64 ![0, 0, 0, 0, 0]
        (wide (m ((c : Thread nD τ).loc main_arg0)) (m ((c : Thread nD τ).loc main_arg1)) (m ((c : Thread nD τ).loc main_arg2))
          (m ((c : Thread nD τ).loc main_arg3))) slices_S2x4x4x256x64_S2x4x4x255x64_0_0_0_0_0 := by
  rw [← final_5 m c]
  unfold Pipeline.afterTail₀
  simp only [List.flatten_cons, List.flatten_nil, List.append_nil]
  unfold hostOps1
  after_results
  rw [show Pipeline.withArrays (cfgs 0).spec c (V0 m c) (fun w => (dats m 0 c).arrAt w (cfgs 0).N)
    (Proc.tc.devRef main_v14) = (dats m 0 c).arrAt 5 (cfgs 0).N from
      Pipeline.withArrays_arr (cfgs 0).spec launch0.win.arr_inj c (V0 m c) _ 5]

/-- A row below the last is itself in the region's result. -/
theorem cut_at (x : FVec Ideal S4x4096x1536 .f32) (p : FVec Ideal S2x32x64 .f32) (w : FVec Ideal S2x2048x128 .f32) (u : FVec Ideal S2x128x64 .f32)
    (e : Fin 2) (b g : Fin 4) (n : Fin 255) (d : Fin 64) :
    extractStridedSlice S2x4x4x255x64 ![0, 0, 0, 0, 0] (wide x p w u) slices_S2x4x4x256x64_S2x4x4x255x64_0_0_0_0_0 (ix5 e b g n d)
      = entry x p w u e b g ⟨n.val, by omega⟩ d := by
  refine Eq.trans (b := wide x p w u (ix5 e b g ⟨n.val, by omega⟩ d)) ?_ rfl
  pointwise

/-- One half of the reference's result, from what its arguments are at an index. -/
theorem half_eq (a : FVec Ideal Cert.Reference11Ideal.S4x4096x4x64 .f32) (q : FVec Ideal Cert.Reference11Ideal.S32x64 .f32)
    (v : FVec Ideal Cert.Reference11Ideal.S2048x128 .f32) (z : FVec Ideal Cert.Reference11Ideal.S128x64 .f32)
    (x : FVec Ideal S4x4096x1536 .f32) (p : FVec Ideal S2x32x64 .f32) (w : FVec Ideal S2x2048x128 .f32) (u : FVec Ideal S2x128x64 .f32) (e : Fin 2)
    (ha : ∀ b t g d, a (ix4 b t g d) = x (ix3 b t ⟨e.val * 256 + g.val * 64 + d.val, by omega⟩))
    (hq : ∀ s d, q (ix2 s d) = p (ix3 e s d)) (hv : ∀ y k, v (ix2 y k) = w (ix3 e y k)) (hz : ∀ k d, z (ix2 k d) = u (ix3 e k d))
    (b g : Fin 4) (n : Fin 255) (d : Fin 64) :
    refHalf (refHid (refP q v) (refZ a v)) z (ix5 0 b g n d) = entry x p w u e b g ⟨n.val, by omega⟩ d := by
  rw [refHalf_at]
  unfold entry
  have hn : next ⟨n.val, by omega⟩ = ⟨n.val + 1, by omega⟩ := by
    unfold next
    rw [dif_pos (show n.val < 255 from n.isLt)]
  refine Fin.sum_fin_congr fun k => Ideal.mul_congr (congrArg gel ?_) (hz k d)
  rw [refHid_at, hn, refP_at, refZ_at, refZ_at, add_assoc, add_comm]
  refine congrArg₂ (· + ·) (congrArg₂ (· + ·) ?_ ?_) ?_
  · refine Finset.sum_comm.trans ?_
    unfold chunk
    refine Fin.sum_fin_congr fun s => Fin.sum_fin_congr fun f => Ideal.mul_congr (hv _ _) ((ha _ _ _ _).trans (congrArg x (idx_eq3 rfl ?_ rfl)))
    show n.val * 16 + s.val = 16 * n.val + s.val
    omega
  · refine Finset.sum_comm.trans ?_
    unfold chunk
    refine Fin.sum_fin_congr fun s => Fin.sum_fin_congr fun f => Ideal.mul_congr (hv _ _) ((ha _ _ _ _).trans (congrArg x (idx_eq3 rfl ?_ rfl)))
    show (n.val + 1) * 16 + s.val = 16 * (n.val + 1) + s.val
    omega
  · unfold place
    exact Fin.sum_fin_congr fun y => Ideal.mul_congr (hq _ _) (hv _ _)

/-- Kernel and reference end with equal results from equal arguments. -/
theorem algebraic : Cert.algebraic_Kernel11Ideal_Reference11Ideal := by
  pair_intro
  · run_from Cert.Kernel11Ideal.Gen.run_main m g
    · exact W_main_arg1 m (dats m) c
    · exact W_main_arg2 m (dats m) c
    · exact W_main_arg3 m (dats m) c
  · run_from Cert.Reference11Ideal.Value.run m' g'
    · refine (ref_eq m' c).trans (Eq.trans ?_ (tail_v15 m c).symm)
      funext i
      have hi : i = ix5 (i 0) (i 1) (i 2) (i 3) (i 4) := by
        funext a
        match a with
        | 0 => rfl
        | 1 => rfl
        | 2 => rfl
        | 3 => rfl
        | 4 => rfl
      generalize i 0 = e at hi
      generalize i 1 = b at hi
      generalize i 2 = g at hi
      generalize i 3 = n at hi
      generalize i 4 = d at hi
      subst hi
      refine Eq.trans ?_ (cut_at _ _ _ _ e b g n d).symm
      refine (refOut_at _ _ e b g n d).trans ?_
      by_cases h : e.val = 0
      · have he : e = (0 : Fin 2) := Fin.ext h
        subst he
        rw [if_pos h, (hagree c).1, (hagree c).2.1, (hagree c).2.2.1, (hagree c).2.2.2]
        exact half_eq _ _ _ _ _ _ _ _ 0 (value_0 _) (pos_0 _) (first_0 _) (second_0 _) b g n d
      · have he : e = (1 : Fin 2) := Fin.ext (by have h2 : e.val < 2 := e.isLt; show e.val = 1; omega)
        subst he
        rw [if_neg h, (hagree c).1, (hagree c).2.1, (hagree c).2.2.1, (hagree c).2.2.2]
        exact half_eq _ _ _ _ _ _ _ _ 1 (value_1 _) (pos_1 _) (first_1 _) (second_1 _) b g n d

end Cert.Value11

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_finite
public import proofs.«01_k».proof.Proof.Gen.ReferenceIdeal.Run
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Reference2Ideal.Run
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Reference3Ideal
public import proofs.«01_k».proof.Proof.Gen.Reference3Ideal.Run
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Reference4Ideal
public import proofs.«01_k».proof.Proof.Gen.Reference4Ideal.Run
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Reference5Ideal
public import proofs.«01_k».proof.Proof.Gen.Reference5Ideal.Run
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Reference6Ideal
public import proofs.«01_k».proof.Proof.Gen.Reference6Ideal.Run
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Reference7Ideal
public import proofs.«01_k».proof.Proof.Gen.Reference7Ideal.Run
public import proofs.«01_k».proof.Proof.Gen.Kernel8
public import proofs.«01_k».proof.Proof.Gen.Kernel8.Skeleton
public import proofs.«01_k».proof.Proof.Gen.Kernel8.Launch
public import proofs.«01_k».proof.Proof.Gen.Kernel8.Points
public import proofs.«01_k».proof.Proof.Gen.Kernel8.Frame
public import proofs.«01_k».proof.Proof.Gen.Kernel8Ideal
public import proofs.«01_k».proof.Proof.Gen.Kernel8Ideal.Skeleton
public import proofs.«01_k».proof.Proof.Gen.Kernel8Ideal.Launch
public import proofs.«01_k».proof.Proof.Gen.Kernel8Ideal.Points
public import proofs.«01_k».proof.Proof.Gen.Kernel8Ideal.Frame
public import proofs.«01_k».proof.Proof.Gen.Reference8Ideal
public import proofs.«01_k».proof.Proof.Gen.Reference8Ideal.Run
public import proofs.«01_k».proof.Proof.Gen.Kernel9
public import proofs.«01_k».proof.Proof.Gen.Kernel9.Skeleton
public import proofs.«01_k».proof.Proof.Gen.Kernel9.Launch
public import proofs.«01_k».proof.Proof.Gen.Kernel9.Points
public import proofs.«01_k».proof.Proof.Gen.Kernel9.Frame
public import proofs.«01_k».proof.Proof.Gen.Kernel9Ideal
public import proofs.«01_k».proof.Proof.Gen.Kernel9Ideal.Skeleton
public import proofs.«01_k».proof.Proof.Gen.Kernel9Ideal.Launch
public import proofs.«01_k».proof.Proof.Gen.Kernel9Ideal.Points
public import proofs.«01_k».proof.Proof.Gen.Kernel9Ideal.Frame
public import proofs.«01_k».proof.Proof.Gen.Reference9Ideal
public import proofs.«01_k».proof.Proof.Gen.Reference9Ideal.Run
public import proofs.«01_k».proof.Proof.Gen.Kernel10
public import proofs.«01_k».proof.Proof.Gen.Kernel10.Skeleton
public import proofs.«01_k».proof.Proof.Gen.Kernel10.Launch
public import proofs.«01_k».proof.Proof.Gen.Kernel10.Points
public import proofs.«01_k».proof.Proof.Gen.Kernel10.Frame
public import proofs.«01_k».proof.Proof.Gen.Kernel10Ideal
public import proofs.«01_k».proof.Proof.Gen.Kernel10Ideal.Skeleton
public import proofs.«01_k».proof.Proof.Gen.Kernel10Ideal.Launch
public import proofs.«01_k».proof.Proof.Gen.Kernel10Ideal.Points
public import proofs.«01_k».proof.Proof.Gen.Kernel10Ideal.Frame
public import proofs.«01_k».proof.Proof.Gen.Reference10Ideal
public import proofs.«01_k».proof.Proof.Gen.Reference10Ideal.Run
public import proofs.«01_k».proof.Proof.Gen.Kernel11
public import proofs.«01_k».proof.Proof.Gen.Kernel11.Skeleton
public import proofs.«01_k».proof.Proof.Gen.Kernel11.Launch
public import proofs.«01_k».proof.Proof.Gen.Kernel11.Points
public import proofs.«01_k».proof.Proof.Gen.Kernel11.Frame
public import proofs.«01_k».proof.Proof.Gen.Kernel11Ideal
public import proofs.«01_k».proof.Proof.Gen.Kernel11Ideal.Skeleton
public import proofs.«01_k».proof.Proof.Gen.Kernel11Ideal.Launch
public import proofs.«01_k».proof.Proof.Gen.Kernel11Ideal.Points
public import proofs.«01_k».proof.Proof.Gen.Kernel11Ideal.Frame
public import proofs.«01_k».proof.Proof.Gen.Reference11Ideal
public import proofs.«01_k».proof.Proof.Gen.Reference11Ideal.Run
public import proofs.«01_k».proof.Proof.Body
public import proofs.«01_k».proof.Proof.BodyIdeal
public import proofs.«01_k».proof.Proof.Value1
public import proofs.«01_k».proof.Proof.Value2
public import proofs.«01_k».proof.Proof.Value3
public import proofs.«01_k».proof.Proof.Value4
public import proofs.«01_k».proof.Proof.Value5
public import proofs.«01_k».proof.Proof.Value6
public import proofs.«01_k».proof.Proof.Value7
public import proofs.«01_k».proof.Proof.Value8
public import proofs.«01_k».proof.Proof.Value9
public import proofs.«01_k».proof.Proof.Value10
public import proofs.«01_k».proof.Proof.Value11
public import Idealize.ShloMosaic.Adequacy
public import Idealize.ShloMosaic.Init

@[expose] public section

noncomputable section

namespace Cert.Proof

open Idealize.ShloMosaic Idealize.SL.Sem Cert.Kernel

set_option maxHeartbeats 1600000 in
theorem claim : Cert.Claim := ⟨Cert.Kernel.Gen.facts, Cert.KernelIdeal.Gen.facts, Cert.ReferenceIdeal.Gen.facts, Cert.Kernel2.Gen.facts, Cert.Kernel2Ideal.Gen.facts, Cert.Reference2Ideal.Gen.facts, Cert.Kernel3.Gen.facts, Cert.Kernel3Ideal.Gen.facts, Cert.Reference3Ideal.Gen.facts, Cert.Kernel4.Gen.facts, Cert.Kernel4Ideal.Gen.facts, Cert.Reference4Ideal.Gen.facts, Cert.Kernel5.Gen.facts, Cert.Kernel5Ideal.Gen.facts, Cert.Reference5Ideal.Gen.facts, Cert.Kernel6.Gen.facts, Cert.Kernel6Ideal.Gen.facts, Cert.Reference6Ideal.Gen.facts, Cert.Kernel7.Gen.facts, Cert.Kernel7Ideal.Gen.facts, Cert.Reference7Ideal.Gen.facts, Cert.Kernel8.Gen.facts, Cert.Kernel8Ideal.Gen.facts, Cert.Reference8Ideal.Gen.facts, Cert.Kernel9.Gen.facts, Cert.Kernel9Ideal.Gen.facts, Cert.Reference9Ideal.Gen.facts, Cert.Kernel10.Gen.facts, Cert.Kernel10Ideal.Gen.facts, Cert.Reference10Ideal.Gen.facts, Cert.Kernel11.Gen.facts, Cert.Kernel11Ideal.Gen.facts, Cert.Reference11Ideal.Gen.facts, Cert.Pre_finite.Gen.facts, by
  refine ⟨fun m ρ _ => Cert.Kernel.Body.frame m ρ, fun m ρ _ => Cert.KernelIdeal.Body.frame m ρ,
    fun m ρ _ => Cert.KernelIdeal.Body.frame m ρ, ?_, ?_,
    fun m ρ _ => Cert.Kernel2.Gen.frame m ρ, fun m ρ _ => Cert.Kernel2Ideal.Gen.frame m ρ, ?_,
    fun m ρ _ => Cert.Kernel3.Gen.frame m ρ, fun m ρ _ => Cert.Kernel3Ideal.Gen.frame m ρ, ?_,
    fun m ρ _ => Cert.Kernel4.Gen.frame m ρ, fun m ρ _ => Cert.Kernel4Ideal.Gen.frame m ρ, ?_,
    fun m ρ _ => Cert.Kernel5.Gen.frame m ρ, fun m ρ _ => Cert.Kernel5Ideal.Gen.frame m ρ, ?_,
    fun m ρ _ => Cert.Kernel6.Gen.frame m ρ, fun m ρ _ => Cert.Kernel6Ideal.Gen.frame m ρ, ?_,
    fun m ρ _ => Cert.Kernel7.Gen.frame m ρ, fun m ρ _ => Cert.Kernel7Ideal.Gen.frame m ρ, ?_,
    fun m ρ _ => Cert.Kernel8.Gen.frame m ρ, fun m ρ _ => Cert.Kernel8Ideal.Gen.frame m ρ, ?_,
    fun m ρ _ => Cert.Kernel9.Gen.frame m ρ, fun m ρ _ => Cert.Kernel9Ideal.Gen.frame m ρ, ?_,
    fun m ρ _ => Cert.Kernel10.Gen.frame m ρ, fun m ρ _ => Cert.Kernel10Ideal.Gen.frame m ρ, ?_,
    fun m ρ _ => Cert.Kernel11.Gen.frame m ρ, fun m ρ _ => Cert.Kernel11Ideal.Gen.frame m ρ, ?_,
    ?_, ?_, trivial, Cert.Value2.algebraic, trivial, Cert.Value3.algebraic, trivial, Cert.Value4.algebraic,
    trivial, Cert.Value5.algebraic, trivial, Cert.Value6.algebraic, trivial, Cert.Value7.algebraic, trivial, Cert.Value8.algebraic, trivial, Cert.Value9.algebraic, trivial, Cert.Value10.algebraic, trivial, Cert.Value11.algebraic⟩
  · exact fun m ρ _ => (θ_run Cert.ReferenceIdeal.defs _ _).mono (fun r h => ⟨fun c => (h c).2,
      Idealize.ShloMosaic.sem_eq_zero_of_no_sems (by decide) r.2⟩) (Cert.ReferenceIdeal.Value.run (F := Ideal) m ρ)
  · exact fun m ρ _ => (θ_run Cert.ReferenceIdeal.defs _ _).mono (fun r h => ⟨fun c => (h c).2,
      Idealize.ShloMosaic.sem_eq_zero_of_no_sems (by decide) r.2⟩) (Cert.ReferenceIdeal.Value.run (F := Ideal) m ρ)
  · exact fun m ρ _ => (θ_run Cert.Reference2Ideal.defs _ _).mono (fun r h => ⟨fun c => (h c).2,
      Idealize.ShloMosaic.sem_eq_zero_of_no_sems (by decide) r.2⟩) (Cert.Reference2Ideal.Value.run (F := Ideal) m ρ)
  · exact fun m ρ _ => (θ_run Cert.Reference3Ideal.defs _ _).mono (fun r h => ⟨fun c => (h c).2,
      Idealize.ShloMosaic.sem_eq_zero_of_no_sems (by decide) r.2⟩) (Cert.Reference3Ideal.Value.run (F := Ideal) m ρ)
  · exact fun m ρ _ => (θ_run Cert.Reference4Ideal.defs _ _).mono (fun r h => ⟨fun c => (h c).2.2,
      Idealize.ShloMosaic.sem_eq_zero_of_no_sems (by decide) r.2⟩) (Cert.Reference4Ideal.Value.run (F := Ideal) m ρ)
  · exact fun m ρ _ => (θ_run Cert.Reference5Ideal.defs _ _).mono (fun r h => ⟨fun c => (h c).2.2,
      Idealize.ShloMosaic.sem_eq_zero_of_no_sems (by decide) r.2⟩) (Cert.Reference5Ideal.Value.run (F := Ideal) m ρ)
  · exact fun m ρ _ => (θ_run Cert.Reference6Ideal.defs _ _).mono (fun r h => ⟨fun c => (h c).2.2,
      Idealize.ShloMosaic.sem_eq_zero_of_no_sems (by decide) r.2⟩) (Cert.Reference6Ideal.Value.run (F := Ideal) m ρ)
  · exact fun m ρ _ => (θ_run Cert.Reference7Ideal.defs _ _).mono (fun r h => ⟨fun c => (h c).2,
      Idealize.ShloMosaic.sem_eq_zero_of_no_sems (by decide) r.2⟩) (Cert.Reference7Ideal.Value.run (F := Ideal) m ρ)
  · exact fun m ρ _ => (θ_run Cert.Reference8Ideal.defs _ _).mono (fun r h => ⟨fun c => (h c).2,
      Idealize.ShloMosaic.sem_eq_zero_of_no_sems (by decide) r.2⟩) (Cert.Reference8Ideal.Value.run (F := Ideal) m ρ)
  · exact fun m ρ _ => (θ_run Cert.Reference9Ideal.defs _ _).mono (fun r h => ⟨fun c => (h c).2,
      Idealize.ShloMosaic.sem_eq_zero_of_no_sems (by decide) r.2⟩) (Cert.Reference9Ideal.Value.run (F := Ideal) m ρ)
  · exact fun m ρ _ => (θ_run Cert.Reference10Ideal.defs _ _).mono (fun r h => ⟨fun c => (h c).2,
      Idealize.ShloMosaic.sem_eq_zero_of_no_sems (by decide) r.2⟩) (Cert.Reference10Ideal.Value.run (F := Ideal) m ρ)
  · exact fun m ρ _ => (θ_run Cert.Reference11Ideal.defs _ _).mono (fun r h => ⟨fun c => (h c).2,
      Idealize.ShloMosaic.sem_eq_zero_of_no_sems (by decide) r.2⟩) (Cert.Reference11Ideal.Value.run (F := Ideal) m ρ)
  · exact IdealRules.named_const.statement Cert.KernelIdeal.κ "mask" .f32 0xF149F2CA#32 ⊥ rfl
  · exact Cert.Value1.algebraic⟩

end Cert.Proof

end
